-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_FfnPle (m : (ℓ : Loc Cert.FfnPle.nD Cert.FfnPle.τ Cert.FfnPle.sig) → Buf (Elt Bits) ℓ) : Prop :=
  True

def Pre_FfnPleIdeal (m : (ℓ : Loc Cert.FfnPleIdeal.nD Cert.FfnPleIdeal.τ Cert.FfnPleIdeal.sig) → Buf (Elt Ideal) ℓ) : Prop :=
  True

def Pre_FfnPleRefIdeal (m : (ℓ : Loc Cert.FfnPleRefIdeal.nD Cert.FfnPleRefIdeal.τ Cert.FfnPleRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnPle [hFfnPle : Cert.FfnPle.Facts] : Prop :=
  ∀ (m : (ℓ : Loc Cert.FfnPle.nD Cert.FfnPle.τ Cert.FfnPle.sig) → Buf (Elt Bits) ℓ) (g : Dev Cert.FfnPle.nD → PrngReg), Pre_FfnPle m →
    θ_run (Cert.FfnPle.defs (F := Bits)) (onTc (τ := Cert.FfnPle.τ) (Cert.FfnPle.main (F := Bits))) ⟨m, fun _ => 0, g⟩ (fun r => (∀ c : Dev Cert.FfnPle.nD,
      r.2.mem ((c.tc : Thread Cert.FfnPle.nD Cert.FfnPle.τ).loc Cert.FfnPle.main_arg0) = m ((c.tc : Thread Cert.FfnPle.nD Cert.FfnPle.τ).loc Cert.FfnPle.main_arg0)
      ∧ r.2.mem ((c.tc : Thread Cert.FfnPle.nD Cert.FfnPle.τ).loc Cert.FfnPle.main_arg1) = m ((c.tc : Thread Cert.FfnPle.nD Cert.FfnPle.τ).loc Cert.FfnPle.main_arg1)
      ∧ r.2.mem ((c.tc : Thread Cert.FfnPle.nD Cert.FfnPle.τ).loc Cert.FfnPle.main_arg2) = m ((c.tc : Thread Cert.FfnPle.nD Cert.FfnPle.τ).loc Cert.FfnPle.main_arg2)
      ∧ r.2.mem ((c.tc : Thread Cert.FfnPle.nD Cert.FfnPle.τ).loc Cert.FfnPle.main_arg3) = m ((c.tc : Thread Cert.FfnPle.nD Cert.FfnPle.τ).loc Cert.FfnPle.main_arg3)
      ∧ r.2.mem ((c.tc : Thread Cert.FfnPle.nD Cert.FfnPle.τ).loc Cert.FfnPle.main_arg4) = m ((c.tc : Thread Cert.FfnPle.nD Cert.FfnPle.τ).loc Cert.FfnPle.main_arg4)
      ∧ r.2.mem ((c.tc : Thread Cert.FfnPle.nD Cert.FfnPle.τ).loc Cert.FfnPle.main_arg5) = m ((c.tc : Thread Cert.FfnPle.nD Cert.FfnPle.τ).loc Cert.FfnPle.main_arg5)
      ∧ r.2.mem ((c.tc : Thread Cert.FfnPle.nD Cert.FfnPle.τ).loc Cert.FfnPle.main_arg6) = m ((c.tc : Thread Cert.FfnPle.nD Cert.FfnPle.τ).loc Cert.FfnPle.main_arg6)
      ∧ r.2.mem ((c.tc : Thread Cert.FfnPle.nD Cert.FfnPle.τ).loc Cert.FfnPle.main_arg7) = m ((c.tc : Thread Cert.FfnPle.nD Cert.FfnPle.τ).loc Cert.FfnPle.main_arg7))
      ∧ r.2.sem = fun _ => 0)

def quiescent_FfnPleIdeal [hFfnPleIdeal : Cert.FfnPleIdeal.Facts] : Prop :=
  ∀ (m : (ℓ : Loc Cert.FfnPleIdeal.nD Cert.FfnPleIdeal.τ Cert.FfnPleIdeal.sig) → Buf (Elt Ideal) ℓ) (g : Dev Cert.FfnPleIdeal.nD → PrngReg), Pre_FfnPleIdeal m →
    θ_run (Cert.FfnPleIdeal.defs (F := Ideal)) (onTc (τ := Cert.FfnPleIdeal.τ) (Cert.FfnPleIdeal.main (F := Ideal))) ⟨m, fun _ => 0, g⟩ (fun r => (∀ c : Dev Cert.FfnPleIdeal.nD,
      r.2.mem ((c.tc : Thread Cert.FfnPleIdeal.nD Cert.FfnPleIdeal.τ).loc Cert.FfnPleIdeal.main_arg0) = m ((c.tc : Thread Cert.FfnPleIdeal.nD Cert.FfnPleIdeal.τ).loc Cert.FfnPleIdeal.main_arg0)
      ∧ r.2.mem ((c.tc : Thread Cert.FfnPleIdeal.nD Cert.FfnPleIdeal.τ).loc Cert.FfnPleIdeal.main_arg1) = m ((c.tc : Thread Cert.FfnPleIdeal.nD Cert.FfnPleIdeal.τ).loc Cert.FfnPleIdeal.main_arg1)
      ∧ r.2.mem ((c.tc : Thread Cert.FfnPleIdeal.nD Cert.FfnPleIdeal.τ).loc Cert.FfnPleIdeal.main_arg2) = m ((c.tc : Thread Cert.FfnPleIdeal.nD Cert.FfnPleIdeal.τ).loc Cert.FfnPleIdeal.main_arg2)
      ∧ r.2.mem ((c.tc : Thread Cert.FfnPleIdeal.nD Cert.FfnPleIdeal.τ).loc Cert.FfnPleIdeal.main_arg3) = m ((c.tc : Thread Cert.FfnPleIdeal.nD Cert.FfnPleIdeal.τ).loc Cert.FfnPleIdeal.main_arg3)
      ∧ r.2.mem ((c.tc : Thread Cert.FfnPleIdeal.nD Cert.FfnPleIdeal.τ).loc Cert.FfnPleIdeal.main_arg4) = m ((c.tc : Thread Cert.FfnPleIdeal.nD Cert.FfnPleIdeal.τ).loc Cert.FfnPleIdeal.main_arg4)
      ∧ r.2.mem ((c.tc : Thread Cert.FfnPleIdeal.nD Cert.FfnPleIdeal.τ).loc Cert.FfnPleIdeal.main_arg5) = m ((c.tc : Thread Cert.FfnPleIdeal.nD Cert.FfnPleIdeal.τ).loc Cert.FfnPleIdeal.main_arg5)
      ∧ r.2.mem ((c.tc : Thread Cert.FfnPleIdeal.nD Cert.FfnPleIdeal.τ).loc Cert.FfnPleIdeal.main_arg6) = m ((c.tc : Thread Cert.FfnPleIdeal.nD Cert.FfnPleIdeal.τ).loc Cert.FfnPleIdeal.main_arg6)
      ∧ r.2.mem ((c.tc : Thread Cert.FfnPleIdeal.nD Cert.FfnPleIdeal.τ).loc Cert.FfnPleIdeal.main_arg7) = m ((c.tc : Thread Cert.FfnPleIdeal.nD Cert.FfnPleIdeal.τ).loc Cert.FfnPleIdeal.main_arg7))
      ∧ r.2.sem = fun _ => 0)

def quiescent_FfnPleRefIdeal [hFfnPleRefIdeal : Cert.FfnPleRefIdeal.Facts] : Prop :=
  ∀ (m : (ℓ : Loc Cert.FfnPleRefIdeal.nD Cert.FfnPleRefIdeal.τ Cert.FfnPleRefIdeal.sig) → Buf (Elt Ideal) ℓ) (g : Dev Cert.FfnPleRefIdeal.nD → PrngReg), Pre_FfnPleRefIdeal m →
    θ_run (Cert.FfnPleRefIdeal.defs (F := Ideal)) (onTc (τ := Cert.FfnPleRefIdeal.τ) (Cert.FfnPleRefIdeal.main (F := Ideal))) ⟨m, fun _ => 0, g⟩ (fun r => (∀ c : Dev Cert.FfnPleRefIdeal.nD,
      r.2.mem ((c.tc : Thread Cert.FfnPleRefIdeal.nD Cert.FfnPleRefIdeal.τ).loc Cert.FfnPleRefIdeal.main_arg0) = m ((c.tc : Thread Cert.FfnPleRefIdeal.nD Cert.FfnPleRefIdeal.τ).loc Cert.FfnPleRefIdeal.main_arg0)
      ∧ r.2.mem ((c.tc : Thread Cert.FfnPleRefIdeal.nD Cert.FfnPleRefIdeal.τ).loc Cert.FfnPleRefIdeal.main_arg1) = m ((c.tc : Thread Cert.FfnPleRefIdeal.nD Cert.FfnPleRefIdeal.τ).loc Cert.FfnPleRefIdeal.main_arg1)
      ∧ r.2.mem ((c.tc : Thread Cert.FfnPleRefIdeal.nD Cert.FfnPleRefIdeal.τ).loc Cert.FfnPleRefIdeal.main_arg2) = m ((c.tc : Thread Cert.FfnPleRefIdeal.nD Cert.FfnPleRefIdeal.τ).loc Cert.FfnPleRefIdeal.main_arg2)
      ∧ r.2.mem ((c.tc : Thread Cert.FfnPleRefIdeal.nD Cert.FfnPleRefIdeal.τ).loc Cert.FfnPleRefIdeal.main_arg3) = m ((c.tc : Thread Cert.FfnPleRefIdeal.nD Cert.FfnPleRefIdeal.τ).loc Cert.FfnPleRefIdeal.main_arg3)
      ∧ r.2.mem ((c.tc : Thread Cert.FfnPleRefIdeal.nD Cert.FfnPleRefIdeal.τ).loc Cert.FfnPleRefIdeal.main_arg4) = m ((c.tc : Thread Cert.FfnPleRefIdeal.nD Cert.FfnPleRefIdeal.τ).loc Cert.FfnPleRefIdeal.main_arg4)
      ∧ r.2.mem ((c.tc : Thread Cert.FfnPleRefIdeal.nD Cert.FfnPleRefIdeal.τ).loc Cert.FfnPleRefIdeal.main_arg5) = m ((c.tc : Thread Cert.FfnPleRefIdeal.nD Cert.FfnPleRefIdeal.τ).loc Cert.FfnPleRefIdeal.main_arg5)
      ∧ r.2.mem ((c.tc : Thread Cert.FfnPleRefIdeal.nD Cert.FfnPleRefIdeal.τ).loc Cert.FfnPleRefIdeal.main_arg6) = m ((c.tc : Thread Cert.FfnPleRefIdeal.nD Cert.FfnPleRefIdeal.τ).loc Cert.FfnPleRefIdeal.main_arg6)
      ∧ r.2.mem ((c.tc : Thread Cert.FfnPleRefIdeal.nD Cert.FfnPleRefIdeal.τ).loc Cert.FfnPleRefIdeal.main_arg7) = m ((c.tc : Thread Cert.FfnPleRefIdeal.nD Cert.FfnPleRefIdeal.τ).loc Cert.FfnPleRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16)
      ∧ r.2.mem ((c.tc : Thread Cert.Mix.nD Cert.Mix.τ).loc Cert.Mix.main_arg17) = m ((c.tc : Thread Cert.Mix.nD Cert.Mix.τ).loc Cert.Mix.main_arg17)
      ∧ r.2.mem ((c.tc : Thread Cert.Mix.nD Cert.Mix.τ).loc Cert.Mix.main_arg18) = m ((c.tc : Thread Cert.Mix.nD Cert.Mix.τ).loc Cert.Mix.main_arg18)
      ∧ r.2.mem ((c.tc : Thread Cert.Mix.nD Cert.Mix.τ).loc Cert.Mix.main_arg19) = m ((c.tc : Thread Cert.Mix.nD Cert.Mix.τ).loc Cert.Mix.main_arg19)
      ∧ r.2.mem ((c.tc : Thread Cert.Mix.nD Cert.Mix.τ).loc Cert.Mix.main_arg20) = m ((c.tc : Thread Cert.Mix.nD Cert.Mix.τ).loc Cert.Mix.main_arg20)
      ∧ r.2.mem ((c.tc : Thread Cert.Mix.nD Cert.Mix.τ).loc Cert.Mix.main_arg21) = m ((c.tc : Thread Cert.Mix.nD Cert.Mix.τ).loc Cert.Mix.main_arg21)
      ∧ r.2.mem ((c.tc : Thread Cert.Mix.nD Cert.Mix.τ).loc Cert.Mix.main_arg22) = m ((c.tc : Thread Cert.Mix.nD Cert.Mix.τ).loc Cert.Mix.main_arg22))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
      ∧ r.2.mem ((c.tc : Thread Cert.MixIdeal.nD Cert.MixIdeal.τ).loc Cert.MixIdeal.main_arg18) = m ((c.tc : Thread Cert.MixIdeal.nD Cert.MixIdeal.τ).loc Cert.MixIdeal.main_arg18)
      ∧ r.2.mem ((c.tc : Thread Cert.MixIdeal.nD Cert.MixIdeal.τ).loc Cert.MixIdeal.main_arg19) = m ((c.tc : Thread Cert.MixIdeal.nD Cert.MixIdeal.τ).loc Cert.MixIdeal.main_arg19)
      ∧ r.2.mem ((c.tc : Thread Cert.MixIdeal.nD Cert.MixIdeal.τ).loc Cert.MixIdeal.main_arg20) = m ((c.tc : Thread Cert.MixIdeal.nD Cert.MixIdeal.τ).loc Cert.MixIdeal.main_arg20)
      ∧ r.2.mem ((c.tc : Thread Cert.MixIdeal.nD Cert.MixIdeal.τ).loc Cert.MixIdeal.main_arg21) = m ((c.tc : Thread Cert.MixIdeal.nD Cert.MixIdeal.τ).loc Cert.MixIdeal.main_arg21)
      ∧ r.2.mem ((c.tc : Thread Cert.MixIdeal.nD Cert.MixIdeal.τ).loc Cert.MixIdeal.main_arg22) = m ((c.tc : Thread Cert.MixIdeal.nD Cert.MixIdeal.τ).loc Cert.MixIdeal.main_arg22))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnPle_FfnPleIdeal : Prop :=
  True

def algebraic_FfnPleIdeal_FfnPleRefIdeal [hFfnPleIdeal : Cert.FfnPleIdeal.Facts] [hFfnPleRefIdeal : Cert.FfnPleRefIdeal.Facts] : Prop :=
  ∀ (m : (ℓ : Loc Cert.FfnPleIdeal.nD Cert.FfnPleIdeal.τ Cert.FfnPleIdeal.sig) → Buf (Elt Ideal) ℓ) (g : Dev Cert.FfnPleIdeal.nD → PrngReg)
    (m' : (ℓ : Loc Cert.FfnPleRefIdeal.nD Cert.FfnPleRefIdeal.τ Cert.FfnPleRefIdeal.sig) → Buf (Elt Ideal) ℓ) (g' : Dev Cert.FfnPleRefIdeal.nD → PrngReg), Pre_FfnPleIdeal m →
    (∀ c : Dev Cert.FfnPleIdeal.nD,
      m' ((c.tc : Thread Cert.FfnPleRefIdeal.nD Cert.FfnPleRefIdeal.τ).loc Cert.FfnPleRefIdeal.main_arg0) = m ((c.tc : Thread Cert.FfnPleIdeal.nD Cert.FfnPleIdeal.τ).loc Cert.FfnPleIdeal.main_arg0)
      ∧ m' ((c.tc : Thread Cert.FfnPleRefIdeal.nD Cert.FfnPleRefIdeal.τ).loc Cert.FfnPleRefIdeal.main_arg1) = m ((c.tc : Thread Cert.FfnPleIdeal.nD Cert.FfnPleIdeal.τ).loc Cert.FfnPleIdeal.main_arg1)
      ∧ m' ((c.tc : Thread Cert.FfnPleRefIdeal.nD Cert.FfnPleRefIdeal.τ).loc Cert.FfnPleRefIdeal.main_arg2) = m ((c.tc : Thread Cert.FfnPleIdeal.nD Cert.FfnPleIdeal.τ).loc Cert.FfnPleIdeal.main_arg2)
      ∧ m' ((c.tc : Thread Cert.FfnPleRefIdeal.nD Cert.FfnPleRefIdeal.τ).loc Cert.FfnPleRefIdeal.main_arg3) = m ((c.tc : Thread Cert.FfnPleIdeal.nD Cert.FfnPleIdeal.τ).loc Cert.FfnPleIdeal.main_arg3)
      ∧ m' ((c.tc : Thread Cert.FfnPleRefIdeal.nD Cert.FfnPleRefIdeal.τ).loc Cert.FfnPleRefIdeal.main_arg4) = m ((c.tc : Thread Cert.FfnPleIdeal.nD Cert.FfnPleIdeal.τ).loc Cert.FfnPleIdeal.main_arg4)
      ∧ m' ((c.tc : Thread Cert.FfnPleRefIdeal.nD Cert.FfnPleRefIdeal.τ).loc Cert.FfnPleRefIdeal.main_arg5) = m ((c.tc : Thread Cert.FfnPleIdeal.nD Cert.FfnPleIdeal.τ).loc Cert.FfnPleIdeal.main_arg5)
      ∧ m' ((c.tc : Thread Cert.FfnPleRefIdeal.nD Cert.FfnPleRefIdeal.τ).loc Cert.FfnPleRefIdeal.main_arg6) = m ((c.tc : Thread Cert.FfnPleIdeal.nD Cert.FfnPleIdeal.τ).loc Cert.FfnPleIdeal.main_arg6)
      ∧ m' ((c.tc : Thread Cert.FfnPleRefIdeal.nD Cert.FfnPleRefIdeal.τ).loc Cert.FfnPleRefIdeal.main_arg7) = m ((c.tc : Thread Cert.FfnPleIdeal.nD Cert.FfnPleIdeal.τ).loc Cert.FfnPleIdeal.main_arg7)) →
    ∃ (v0 : (c : Dev Cert.FfnPleIdeal.nD) → Buf (Elt Ideal) ((c.tc : Thread Cert.FfnPleIdeal.nD Cert.FfnPleIdeal.τ).loc Cert.FfnPleIdeal.main_v0)),
      θ_run (Cert.FfnPleIdeal.defs (F := Ideal)) (onTc (τ := Cert.FfnPleIdeal.τ) (Cert.FfnPleIdeal.main (F := Ideal))) ⟨m, fun _ => 0, g⟩ (fun r => ∀ c : Dev Cert.FfnPleIdeal.nD,
          r.2.mem ((c.tc : Thread Cert.FfnPleIdeal.nD Cert.FfnPleIdeal.τ).loc Cert.FfnPleIdeal.main_v0) = v0 c
          ∧ r.2.mem ((c.tc : Thread Cert.FfnPleIdeal.nD Cert.FfnPleIdeal.τ).loc Cert.FfnPleIdeal.main_arg0) = m ((c.tc : Thread Cert.FfnPleIdeal.nD Cert.FfnPleIdeal.τ).loc Cert.FfnPleIdeal.main_arg0)
          ∧ r.2.mem ((c.tc : Thread Cert.FfnPleIdeal.nD Cert.FfnPleIdeal.τ).loc Cert.FfnPleIdeal.main_arg1) = m ((c.tc : Thread Cert.FfnPleIdeal.nD Cert.FfnPleIdeal.τ).loc Cert.FfnPleIdeal.main_arg1)
          ∧ r.2.mem ((c.tc : Thread Cert.FfnPleIdeal.nD Cert.FfnPleIdeal.τ).loc Cert.FfnPleIdeal.main_arg2) = m ((c.tc : Thread Cert.FfnPleIdeal.nD Cert.FfnPleIdeal.τ).loc Cert.FfnPleIdeal.main_arg2)
          ∧ r.2.mem ((c.tc : Thread Cert.FfnPleIdeal.nD Cert.FfnPleIdeal.τ).loc Cert.FfnPleIdeal.main_arg3) = m ((c.tc : Thread Cert.FfnPleIdeal.nD Cert.FfnPleIdeal.τ).loc Cert.FfnPleIdeal.main_arg3)
          ∧ r.2.mem ((c.tc : Thread Cert.FfnPleIdeal.nD Cert.FfnPleIdeal.τ).loc Cert.FfnPleIdeal.main_arg4) = m ((c.tc : Thread Cert.FfnPleIdeal.nD Cert.FfnPleIdeal.τ).loc Cert.FfnPleIdeal.main_arg4)
          ∧ r.2.mem ((c.tc : Thread Cert.FfnPleIdeal.nD Cert.FfnPleIdeal.τ).loc Cert.FfnPleIdeal.main_arg5) = m ((c.tc : Thread Cert.FfnPleIdeal.nD Cert.FfnPleIdeal.τ).loc Cert.FfnPleIdeal.main_arg5)
          ∧ r.2.mem ((c.tc : Thread Cert.FfnPleIdeal.nD Cert.FfnPleIdeal.τ).loc Cert.FfnPleIdeal.main_arg6) = m ((c.tc : Thread Cert.FfnPleIdeal.nD Cert.FfnPleIdeal.τ).loc Cert.FfnPleIdeal.main_arg6)
          ∧ r.2.mem ((c.tc : Thread Cert.FfnPleIdeal.nD Cert.FfnPleIdeal.τ).loc Cert.FfnPleIdeal.main_arg7) = m ((c.tc : Thread Cert.FfnPleIdeal.nD Cert.FfnPleIdeal.τ).loc Cert.FfnPleIdeal.main_arg7))
      ∧ θ_run (Cert.FfnPleRefIdeal.defs (F := Ideal)) (onTc (τ := Cert.FfnPleRefIdeal.τ) (Cert.FfnPleRefIdeal.main (F := Ideal))) ⟨m', fun _ => 0, g'⟩ (fun r => ∀ c : Dev Cert.FfnPleRefIdeal.nD,
          r.2.mem ((c.tc : Thread Cert.FfnPleRefIdeal.nD Cert.FfnPleRefIdeal.τ).loc Cert.FfnPleRefIdeal.main_v54) = v0 c
          ∧ r.2.mem ((c.tc : Thread Cert.FfnPleRefIdeal.nD Cert.FfnPleRefIdeal.τ).loc Cert.FfnPleRefIdeal.main_arg0) = m' ((c.tc : Thread Cert.FfnPleRefIdeal.nD Cert.FfnPleRefIdeal.τ).loc Cert.FfnPleRefIdeal.main_arg0)
          ∧ r.2.mem ((c.tc : Thread Cert.FfnPleRefIdeal.nD Cert.FfnPleRefIdeal.τ).loc Cert.FfnPleRefIdeal.main_arg1) = m' ((c.tc : Thread Cert.FfnPleRefIdeal.nD Cert.FfnPleRefIdeal.τ).loc Cert.FfnPleRefIdeal.main_arg1)
          ∧ r.2.mem ((c.tc : Thread Cert.FfnPleRefIdeal.nD Cert.FfnPleRefIdeal.τ).loc Cert.FfnPleRefIdeal.main_arg2) = m' ((c.tc : Thread Cert.FfnPleRefIdeal.nD Cert.FfnPleRefIdeal.τ).loc Cert.FfnPleRefIdeal.main_arg2)
          ∧ r.2.mem ((c.tc : Thread Cert.FfnPleRefIdeal.nD Cert.FfnPleRefIdeal.τ).loc Cert.FfnPleRefIdeal.main_arg3) = m' ((c.tc : Thread Cert.FfnPleRefIdeal.nD Cert.FfnPleRefIdeal.τ).loc Cert.FfnPleRefIdeal.main_arg3)
          ∧ r.2.mem ((c.tc : Thread Cert.FfnPleRefIdeal.nD Cert.FfnPleRefIdeal.τ).loc Cert.FfnPleRefIdeal.main_arg4) = m' ((c.tc : Thread Cert.FfnPleRefIdeal.nD Cert.FfnPleRefIdeal.τ).loc Cert.FfnPleRefIdeal.main_arg4)
          ∧ r.2.mem ((c.tc : Thread Cert.FfnPleRefIdeal.nD Cert.FfnPleRefIdeal.τ).loc Cert.FfnPleRefIdeal.main_arg5) = m' ((c.tc : Thread Cert.FfnPleRefIdeal.nD Cert.FfnPleRefIdeal.τ).loc Cert.FfnPleRefIdeal.main_arg5)
          ∧ r.2.mem ((c.tc : Thread Cert.FfnPleRefIdeal.nD Cert.FfnPleRefIdeal.τ).loc Cert.FfnPleRefIdeal.main_arg6) = m' ((c.tc : Thread Cert.FfnPleRefIdeal.nD Cert.FfnPleRefIdeal.τ).loc Cert.FfnPleRefIdeal.main_arg6)
          ∧ r.2.mem ((c.tc : Thread Cert.FfnPleRefIdeal.nD Cert.FfnPleRefIdeal.τ).loc Cert.FfnPleRefIdeal.main_arg7) = m' ((c.tc : Thread Cert.FfnPleRefIdeal.nD Cert.FfnPleRefIdeal.τ).loc Cert.FfnPleRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)) (v3 : (c : Dev Cert.FfnIdeal.nD) → Buf (Elt Ideal) ((c.tc : Thread Cert.FfnIdeal.nD Cert.FfnIdeal.τ).loc Cert.FfnIdeal.main_v0_3)) (v4 : (c : Dev Cert.FfnIdeal.nD) → Buf (Elt Ideal) ((c.tc : Thread Cert.FfnIdeal.nD Cert.FfnIdeal.τ).loc Cert.FfnIdeal.main_v0_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_v0_3) = v3 c
          ∧ r.2.mem ((c.tc : Thread Cert.FfnIdeal.nD Cert.FfnIdeal.τ).loc Cert.FfnIdeal.main_v0_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v39) = v0 c
          ∧ r.2.mem ((c.tc : Thread Cert.FfnRefIdeal.nD Cert.FfnRefIdeal.τ).loc Cert.FfnRefIdeal.main_v42) = v1 c
          ∧ r.2.mem ((c.tc : Thread Cert.FfnRefIdeal.nD Cert.FfnRefIdeal.τ).loc Cert.FfnRefIdeal.main_v45) = v2 c
          ∧ r.2.mem ((c.tc : Thread Cert.FfnRefIdeal.nD Cert.FfnRefIdeal.τ).loc Cert.FfnRefIdeal.main_v48) = v3 c
          ∧ r.2.mem ((c.tc : Thread Cert.FfnRefIdeal.nD Cert.FfnRefIdeal.τ).loc Cert.FfnRefIdeal.main_v51) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v62) = v0 c
          ∧ r.2.mem ((c.tc : Thread Cert.MergeRefIdeal.nD Cert.MergeRefIdeal.τ).loc Cert.MergeRefIdeal.main_v65) = v1 c
          ∧ r.2.mem ((c.tc : Thread Cert.MergeRefIdeal.nD Cert.MergeRefIdeal.τ).loc Cert.MergeRefIdeal.main_v68) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Mix_MixIdeal : Prop :=
  True

def Claim : Prop :=
  ∃ (hKernel : Cert.Kernel.Facts) (hKernelIdeal : Cert.KernelIdeal.Facts) (hReferenceIdeal : Cert.ReferenceIdeal.Facts) (hFfnPle : Cert.FfnPle.Facts) (hFfnPleIdeal : Cert.FfnPleIdeal.Facts) (hFfnPleRefIdeal : Cert.FfnPleRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hMix : Cert.Mix.Facts) (hMixIdeal : Cert.MixIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_FfnPle (hFfnPle := hFfnPle)
    ∧ quiescent_FfnPleIdeal (hFfnPleIdeal := hFfnPleIdeal)
    ∧ quiescent_FfnPleRefIdeal (hFfnPleRefIdeal := hFfnPleRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Mix (hMix := hMix)
    ∧ quiescent_MixIdeal (hMixIdeal := hMixIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_FfnPle_FfnPleIdeal
    ∧ algebraic_FfnPleIdeal_FfnPleRefIdeal (hFfnPleIdeal := hFfnPleIdeal) (hFfnPleRefIdeal := hFfnPleRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Mix_MixIdeal
-- ==== Pre_finite_scores.lean ====
abbrev S4x8x512x512 : Shape := ⟨4, ![4, 8, 512, 512]⟩
abbrev S4x4096x512 : Shape := ⟨3, ![4, 4096, 512]⟩
abbrev S4x16x256x256 : Shape := ⟨4, ![4, 16, 256, 256]⟩
abbrev S_ : Shape := ⟨0, ![]⟩

class Facts : Prop where
  bcast_S_S4x8x512x512 : S_.BroadcastsInDim S4x8x512x512 (![] : Fin 0 → Fin S4x8x512x512.rank)
  bcast_S_S4x4096x512 : S_.BroadcastsInDim S4x4096x512 (![] : Fin 0 → Fin S4x4096x512.rank)

variable [Facts]

def fn {F : FTy → Type} [FloatOps F] (main_arg0 : FVec F S4x8x512x512 .bf16) (main_arg1 : FVec F S4x4096x512 .bf16) (main_arg2 : FVec F S4x16x256x256 .bf16) : IVec S4x8x512x512 1 × IVec S4x4096x512 1 :=
  let main_v0 : FVec F S4x8x512x512 .bf16 := Host.absf main_arg0
  let main_cst : FVec F S_ .bf16 := constant S_ .bf16 0x7F80#16
  let main_v1 : FVec F S4x8x512x512 .bf16 := broadcastInDim S4x8x512x512 ![] bcast_S_S4x8x512x512 main_cst
  let main_v2 : IVec S4x8x512x512 1 := cmpf .olt main_v0 main_v1
  let main_v3 : FVec F S4x4096x512 .bf16 := Host.absf main_arg1
  let main_cst_0 : FVec F S_ .bf16 := constant S_ .bf16 0x7F80#16
  let main_v4 : FVec F S4x4096x512 .bf16 := broadcastInDim S4x4096x512 ![] bcast_S_S4x4096x512 main_cst_0
  let main_v5 : IVec S4x4096x512 1 := cmpf .olt main_v3 main_v4
  (main_v2, main_v5)
-- ==== Kernel.lean ====
abbrev S4x8x512x512 : Shape := ⟨4, ![4, 8, 512, 512]⟩
abbrev S4x4096x512 : Shape := ⟨3, ![4, 4096, 512]⟩
abbrev S4x16x256x256 : Shape := ⟨4, ![4, 16, 256, 256]⟩
abbrev S4x4096x256 : Shape := ⟨3, ![4, 4096, 256]⟩
abbrev S1x8x512x512 : Shape := ⟨4, ![1, 8, 512, 512]⟩
abbrev S1x4096x512 : Shape := ⟨3, ![1, 4096, 512]⟩
abbrev S1x16x256x256 : Shape := ⟨4, ![1, 16, 256, 256]⟩
abbrev S1x4096x256 : Shape := ⟨3, ![1, 4096, 256]⟩
abbrev S2x4x256x512 : Shape := ⟨4, ![2, 4, 256, 512]⟩
abbrev S4x1x512 : Shape := ⟨3, ![4, 1, 512]⟩
abbrev S4x80x512 : Shape := ⟨3, ![4, 80, 512]⟩
abbrev S256x512 : Shape := ⟨2, ![256, 512]⟩
abbrev S16x256 : Shape := ⟨2, ![16, 256]⟩
abbrev S1x256x128 : Shape := ⟨3, ![1, 256, 128]⟩
abbrev S256x128 : Shape := ⟨2, ![256, 128]⟩
abbrev S1x1x128x512 : Shape := ⟨4, ![1, 1, 128, 512]⟩
abbrev S128x512 : Shape := ⟨2, ![128, 512]⟩
abbrev S1x1x256x512 : Shape := ⟨4, ![1, 1, 256, 512]⟩
abbrev S1x1x512 : Shape := ⟨3, ![1, 1, 512]⟩
abbrev S1x512 : Shape := ⟨2, ![1, 512]⟩
abbrev S512 : Shape := ⟨1, ![512]⟩
abbrev S1x1x64x256 : Shape := ⟨4, ![1, 1, 64, 256]⟩
abbrev S64x256 : Shape := ⟨2, ![64, 256]⟩
abbrev S80x256 : Shape := ⟨2, ![80, 256]⟩
abbrev S1x80x512 : Shape := ⟨3, ![1, 80, 512]⟩
abbrev S80x512 : Shape := ⟨2, ![80, 512]⟩
abbrev S1x1x128x256 : Shape := ⟨4, ![1, 1, 128, 256]⟩
abbrev S128x256 : Shape := ⟨2, ![128, 256]⟩
abbrev S256x256 : Shape := ⟨2, ![256, 256]⟩
abbrev S1x1x256x256 : Shape := ⟨4, ![1, 1, 256, 256]⟩
abbrev S1x1x256 : Shape := ⟨3, ![1, 1, 256]⟩
abbrev S1x256 : Shape := ⟨2, ![1, 256]⟩
abbrev S256 : Shape := ⟨1, ![256]⟩
abbrev S1x80x256 : Shape := ⟨3, ![1, 80, 256]⟩
abbrev S1x64x512 : Shape := ⟨3, ![1, 64, 512]⟩
abbrev S64x512 : Shape := ⟨2, ![64, 512]⟩
abbrev S512x256 : Shape := ⟨2, ![512, 256]⟩
abbrev S1x512x256 : Shape := ⟨3, ![1, 512, 256]⟩

abbrev nBuf : Space → Nat
  | .hbm => 4
  | .vmem => 11
  | .smem => 0
  | _ => 0

abbrev bufTy : (tb : Table) → Fin (tcTables nBuf tb) → BufTy
  | .hbm, ⟨0, _⟩ => ⟨S4x8x512x512, .bf16⟩
  | .hbm, ⟨1, _⟩ => ⟨S4x4096x512, .bf16⟩
  | .hbm, ⟨2, _⟩ => ⟨S4x16x256x256, .bf16⟩
  | .hbm, ⟨3, _⟩ => ⟨S4x4096x256, .bf16⟩
  | .local _ .vmem, ⟨0, _⟩ => ⟨S1x8x512x512, .bf16⟩
  | .local _ .vmem, ⟨1, _⟩ => ⟨S1x8x512x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x16x256x256, .bf16⟩
  | .local _ .vmem, ⟨5, _⟩ => ⟨S1x16x256x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S2x4x256x512, .f32⟩
  | .local _ .vmem, ⟨9, _⟩ => ⟨S4x1x512, .f32⟩
  | .local _ .vmem, ⟨10, _⟩ => ⟨S4x80x512, .f32⟩
  | _, _ => ⟨S4x8x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def k0_mult1 : BitVec 32 :=
  let c0_i32_12 : BitVec 32 := 0#32
  c0_i32_12
@[reducible] def k0_t1_loop : Scf.Loop 32 :=
  let c0_i32_50 : BitVec 32 := 0#32
  let c8_i32 : BitVec 32 := 8#32
  let v94 : BitVec 32 := Scalar.addi c0_i32_50 c8_i32
  let c1_i32_51 : BitVec 32 := 1#32
  ⟨c0_i32_50, v94, c1_i32_51⟩
@[reducible] def k0_t2_loop (k0_t1 : Fin k0_t1_loop.trips) : Scf.Loop 32 :=
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_64 : BitVec 32 := 1#32
  ⟨c0_i32_62, v107, c1_i32_64⟩
def k0_mult2 (k0_t1 : Fin k0_t1_loop.trips) (k0_t2 : Fin (k0_t2_loop k0_t1).trips) : BitVec 32 :=
  let c2_i32_404 : BitVec 32 := 2#32
  let c0_i32_62 : BitVec 32 := 0#32
  let c1_i32_64 : BitVec 32 := 1#32
  let arg9 : BitVec 32 := Scf.iv c0_i32_62 c1_i32_64 k0_t2
  let v534 : BitVec 32 := Scalar.muli c2_i32_404 arg9
  let c1_i32_405 : BitVec 32 := 1#32
  let v535 : BitVec 32 := Scalar.addi v534 c1_i32_405
  let c256_i32_406 : BitVec 32 := 256#32
  let v536 : BitVec 32 := Scalar.muli v535 c256_i32_406
  v536
def k0_off1 (k0_t1 : Fin k0_t1_loop.trips) (k0_t2 : Fin (k0_t2_loop k0_t1).trips) (c1_i32_405 : BitVec 32) : Fin 3 → Nat :=
  let c0_407 : Index := 0#32
  let c2_i32_404 : BitVec 32 := 2#32
  let c0_i32_62 : BitVec 32 := 0#32
  let c1_i32_64 : BitVec 32 := 1#32
  let arg9 : BitVec 32 := Scf.iv c0_i32_62 c1_i32_64 k0_t2
  let v534 : BitVec 32 := Scalar.muli c2_i32_404 arg9
  let v535 : BitVec 32 := Scalar.addi v534 c1_i32_405
  let c256_i32_406 : BitVec 32 := 256#32
  let v536 : BitVec 32 := Scalar.muli v535 c256_i32_406
  let v537 : BitVec 32 := v536
  let v538 : Index := Scalar.indexCast v537
  let c0_408 : Index := 0#32
  ![0, v538.toNat, 0]
def k0_off2 (k0_t1 : Fin k0_t1_loop.trips) : Fin 4 → Nat :=
  let c0_409 : Index := 0#32
  let c0_i32_50 : BitVec 32 := 0#32
  let c1_i32_51 : BitVec 32 := 1#32
  let arg8 : BitVec 32 := Scf.iv c0_i32_50 c1_i32_51 k0_t1
  let v541 : Index := Scalar.indexCast arg8
  let c0_410 : Index := 0#32
  let c0_411 : Index := 0#32
  ![0, v541.toNat, 0, 0]
def k0_off3 (k0_t1 : Fin k0_t1_loop.trips) (k0_t2 : Fin (k0_t2_loop k0_t1).trips) : Fin 4 → Nat :=
  let c0_430 : Index := 0#32
  let c2_i32_417 : BitVec 32 := 2#32
  let c0_i32_62 : BitVec 32 := 0#32
  let c1_i32_64 : BitVec 32 := 1#32
  let arg9 : BitVec 32 := Scf.iv c0_i32_62 c1_i32_64 k0_t2
  let v548 : BitVec 32 := Scalar.muli c2_i32_417 arg9
  let v562 : Index := Scalar.indexCast v548
  let c0_431 : Index := 0#32
  let c0_432 : Index := 0#32
  ![0, v562.toNat, 0, 0]
def k0_mult3 (k0_t1 : Fin k0_t1_loop.trips) (k0_t2 : Fin (k0_t2_loop k0_t1).trips) : BitVec 32 :=
  let c2_i32_443 : BitVec 32 := 2#32
  let c0_i32_62 : BitVec 32 := 0#32
  let c1_i32_64 : BitVec 32 := 1#32
  let arg9 : BitVec 32 := Scf.iv c0_i32_62 c1_i32_64 k0_t2
  let v580 : BitVec 32 := Scalar.muli c2_i32_443 arg9
  let c1_i32_444 : BitVec 32 := 1#32
  let v581 : BitVec 32 := Scalar.addi v580 c1_i32_444
  let c256_i32_445 : BitVec 32 := 256#32
  let v582 : BitVec 32 := Scalar.muli v581 c256_i32_445
  v582
def k0_off4 (k0_t1 : Fin k0_t1_loop.trips) (k0_t2 : Fin (k0_t2_loop k0_t1).trips) (c1_i32_444 : BitVec 32) : Fin 3 → Nat :=
  let c0_446 : Index := 0#32
  let c2_i32_443 : BitVec 32 := 2#32
  let c0_i32_62 : BitVec 32 := 0#32
  let c1_i32_64 : BitVec 32 := 1#32
  let arg9 : BitVec 32 := Scf.iv c0_i32_62 c1_i32_64 k0_t2
  let v580 : BitVec 32 := Scalar.muli c2_i32_443 arg9
  let v581 : BitVec 32 := Scalar.addi v580 c1_i32_444
  let c256_i32_445 : BitVec 32 := 256#32
  let v582 : BitVec 32 := Scalar.muli v581 c256_i32_445
  let v583 : BitVec 32 := v582
  let v584 : Index := Scalar.indexCast v583
  let c128_447 : Index := 128#32
  ![0, v584.toNat, 128]
def k0_off5 (k0_t1 : Fin k0_t1_loop.trips) : Fin 4 → Nat :=
  let c0_448 : Index := 0#32
  let c0_i32_50 : BitVec 32 := 0#32
  let c1_i32_51 : BitVec 32 := 1#32
  let arg8 : BitVec 32 := Scf.iv c0_i32_50 c1_i32_51 k0_t1
  let v587 : Index := Scalar.indexCast arg8
  let c128_449 : Index := 128#32
  let c0_450 : Index := 0#32
  ![0, v587.toNat, 128, 0]
def k0_off6 (k0_t1 : Fin k0_t1_loop.trips) (k0_t2 : Fin (k0_t2_loop k0_t1).trips) : Fin 4 → Nat :=
  let c0_469 : Index := 0#32
  let c2_i32_456 : BitVec 32 := 2#32
  let c0_i32_62 : BitVec 32 := 0#32
  let c1_i32_64 : BitVec 32 := 1#32
  let arg9 : BitVec 32 := Scf.iv c0_i32_62 c1_i32_64 k0_t2
  let v594 : BitVec 32 := Scalar.muli c2_i32_456 arg9
  let v608 : Index := Scalar.indexCast v594
  let c64_470 : Index := 64#32
  let c0_471 : Index := 0#32
  ![0, v608.toNat, 64, 0]
def k0_mult4 (k0_t1 : Fin k0_t1_loop.trips) (k0_t2 : Fin (k0_t2_loop k0_t1).trips) : BitVec 32 :=
  let c2_i32_482 : BitVec 32 := 2#32
  let c0_i32_62 : BitVec 32 := 0#32
  let c1_i32_64 : BitVec 32 := 1#32
  let arg9 : BitVec 32 := Scf.iv c0_i32_62 c1_i32_64 k0_t2
  let v626 : BitVec 32 := Scalar.muli c2_i32_482 arg9
  let c1_i32_483 : BitVec 32 := 1#32
  let v627 : BitVec 32 := Scalar.addi v626 c1_i32_483
  let c256_i32_484 : BitVec 32 := 256#32
  let v628 : BitVec 32 := Scalar.muli v627 c256_i32_484
  v628
def k0_off7 (k0_t1 : Fin k0_t1_loop.trips) (k0_t2 : Fin (k0_t2_loop k0_t1).trips) (c1_i32_483 : BitVec 32) : Fin 3 → Nat :=
  let c0_485 : Index := 0#32
  let c2_i32_482 : BitVec 32 := 2#32
  let c0_i32_62 : BitVec 32 := 0#32
  let c1_i32_64 : BitVec 32 := 1#32
  let arg9 : BitVec 32 := Scf.iv c0_i32_62 c1_i32_64 k0_t2
  let v626 : BitVec 32 := Scalar.muli c2_i32_482 arg9
  let v627 : BitVec 32 := Scalar.addi v626 c1_i32_483
  let c256_i32_484 : BitVec 32 := 256#32
  let v628 : BitVec 32 := Scalar.muli v627 c256_i32_484
  let v629 : BitVec 32 := v628
  let v630 : Index := Scalar.indexCast v629
  let c256_486 : Index := 256#32
  ![0, v630.toNat, 256]
def k0_off8 (k0_t1 : Fin k0_t1_loop.trips) : Fin 4 → Nat :=
  let c0_487 : Index := 0#32
  let c0_i32_50 : BitVec 32 := 0#32
  let c1_i32_51 : BitVec 32 := 1#32
  let arg8 : BitVec 32 := Scf.iv c0_i32_50 c1_i32_51 k0_t1
  let v633 : Index := Scalar.indexCast arg8
  let c256_488 : Index := 256#32
  let c0_489 : Index := 0#32
  ![0, v633.toNat, 256, 0]
def k0_off9 (k0_t1 : Fin k0_t1_loop.trips) (k0_t2 : Fin (k0_t2_loop k0_t1).trips) : Fin 4 → Nat :=
  let c0_508 : Index := 0#32
  let c2_i32_495 : BitVec 32 := 2#32
  let c0_i32_62 : BitVec 32 := 0#32
  let c1_i32_64 : BitVec 32 := 1#32
  let arg9 : BitVec 32 := Scf.iv c0_i32_62 c1_i32_64 k0_t2
  let v640 : BitVec 32 := Scalar.muli c2_i32_495 arg9
  let v654 : Index := Scalar.indexCast v640
  let c128_509 : Index := 128#32
  let c0_510 : Index := 0#32
  ![0, v654.toNat, 128, 0]
def k0_mult5 (k0_t1 : Fin k0_t1_loop.trips) (k0_t2 : Fin (k0_t2_loop k0_t1).trips) : BitVec 32 :=
  let c2_i32_521 : BitVec 32 := 2#32
  let c0_i32_62 : BitVec 32 := 0#32
  let c1_i32_64 : BitVec 32 := 1#32
  let arg9 : BitVec 32 := Scf.iv c0_i32_62 c1_i32_64 k0_t2
  let v672 : BitVec 32 := Scalar.muli c2_i32_521 arg9
  let c1_i32_522 : BitVec 32 := 1#32
  let v673 : BitVec 32 := Scalar.addi v672 c1_i32_522
  let c256_i32_523 : BitVec 32 := 256#32
  let v674 : BitVec 32 := Scalar.muli v673 c256_i32_523
  v674
def k0_off10 (k0_t1 : Fin k0_t1_loop.trips) (k0_t2 : Fin (k0_t2_loop k0_t1).trips) (c1_i32_522 : BitVec 32) : Fin 3 → Nat :=
  let c0_524 : Index := 0#32
  let c2_i32_521 : BitVec 32 := 2#32
  let c0_i32_62 : BitVec 32 := 0#32
  let c1_i32_64 : BitVec 32 := 1#32
  let arg9 : BitVec 32 := Scf.iv c0_i32_62 c1_i32_64 k0_t2
  let v672 : BitVec 32 := Scalar.muli c2_i32_521 arg9
  let v673 : BitVec 32 := Scalar.addi v672 c1_i32_522
  let c256_i32_523 : BitVec 32 := 256#32
  let v674 : BitVec 32 := Scalar.muli v673 c256_i32_523
  let v675 : BitVec 32 := v674
  let v676 : Index := Scalar.indexCast v675
  let c384_525 : Index := 384#32
  ![0, v676.toNat, 384]
def k0_off11 (k0_t1 : Fin k0_t1_loop.trips) : Fin 4 → Nat :=
  let c0_526 : Index := 0#32
  let c0_i32_50 : BitVec 32 := 0#32
  let c1_i32_51 : BitVec 32 := 1#32
  let arg8 : BitVec 32 := Scf.iv c0_i32_50 c1_i32_51 k0_t1
  let v679 : Index := Scalar.indexCast arg8
  let c384_527 : Index := 384#32
  let c0_528 : Index := 0#32
  ![0, v679.toNat, 384, 0]
def k0_off12 (k0_t1 : Fin k0_t1_loop.trips) (k0_t2 : Fin (k0_t2_loop k0_t1).trips) : Fin 4 → Nat :=
  let c0_547 : Index := 0#32
  let c2_i32_534 : BitVec 32 := 2#32
  let c0_i32_62 : BitVec 32 := 0#32
  let c1_i32_64 : BitVec 32 := 1#32
  let arg9 : BitVec 32 := Scf.iv c0_i32_62 c1_i32_64 k0_t2
  let v686 : BitVec 32 := Scalar.muli c2_i32_534 arg9
  let v700 : Index := Scalar.indexCast v686
  let c192_548 : Index := 192#32
  let c0_549 : Index := 0#32
  ![0, v700.toNat, 192, 0]
def k0_mult6 (k0_t1 : Fin k0_t1_loop.trips) (k0_t2 : Fin (k0_t2_loop k0_t1).trips) : BitVec 32 :=
  let c2_i32_560 : BitVec 32 := 2#32
  let c0_i32_62 : BitVec 32 := 0#32
  let c1_i32_64 : BitVec 32 := 1#32
  let arg9 : BitVec 32 := Scf.iv c0_i32_62 c1_i32_64 k0_t2
  let v718 : BitVec 32 := Scalar.muli c2_i32_560 arg9
  let c2_i32_561 : BitVec 32 := 2#32
  let v719 : BitVec 32 := Scalar.addi v718 c2_i32_561
  let c256_i32_562 : BitVec 32 := 256#32
  let v720 : BitVec 32 := Scalar.muli v719 c256_i32_562
  v720
def k0_off13 (k0_t1 : Fin k0_t1_loop.trips) (k0_t2 : Fin (k0_t2_loop k0_t1).trips) : Fin 4 → Nat :=
  let c0_587 : Index := 0#32
  let c2_i32_573 : BitVec 32 := 2#32
  let c0_i32_62 : BitVec 32 := 0#32
  let c1_i32_64 : BitVec 32 := 1#32
  let arg9 : BitVec 32 := Scf.iv c0_i32_62 c1_i32_64 k0_t2
  let v732 : BitVec 32 := Scalar.muli c2_i32_573 arg9
  let c1_i32_574 : BitVec 32 := 1#32
  let v733 : BitVec 32 := Scalar.addi v732 c1_i32_574
  let v747 : Index := Scalar.indexCast v733
  let c0_588 : Index := 0#32
  let c0_589 : Index := 0#32
  ![0, v747.toNat, 0, 0]
def k0_mult7 (k0_t1 : Fin k0_t1_loop.trips) (k0_t2 : Fin (k0_t2_loop k0_t1).trips) : BitVec 32 :=
  let c2_i32_600 : BitVec 32 := 2#32
  let c0_i32_62 : BitVec 32 := 0#32
  let c1_i32_64 : BitVec 32 := 1#32
  let arg9 : BitVec 32 := Scf.iv c0_i32_62 c1_i32_64 k0_t2
  let v765 : BitVec 32 := Scalar.muli c2_i32_600 arg9
  let c2_i32_601 : BitVec 32 := 2#32
  let v766 : BitVec 32 := Scalar.addi v765 c2_i32_601
  let c256_i32_602 : BitVec 32 := 256#32
  let v767 : BitVec 32 := Scalar.muli v766 c256_i32_602
  v767
def k0_off14 (k0_t1 : Fin k0_t1_loop.trips) (k0_t2 : Fin (k0_t2_loop k0_t1).trips) : Fin 4 → Nat :=
  let c0_627 : Index := 0#32
  let c2_i32_613 : BitVec 32 := 2#32
  let c0_i32_62 : BitVec 32 := 0#32
  let c1_i32_64 : BitVec 32 := 1#32
  let arg9 : BitVec 32 := Scf.iv c0_i32_62 c1_i32_64 k0_t2
  let v779 : BitVec 32 := Scalar.muli c2_i32_613 arg9
  let c1_i32_614 : BitVec 32 := 1#32
  let v780 : BitVec 32 := Scalar.addi v779 c1_i32_614
  let v794 : Index := Scalar.indexCast v780
  let c64_628 : Index := 64#32
  let c0_629 : Index := 0#32
  ![0, v794.toNat, 64, 0]
def k0_mult8 (k0_t1 : Fin k0_t1_loop.trips) (k0_t2 : Fin (k0_t2_loop k0_t1).trips) : BitVec 32 :=
  let c2_i32_640 : BitVec 32 := 2#32
  let c0_i32_62 : BitVec 32 := 0#32
  let c1_i32_64 : BitVec 32 := 1#32
  let arg9 : BitVec 32 := Scf.iv c0_i32_62 c1_i32_64 k0_t2
  let v812 : BitVec 32 := Scalar.muli c2_i32_640 arg9
  let c2_i32_641 : BitVec 32 := 2#32
  let v813 : BitVec 32 := Scalar.addi v812 c2_i32_641
  let c256_i32_642 : BitVec 32 := 256#32
  let v814 : BitVec 32 := Scalar.muli v813 c256_i32_642
  v814
def k0_off15 (k0_t1 : Fin k0_t1_loop.trips) (k0_t2 : Fin (k0_t2_loop k0_t1).trips) : Fin 4 → Nat :=
  let c0_667 : Index := 0#32
  let c2_i32_653 : BitVec 32 := 2#32
  let c0_i32_62 : BitVec 32 := 0#32
  let c1_i32_64 : BitVec 32 := 1#32
  let arg9 : BitVec 32 := Scf.iv c0_i32_62 c1_i32_64 k0_t2
  let v826 : BitVec 32 := Scalar.muli c2_i32_653 arg9
  let c1_i32_654 : BitVec 32 := 1#32
  let v827 : BitVec 32 := Scalar.addi v826 c1_i32_654
  let v841 : Index := Scalar.indexCast v827
  let c128_668 : Index := 128#32
  let c0_669 : Index := 0#32
  ![0, v841.toNat, 128, 0]
def k0_mult9 (k0_t1 : Fin k0_t1_loop.trips) (k0_t2 : Fin (k0_t2_loop k0_t1).trips) : BitVec 32 :=
  let c2_i32_680 : BitVec 32 := 2#32
  let c0_i32_62 : BitVec 32 := 0#32
  let c1_i32_64 : BitVec 32 := 1#32
  let arg9 : BitVec 32 := Scf.iv c0_i32_62 c1_i32_64 k0_t2
  let v859 : BitVec 32 := Scalar.muli c2_i32_680 arg9
  let c2_i32_681 : BitVec 32 := 2#32
  let v860 : BitVec 32 := Scalar.addi v859 c2_i32_681
  let c256_i32_682 : BitVec 32 := 256#32
  let v861 : BitVec 32 := Scalar.muli v860 c256_i32_682
  v861
def k0_off16 (k0_t1 : Fin k0_t1_loop.trips) (k0_t2 : Fin (k0_t2_loop k0_t1).trips) : Fin 4 → Nat :=
  let c0_707 : Index := 0#32
  let c2_i32_693 : BitVec 32 := 2#32
  let c0_i32_62 : BitVec 32 := 0#32
  let c1_i32_64 : BitVec 32 := 1#32
  let arg9 : BitVec 32 := Scf.iv c0_i32_62 c1_i32_64 k0_t2
  let v873 : BitVec 32 := Scalar.muli c2_i32_693 arg9
  let c1_i32_694 : BitVec 32 := 1#32
  let v874 : BitVec 32 := Scalar.addi v873 c1_i32_694
  let v888 : Index := Scalar.indexCast v874
  let c192_708 : Index := 192#32
  let c0_709 : Index := 0#32
  ![0, v888.toNat, 192, 0]
@[reducible] def k0_t3_loop (k0_t1 : Fin k0_t1_loop.trips) : Scf.Loop 32 :=
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let v104 : BitVec 32 := Scalar.addi c0_i32_62 v103
  let c1_i32_65 : BitVec 32 := 1#32
  ⟨v107, v104, c1_i32_65⟩
def k0_mult10 (k0_t1 : Fin k0_t1_loop.trips) (k0_t3 : Fin (k0_t3_loop k0_t1).trips) : BitVec 32 :=
  let c2_i32_404 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v534 : BitVec 32 := Scalar.muli c2_i32_404 arg9
  let c1_i32_405 : BitVec 32 := 1#32
  let v535 : BitVec 32 := Scalar.addi v534 c1_i32_405
  let c256_i32_406 : BitVec 32 := 256#32
  let v536 : BitVec 32 := Scalar.muli v535 c256_i32_406
  v536
def k0_off17 (k0_t1 : Fin k0_t1_loop.trips) (k0_t3 : Fin (k0_t3_loop k0_t1).trips) (c1_i32_405 : BitVec 32) : Fin 3 → Nat :=
  let c0_407 : Index := 0#32
  let c2_i32_404 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v534 : BitVec 32 := Scalar.muli c2_i32_404 arg9
  let v535 : BitVec 32 := Scalar.addi v534 c1_i32_405
  let c256_i32_406 : BitVec 32 := 256#32
  let v536 : BitVec 32 := Scalar.muli v535 c256_i32_406
  let v537 : BitVec 32 := v536
  let v538 : Index := Scalar.indexCast v537
  let c0_408 : Index := 0#32
  ![0, v538.toNat, 0]
def k0_off18 (k0_t1 : Fin k0_t1_loop.trips) : Fin 4 → Nat :=
  let c0_409 : Index := 0#32
  let c0_i32_50 : BitVec 32 := 0#32
  let c1_i32_51 : BitVec 32 := 1#32
  let arg8 : BitVec 32 := Scf.iv c0_i32_50 c1_i32_51 k0_t1
  let v541 : Index := Scalar.indexCast arg8
  let c0_410 : Index := 0#32
  let c0_411 : Index := 0#32
  ![0, v541.toNat, 0, 0]
def k0_off19 (k0_t1 : Fin k0_t1_loop.trips) (k0_t3 : Fin (k0_t3_loop k0_t1).trips) : Fin 4 → Nat :=
  let c0_430 : Index := 0#32
  let c2_i32_417 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v548 : BitVec 32 := Scalar.muli c2_i32_417 arg9
  let v562 : Index := Scalar.indexCast v548
  let c0_431 : Index := 0#32
  let c0_432 : Index := 0#32
  ![0, v562.toNat, 0, 0]
def k0_mult11 (k0_t1 : Fin k0_t1_loop.trips) (k0_t3 : Fin (k0_t3_loop k0_t1).trips) : BitVec 32 :=
  let c2_i32_443 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v580 : BitVec 32 := Scalar.muli c2_i32_443 arg9
  let c1_i32_444 : BitVec 32 := 1#32
  let v581 : BitVec 32 := Scalar.addi v580 c1_i32_444
  let c256_i32_445 : BitVec 32 := 256#32
  let v582 : BitVec 32 := Scalar.muli v581 c256_i32_445
  v582
def k0_off20 (k0_t1 : Fin k0_t1_loop.trips) (k0_t3 : Fin (k0_t3_loop k0_t1).trips) (c1_i32_444 : BitVec 32) : Fin 3 → Nat :=
  let c0_446 : Index := 0#32
  let c2_i32_443 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v580 : BitVec 32 := Scalar.muli c2_i32_443 arg9
  let v581 : BitVec 32 := Scalar.addi v580 c1_i32_444
  let c256_i32_445 : BitVec 32 := 256#32
  let v582 : BitVec 32 := Scalar.muli v581 c256_i32_445
  let v583 : BitVec 32 := v582
  let v584 : Index := Scalar.indexCast v583
  let c128_447 : Index := 128#32
  ![0, v584.toNat, 128]
def k0_off21 (k0_t1 : Fin k0_t1_loop.trips) : Fin 4 → Nat :=
  let c0_448 : Index := 0#32
  let c0_i32_50 : BitVec 32 := 0#32
  let c1_i32_51 : BitVec 32 := 1#32
  let arg8 : BitVec 32 := Scf.iv c0_i32_50 c1_i32_51 k0_t1
  let v587 : Index := Scalar.indexCast arg8
  let c128_449 : Index := 128#32
  let c0_450 : Index := 0#32
  ![0, v587.toNat, 128, 0]
def k0_off22 (k0_t1 : Fin k0_t1_loop.trips) (k0_t3 : Fin (k0_t3_loop k0_t1).trips) : Fin 4 → Nat :=
  let c0_469 : Index := 0#32
  let c2_i32_456 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v594 : BitVec 32 := Scalar.muli c2_i32_456 arg9
  let v608 : Index := Scalar.indexCast v594
  let c64_470 : Index := 64#32
  let c0_471 : Index := 0#32
  ![0, v608.toNat, 64, 0]
def k0_mult12 (k0_t1 : Fin k0_t1_loop.trips) (k0_t3 : Fin (k0_t3_loop k0_t1).trips) : BitVec 32 :=
  let c2_i32_482 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v626 : BitVec 32 := Scalar.muli c2_i32_482 arg9
  let c1_i32_483 : BitVec 32 := 1#32
  let v627 : BitVec 32 := Scalar.addi v626 c1_i32_483
  let c256_i32_484 : BitVec 32 := 256#32
  let v628 : BitVec 32 := Scalar.muli v627 c256_i32_484
  v628
def k0_off23 (k0_t1 : Fin k0_t1_loop.trips) (k0_t3 : Fin (k0_t3_loop k0_t1).trips) (c1_i32_483 : BitVec 32) : Fin 3 → Nat :=
  let c0_485 : Index := 0#32
  let c2_i32_482 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v626 : BitVec 32 := Scalar.muli c2_i32_482 arg9
  let v627 : BitVec 32 := Scalar.addi v626 c1_i32_483
  let c256_i32_484 : BitVec 32 := 256#32
  let v628 : BitVec 32 := Scalar.muli v627 c256_i32_484
  let v629 : BitVec 32 := v628
  let v630 : Index := Scalar.indexCast v629
  let c256_486 : Index := 256#32
  ![0, v630.toNat, 256]
def k0_off24 (k0_t1 : Fin k0_t1_loop.trips) : Fin 4 → Nat :=
  let c0_487 : Index := 0#32
  let c0_i32_50 : BitVec 32 := 0#32
  let c1_i32_51 : BitVec 32 := 1#32
  let arg8 : BitVec 32 := Scf.iv c0_i32_50 c1_i32_51 k0_t1
  let v633 : Index := Scalar.indexCast arg8
  let c256_488 : Index := 256#32
  let c0_489 : Index := 0#32
  ![0, v633.toNat, 256, 0]
def k0_off25 (k0_t1 : Fin k0_t1_loop.trips) (k0_t3 : Fin (k0_t3_loop k0_t1).trips) : Fin 4 → Nat :=
  let c0_508 : Index := 0#32
  let c2_i32_495 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v640 : BitVec 32 := Scalar.muli c2_i32_495 arg9
  let v654 : Index := Scalar.indexCast v640
  let c128_509 : Index := 128#32
  let c0_510 : Index := 0#32
  ![0, v654.toNat, 128, 0]
def k0_mult13 (k0_t1 : Fin k0_t1_loop.trips) (k0_t3 : Fin (k0_t3_loop k0_t1).trips) : BitVec 32 :=
  let c2_i32_521 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v672 : BitVec 32 := Scalar.muli c2_i32_521 arg9
  let c1_i32_522 : BitVec 32 := 1#32
  let v673 : BitVec 32 := Scalar.addi v672 c1_i32_522
  let c256_i32_523 : BitVec 32 := 256#32
  let v674 : BitVec 32 := Scalar.muli v673 c256_i32_523
  v674
def k0_off26 (k0_t1 : Fin k0_t1_loop.trips) (k0_t3 : Fin (k0_t3_loop k0_t1).trips) (c1_i32_522 : BitVec 32) : Fin 3 → Nat :=
  let c0_524 : Index := 0#32
  let c2_i32_521 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v672 : BitVec 32 := Scalar.muli c2_i32_521 arg9
  let v673 : BitVec 32 := Scalar.addi v672 c1_i32_522
  let c256_i32_523 : BitVec 32 := 256#32
  let v674 : BitVec 32 := Scalar.muli v673 c256_i32_523
  let v675 : BitVec 32 := v674
  let v676 : Index := Scalar.indexCast v675
  let c384_525 : Index := 384#32
  ![0, v676.toNat, 384]
def k0_off27 (k0_t1 : Fin k0_t1_loop.trips) : Fin 4 → Nat :=
  let c0_526 : Index := 0#32
  let c0_i32_50 : BitVec 32 := 0#32
  let c1_i32_51 : BitVec 32 := 1#32
  let arg8 : BitVec 32 := Scf.iv c0_i32_50 c1_i32_51 k0_t1
  let v679 : Index := Scalar.indexCast arg8
  let c384_527 : Index := 384#32
  let c0_528 : Index := 0#32
  ![0, v679.toNat, 384, 0]
def k0_off28 (k0_t1 : Fin k0_t1_loop.trips) (k0_t3 : Fin (k0_t3_loop k0_t1).trips) : Fin 4 → Nat :=
  let c0_547 : Index := 0#32
  let c2_i32_534 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v686 : BitVec 32 := Scalar.muli c2_i32_534 arg9
  let v700 : Index := Scalar.indexCast v686
  let c192_548 : Index := 192#32
  let c0_549 : Index := 0#32
  ![0, v700.toNat, 192, 0]
def k0_mult14 (k0_t1 : Fin k0_t1_loop.trips) (k0_t3 : Fin (k0_t3_loop k0_t1).trips) : BitVec 32 :=
  let c2_i32_560 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v718 : BitVec 32 := Scalar.muli c2_i32_560 arg9
  let c2_i32_561 : BitVec 32 := 2#32
  let v719 : BitVec 32 := Scalar.addi v718 c2_i32_561
  let c256_i32_562 : BitVec 32 := 256#32
  let v720 : BitVec 32 := Scalar.muli v719 c256_i32_562
  v720
def k0_off29 (k0_t1 : Fin k0_t1_loop.trips) (k0_t3 : Fin (k0_t3_loop k0_t1).trips) : Fin 4 → Nat :=
  let c0_587 : Index := 0#32
  let c2_i32_573 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v732 : BitVec 32 := Scalar.muli c2_i32_573 arg9
  let c1_i32_574 : BitVec 32 := 1#32
  let v733 : BitVec 32 := Scalar.addi v732 c1_i32_574
  let v747 : Index := Scalar.indexCast v733
  let c0_588 : Index := 0#32
  let c0_589 : Index := 0#32
  ![0, v747.toNat, 0, 0]
def k0_mult15 (k0_t1 : Fin k0_t1_loop.trips) (k0_t3 : Fin (k0_t3_loop k0_t1).trips) : BitVec 32 :=
  let c2_i32_600 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v765 : BitVec 32 := Scalar.muli c2_i32_600 arg9
  let c2_i32_601 : BitVec 32 := 2#32
  let v766 : BitVec 32 := Scalar.addi v765 c2_i32_601
  let c256_i32_602 : BitVec 32 := 256#32
  let v767 : BitVec 32 := Scalar.muli v766 c256_i32_602
  v767
def k0_off30 (k0_t1 : Fin k0_t1_loop.trips) (k0_t3 : Fin (k0_t3_loop k0_t1).trips) : Fin 4 → Nat :=
  let c0_627 : Index := 0#32
  let c2_i32_613 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v779 : BitVec 32 := Scalar.muli c2_i32_613 arg9
  let c1_i32_614 : BitVec 32 := 1#32
  let v780 : BitVec 32 := Scalar.addi v779 c1_i32_614
  let v794 : Index := Scalar.indexCast v780
  let c64_628 : Index := 64#32
  let c0_629 : Index := 0#32
  ![0, v794.toNat, 64, 0]
def k0_mult16 (k0_t1 : Fin k0_t1_loop.trips) (k0_t3 : Fin (k0_t3_loop k0_t1).trips) : BitVec 32 :=
  let c2_i32_640 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v812 : BitVec 32 := Scalar.muli c2_i32_640 arg9
  let c2_i32_641 : BitVec 32 := 2#32
  let v813 : BitVec 32 := Scalar.addi v812 c2_i32_641
  let c256_i32_642 : BitVec 32 := 256#32
  let v814 : BitVec 32 := Scalar.muli v813 c256_i32_642
  v814
def k0_off31 (k0_t1 : Fin k0_t1_loop.trips) (k0_t3 : Fin (k0_t3_loop k0_t1).trips) : Fin 4 → Nat :=
  let c0_667 : Index := 0#32
  let c2_i32_653 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v826 : BitVec 32 := Scalar.muli c2_i32_653 arg9
  let c1_i32_654 : BitVec 32 := 1#32
  let v827 : BitVec 32 := Scalar.addi v826 c1_i32_654
  let v841 : Index := Scalar.indexCast v827
  let c128_668 : Index := 128#32
  let c0_669 : Index := 0#32
  ![0, v841.toNat, 128, 0]
def k0_mult17 (k0_t1 : Fin k0_t1_loop.trips) (k0_t3 : Fin (k0_t3_loop k0_t1).trips) : BitVec 32 :=
  let c2_i32_680 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v859 : BitVec 32 := Scalar.muli c2_i32_680 arg9
  let c2_i32_681 : BitVec 32 := 2#32
  let v860 : BitVec 32 := Scalar.addi v859 c2_i32_681
  let c256_i32_682 : BitVec 32 := 256#32
  let v861 : BitVec 32 := Scalar.muli v860 c256_i32_682
  v861
def k0_off32 (k0_t1 : Fin k0_t1_loop.trips) (k0_t3 : Fin (k0_t3_loop k0_t1).trips) : Fin 4 → Nat :=
  let c0_707 : Index := 0#32
  let c2_i32_693 : BitVec 32 := 2#32
  let c0_i32_62 : BitVec 32 := 0#32
  let c0_i32_50 : BitVec 32 := 0#32
  let c1_i32_51 : BitVec 32 := 1#32
  let arg8 : BitVec 32 := Scf.iv c0_i32_50 c1_i32_51 k0_t1
  let v103 : BitVec 32 := Scalar.subi arg8 c0_i32_62
  let c1_i32_63 : BitVec 32 := 1#32
  let v105 : BitVec 32 := Scalar.divsi v103 c1_i32_63
  let v106 : BitVec 32 := Scalar.muli v105 c1_i32_63
  let v107 : BitVec 32 := Scalar.addi c0_i32_62 v106
  let c1_i32_65 : BitVec 32 := 1#32
  let arg9 : BitVec 32 := Scf.iv v107 c1_i32_65 k0_t3
  let v873 : BitVec 32 := Scalar.muli c2_i32_693 arg9
  let c1_i32_694 : BitVec 32 := 1#32
  let v874 : BitVec 32 := Scalar.addi v873 c1_i32_694
  let v888 : Index := Scalar.indexCast v874
  let c192_708 : Index := 192#32
  let c0_709 : Index := 0#32
  ![0, v888.toNat, 192, 0]
def k0_mult18 (k0_t1 : Fin k0_t1_loop.trips) : BitVec 32 :=
  let c2_i32 : BitVec 32 := 2#32
  let c0_i32_50 : BitVec 32 := 0#32
  let c1_i32_51 : BitVec 32 := 1#32
  let arg8 : BitVec 32 := Scf.iv c0_i32_50 c1_i32_51 k0_t1
  let v108 : BitVec 32 := Scalar.muli c2_i32 arg8
  let c1_i32_66 : BitVec 32 := 1#32
  let v109 : BitVec 32 := Scalar.addi v108 c1_i32_66
  let c256_i32 : BitVec 32 := 256#32
  let v110 : BitVec 32 := Scalar.muli v109 c256_i32
  v110
def k0_off33 (k0_t1 : Fin k0_t1_loop.trips) : Fin 3 → Nat :=
  let c0_67 : Index := 0#32
  let c2_i32 : BitVec 32 := 2#32
  let c0_i32_50 : BitVec 32 := 0#32
  let c1_i32_51 : BitVec 32 := 1#32
  let arg8 : BitVec 32 := Scf.iv c0_i32_50 c1_i32_51 k0_t1
  let v108 : BitVec 32 := Scalar.muli c2_i32 arg8
  let c1_i32_66 : BitVec 32 := 1#32
  let v109 : BitVec 32 := Scalar.addi v108 c1_i32_66
  let c256_i32 : BitVec 32 := 256#32
  let v110 : BitVec 32 := Scalar.muli v109 c256_i32
  let v111 : BitVec 32 := v110
  let v112 : Index := Scalar.indexCast v111
  let c0_68 : Index := 0#32
  ![0, v112.toNat, 0]
def k0_off34 (k0_t1 : Fin k0_t1_loop.trips) : Fin 4 → Nat :=
  let c0_69 : Index := 0#32
  let c0_i32_50 : BitVec 32 := 0#32
  let c1_i32_51 : BitVec 32 := 1#32
  let arg8 : BitVec 32 := Scf.iv c0_i32_50 c1_i32_51 k0_t1
  let v115 : Index := Scalar.indexCast arg8
  let c0_70 : Index := 0#32
  let c256_71 : Index := 256#32
  ![0, v115.toNat, 0, 256]
def k0_off35 (k0_t1 : Fin k0_t1_loop.trips) : Fin 4 → Nat :=
  let c0_92 : Index := 0#32
  let c2_i32_77 : BitVec 32 := 2#32
  let c0_i32_50 : BitVec 32 := 0#32
  let c1_i32_51 : BitVec 32 := 1#32
  let arg8 : BitVec 32 := Scf.iv c0_i32_50 c1_i32_51 k0_t1
  let v122 : BitVec 32 := Scalar.muli c2_i32_77 arg8
  let v140 : Index := Scalar.indexCast v122
  let c0_93 : Index := 0#32
  let c0_94 : Index := 0#32
  ![0, v140.toNat, 0, 0]
def k0_mult19 (k0_t1 : Fin k0_t1_loop.trips) : BitVec 32 :=
  let c2_i32_105 : BitVec 32 := 2#32
  let c0_i32_50 : BitVec 32 := 0#32
  let c1_i32_51 : BitVec 32 := 1#32
  let arg8 : BitVec 32 := Scf.iv c0_i32_50 c1_i32_51 k0_t1
  let v158 : BitVec 32 := Scalar.muli c2_i32_105 arg8
  let c1_i32_106 : BitVec 32 := 1#32
  let v159 : BitVec 32 := Scalar.addi v158 c1_i32_106
  let c256_i32_107 : BitVec 32 := 256#32
  let v160 : BitVec 32 := Scalar.muli v159 c256_i32_107
  v160
def k0_off36 (k0_t1 : Fin k0_t1_loop.trips) : Fin 3 → Nat :=
  let c0_108 : Index := 0#32
  let c2_i32_105 : BitVec 32 := 2#32
  let c0_i32_50 : BitVec 32 := 0#32
  let c1_i32_51 : BitVec 32 := 1#32
  let arg8 : BitVec 32 := Scf.iv c0_i32_50 c1_i32_51 k0_t1
  let v158 : BitVec 32 := Scalar.muli c2_i32_105 arg8
  let c1_i32_106 : BitVec 32 := 1#32
  let v159 : BitVec 32 := Scalar.addi v158 c1_i32_106
  let c256_i32_107 : BitVec 32 := 256#32
  let v160 : BitVec 32 := Scalar.muli v159 c256_i32_107
  let v161 : BitVec 32 := v160
  let v162 : Index := Scalar.indexCast v161
  let c128_109 : Index := 128#32
  ![0, v162.toNat, 128]
def k0_off37 (k0_t1 : Fin k0_t1_loop.trips) : Fin 4 → Nat :=
  let c0_110 : Index := 0#32
  let c0_i32_50 : BitVec 32 := 0#32
  let c1_i32_51 : BitVec 32 := 1#32
  let arg8 : BitVec 32 := Scf.iv c0_i32_50 c1_i32_51 k0_t1
  let v165 : Index := Scalar.indexCast arg8
  let c128_111 : Index := 128#32
  let c256_112 : Index := 256#32
  ![0, v165.toNat, 128, 256]
def k0_off38 (k0_t1 : Fin k0_t1_loop.trips) : Fin 4 → Nat :=
  let c0_133 : Index := 0#32
  let c2_i32_118 : BitVec 32 := 2#32
  let c0_i32_50 : BitVec 32 := 0#32
  let c1_i32_51 : BitVec 32 := 1#32
  let arg8 : BitVec 32 := Scf.iv c0_i32_50 c1_i32_51 k0_t1
  let v172 : BitVec 32 := Scalar.muli c2_i32_118 arg8
  let v190 : Index := Scalar.indexCast v172
  let c64 : Index := 64#32
  let c0_134 : Index := 0#32
  ![0, v190.toNat, 64, 0]
def k0_mult20 (k0_t1 : Fin k0_t1_loop.trips) : BitVec 32 :=
  let c2_i32_145 : BitVec 32 := 2#32
  let c0_i32_50 : BitVec 32 := 0#32
  let c1_i32_51 : BitVec 32 := 1#32
  let arg8 : BitVec 32 := Scf.iv c0_i32_50 c1_i32_51 k0_t1
  let v208 : BitVec 32 := Scalar.muli c2_i32_145 arg8
  let c1_i32_146 : BitVec 32 := 1#32
  let v209 : BitVec 32 := Scalar.addi v208 c1_i32_146
  let c256_i32_147 : BitVec 32 := 256#32
  let v210 : BitVec 32 := Scalar.muli v209 c256_i32_147
  v210
def k0_off39 (k0_t1 : Fin k0_t1_loop.trips) : Fin 3 → Nat :=
  let c0_148 : Index := 0#32
  let c2_i32_145 : BitVec 32 := 2#32
  let c0_i32_50 : BitVec 32 := 0#32
  let c1_i32_51 : BitVec 32 := 1#32
  let arg8 : BitVec 32 := Scf.iv c0_i32_50 c1_i32_51 k0_t1
  let v208 : BitVec 32 := Scalar.muli c2_i32_145 arg8
  let c1_i32_146 : BitVec 32 := 1#32
  let v209 : BitVec 32 := Scalar.addi v208 c1_i32_146
  let c256_i32_147 : BitVec 32 := 256#32
  let v210 : BitVec 32 := Scalar.muli v209 c256_i32_147
  let v211 : BitVec 32 := v210
  let v212 : Index := Scalar.indexCast v211
  let c256_149 : Index := 256#32
  ![0, v212.toNat, 256]
def k0_off40 (k0_t1 : Fin k0_t1_loop.trips) : Fin 4 → Nat :=
  let c0_150 : Index := 0#32
  let c0_i32_50 : BitVec 32 := 0#32
  let c1_i32_51 : BitVec 32 := 1#32
  let arg8 : BitVec 32 := Scf.iv c0_i32_50 c1_i32_51 k0_t1
  let v215 : Index := Scalar.indexCast arg8
  let c256_151 : Index := 256#32
  let c256_152 : Index := 256#32
  ![0, v215.toNat, 256, 256]
def k0_off41 (k0_t1 : Fin k0_t1_loop.trips) : Fin 4 → Nat :=
  let c0_173 : Index := 0#32
  let c2_i32_158 : BitVec 32 := 2#32
  let c0_i32_50 : BitVec 32 := 0#32
  let c1_i32_51 : BitVec 32 := 1#32
  let arg8 : BitVec 32 := Scf.iv c0_i32_50 c1_i32_51 k0_t1
  let v222 : BitVec 32 := Scalar.muli c2_i32_158 arg8
  let v240 : Index := Scalar.indexCast v222
  let c128_174 : Index := 128#32
  let c0_175 : Index := 0#32
  ![0, v240.toNat, 128, 0]
def k0_mult21 (k0_t1 : Fin k0_t1_loop.trips) : BitVec 32 :=
  let c2_i32_186 : BitVec 32 := 2#32
  let c0_i32_50 : BitVec 32 := 0#32
  let c1_i32_51 : BitVec 32 := 1#32
  let arg8 : BitVec 32 := Scf.iv c0_i32_50 c1_i32_51 k0_t1
  let v258 : BitVec 32 := Scalar.muli c2_i32_186 arg8
  let c1_i32_187 : BitVec 32 := 1#32
  let v259 : BitVec 32 := Scalar.addi v258 c1_i32_187
  let c256_i32_188 : BitVec 32 := 256#32
  let v260 : BitVec 32 := Scalar.muli v259 c256_i32_188
  v260
def k0_off42 (k0_t1 : Fin k0_t1_loop.trips) : Fin 3 → Nat :=
  let c0_189 : Index := 0#32
  let c2_i32_186 : BitVec 32 := 2#32
  let c0_i32_50 : BitVec 32 := 0#32
  let c1_i32_51 : BitVec 32 := 1#32
  let arg8 : BitVec 32 := Scf.iv c0_i32_50 c1_i32_51 k0_t1
  let v258 : BitVec 32 := Scalar.muli c2_i32_186 arg8
  let c1_i32_187 : BitVec 32 := 1#32
  let v259 : BitVec 32 := Scalar.addi v258 c1_i32_187
  let c256_i32_188 : BitVec 32 := 256#32
  let v260 : BitVec 32 := Scalar.muli v259 c256_i32_188
  let v261 : BitVec 32 := v260
  let v262 : Index := Scalar.indexCast v261
  let c384_190 : Index := 384#32
  ![0, v262.toNat, 384]
def k0_off43 (k0_t1 : Fin k0_t1_loop.trips) : Fin 4 → Nat :=
  let c0_191 : Index := 0#32
  let c0_i32_50 : BitVec 32 := 0#32
  let c1_i32_51 : BitVec 32 := 1#32
  let arg8 : BitVec 32 := Scf.iv c0_i32_50 c1_i32_51 k0_t1
  let v265 : Index := Scalar.indexCast arg8
  let c384_192 : Index := 384#32
  let c256_193 : Index := 256#32
  ![0, v265.toNat, 384, 256]
def k0_off44 (k0_t1 : Fin k0_t1_loop.trips) : Fin 4 → Nat :=
  let c0_214 : Index := 0#32
  let c2_i32_199 : BitVec 32 := 2#32
  let c0_i32_50 : BitVec 32 := 0#32
  let c1_i32_51 : BitVec 32 := 1#32
  let arg8 : BitVec 32 := Scf.iv c0_i32_50 c1_i32_51 k0_t1
  let v272 : BitVec 32 := Scalar.muli c2_i32_199 arg8
  let v290 : Index := Scalar.indexCast v272
  let c192 : Index := 192#32
  let c0_215 : Index := 0#32
  ![0, v290.toNat, 192, 0]
def k0_off45 (k0_t1 : Fin k0_t1_loop.trips) : Fin 4 → Nat :=
  let c0_242 : Index := 0#32
  let c2_i32_226 : BitVec 32 := 2#32
  let c0_i32_50 : BitVec 32 := 0#32
  let c1_i32_51 : BitVec 32 := 1#32
  let arg8 : BitVec 32 := Scf.iv c0_i32_50 c1_i32_51 k0_t1
  let v308 : BitVec 32 := Scalar.muli c2_i32_226 arg8
  let c1_i32_227 : BitVec 32 := 1#32
  let v309 : BitVec 32 := Scalar.addi v308 c1_i32_227
  let v329 : Index := Scalar.indexCast v309
  let c0_243 : Index := 0#32
  let c0_244 : Index := 0#32
  ![0, v329.toNat, 0, 0]
def k0_off46 (k0_t1 : Fin k0_t1_loop.trips) : Fin 4 → Nat :=
  let c0_269 : Index := 0#32
  let c2_i32_226 : BitVec 32 := 2#32
  let c0_i32_50 : BitVec 32 := 0#32
  let c1_i32_51 : BitVec 32 := 1#32
  let arg8 : BitVec 32 := Scf.iv c0_i32_50 c1_i32_51 k0_t1
  let v308 : BitVec 32 := Scalar.muli c2_i32_226 arg8
  let c1_i32_227 : BitVec 32 := 1#32
  let v309 : BitVec 32 := Scalar.addi v308 c1_i32_227
  let v366 : Index := Scalar.indexCast v309
  let c64_270 : Index := 64#32
  let c0_271 : Index := 0#32
  ![0, v366.toNat, 64, 0]
def k0_off47 (k0_t1 : Fin k0_t1_loop.trips) : Fin 4 → Nat :=
  let c0_296 : Index := 0#32
  let c2_i32_226 : BitVec 32 := 2#32
  let c0_i32_50 : BitVec 32 := 0#32
  let c1_i32_51 : BitVec 32 := 1#32
  let arg8 : BitVec 32 := Scf.iv c0_i32_50 c1_i32_51 k0_t1
  let v308 : BitVec 32 := Scalar.muli c2_i32_226 arg8
  let c1_i32_227 : BitVec 32 := 1#32
  let v309 : BitVec 32 := Scalar.addi v308 c1_i32_227
  let v403 : Index := Scalar.indexCast v309
  let c128_297 : Index := 128#32
  let c0_298 : Index := 0#32
  ![0, v403.toNat, 128, 0]
def k0_off48 (k0_t1 : Fin k0_t1_loop.trips) : Fin 4 → Nat :=
  let c0_323 : Index := 0#32
  let c2_i32_226 : BitVec 32 := 2#32
  let c0_i32_50 : BitVec 32 := 0#32
  let c1_i32_51 : BitVec 32 := 1#32
  let arg8 : BitVec 32 := Scf.iv c0_i32_50 c1_i32_51 k0_t1
  let v308 : BitVec 32 := Scalar.muli c2_i32_226 arg8
  let c1_i32_227 : BitVec 32 := 1#32
  let v309 : BitVec 32 := Scalar.addi v308 c1_i32_227
  let v440 : Index := Scalar.indexCast v309
  let c192_324 : Index := 192#32
  let c0_325 : Index := 0#32
  ![0, v440.toNat, 192, 0]
def k0_mult22 : BitVec 32 :=
  let c0_i32_337 : BitVec 32 := 0#32
  c0_i32_337
def k0_off49 (k0_t1 : Fin k0_t1_loop.trips) : Fin 4 → Nat :=
  let c0_340 : Index := 0#32
  let c0_i32_50 : BitVec 32 := 0#32
  let c1_i32_51 : BitVec 32 := 1#32
  let arg8 : BitVec 32 := Scf.iv c0_i32_50 c1_i32_51 k0_t1
  let c1_i32_336 : BitVec 32 := 1#32
  let v458 : BitVec 32 := Scalar.addi arg8 c1_i32_336
  let c7_i32 : BitVec 32 := 7#32
  let v459 : BitVec 32 := Scalar.minsi v458 c7_i32
  let v464 : Index := Scalar.indexCast v459
  let c0_341 : Index := 0#32
  let c0_342 : Index := 0#32
  ![0, v464.toNat, 0, 0]
def k0_off50 (k0_t1 : Fin k0_t1_loop.trips) : Fin 4 → Nat :=
  let c0_350 : Index := 0#32
  let c0_i32_50 : BitVec 32 := 0#32
  let c1_i32_51 : BitVec 32 := 1#32
  let arg8 : BitVec 32 := Scf.iv c0_i32_50 c1_i32_51 k0_t1
  let c1_i32_336 : BitVec 32 := 1#32
  let v458 : BitVec 32 := Scalar.addi arg8 c1_i32_336
  let c7_i32 : BitVec 32 := 7#32
  let v459 : BitVec 32 := Scalar.minsi v458 c7_i32
  let v474 : Index := Scalar.indexCast v459
  let c128_351 : Index := 128#32
  let c0_352 : Index := 0#32
  ![0, v474.toNat, 128, 0]
def k0_off51 (k0_t1 : Fin k0_t1_loop.trips) : Fin 4 → Nat :=
  let c0_360 : Index := 0#32
  let c0_i32_50 : BitVec 32 := 0#32
  let c1_i32_51 : BitVec 32 := 1#32
  let arg8 : BitVec 32 := Scf.iv c0_i32_50 c1_i32_51 k0_t1
  let c1_i32_336 : BitVec 32 := 1#32
  let v458 : BitVec 32 := Scalar.addi arg8 c1_i32_336
  let c7_i32 : BitVec 32 := 7#32
  let v459 : BitVec 32 := Scalar.minsi v458 c7_i32
  let v484 : Index := Scalar.indexCast v459
  let c256_361 : Index := 256#32
  let c0_362 : Index := 0#32
  ![0, v484.toNat, 256, 0]
def k0_off52 (k0_t1 : Fin k0_t1_loop.trips) : Fin 4 → Nat :=
  let c0_370 : Index := 0#32
  let c0_i32_50 : BitVec 32 := 0#32
  let c1_i32_51 : BitVec 32 := 1#32
  let arg8 : BitVec 32 := Scf.iv c0_i32_50 c1_i32_51 k0_t1
  let c1_i32_336 : BitVec 32 := 1#32
  let v458 : BitVec 32 := Scalar.addi arg8 c1_i32_336
  let c7_i32 : BitVec 32 := 7#32
  let v459 : BitVec 32 := Scalar.minsi v458 c7_i32
  let v494 : Index := Scalar.indexCast v459
  let c384_371 : Index := 384#32
  let c0_372 : Index := 0#32
  ![0, v494.toNat, 384, 0]
def k0_mult23 (k0_t1 : Fin k0_t1_loop.trips) : BitVec 32 :=
  let c0_i32_50 : BitVec 32 := 0#32
  let c1_i32_51 : BitVec 32 := 1#32
  let arg8 : BitVec 32 := Scf.iv c0_i32_50 c1_i32_51 k0_t1
  let c512_i32 : BitVec 32 := 512#32
  let v526 : BitVec 32 := Scalar.muli arg8 c512_i32
  v526
def k0_off53 (k0_t1 : Fin k0_t1_loop.trips) : Fin 3 → Nat :=
  let c0_402 : Index := 0#32
  let c0_i32_50 : BitVec 32 := 0#32
  let c1_i32_51 : BitVec 32 := 1#32
  let arg8 : BitVec 32 := Scf.iv c0_i32_50 c1_i32_51 k0_t1
  let c512_i32 : BitVec 32 := 512#32
  let v526 : BitVec 32 := Scalar.muli arg8 c512_i32
  let v527 : BitVec 32 := v526
  let v530 : Index := Scalar.indexCast v527
  let c0_403 : Index := 0#32
  ![0, v530.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x8x512x512 : Shape := ⟨4, ![4, 8, 512, 512]⟩
abbrev S4x4096x512 : Shape := ⟨3, ![4, 4096, 512]⟩
abbrev S4x16x256x256 : Shape := ⟨4, ![4, 16, 256, 256]⟩
abbrev S4x4096x4x128 : Shape := ⟨4, ![4, 4096, 4, 128]⟩
abbrev S4x4096x4x64 : Shape := ⟨4, ![4, 4096, 4, 64]⟩
abbrev S4096 : Shape := ⟨1, ![4096]⟩
abbrev S_ : Shape := ⟨0, ![]⟩
abbrev S4x4x4096x4096 : Shape := ⟨4, ![4, 4, 4096, 4096]⟩
abbrev S1x4096 : Shape := ⟨2, ![1, 4096]⟩
abbrev S4096x1 : Shape := ⟨2, ![4096, 1]⟩
abbrev S4096x4096 : Shape := ⟨2, ![4096, 4096]⟩
abbrev S4x4x4096 : Shape := ⟨3, ![4, 4, 4096]⟩
abbrev S4x4x4096x1 : Shape := ⟨4, ![4, 4, 4096, 1]⟩
abbrev S4x4x64x4096 : Shape := ⟨4, ![4, 4, 64, 4096]⟩
abbrev S4x4096x256 : Shape := ⟨3, ![4, 4096, 256]⟩

abbrev nBuf : Space → Nat
  | .hbm => 64
  | .vmem => 0
  | .smem => 0
  | _ => 0

abbrev bufTy : (tb : Table) → Fin (tcTables nBuf tb) → BufTy
  | .hbm, ⟨0, _⟩ => ⟨S4x8x512x512, .bf16⟩
  | .hbm, ⟨1, _⟩ => ⟨S4x4096x512, .bf16⟩
  | .hbm, ⟨2, _⟩ => ⟨S4x16x256x256, .bf16⟩
  | .hbm, ⟨3, _⟩ => ⟨S4x8x512x512, .f32⟩
  | .hbm, ⟨4, _⟩ => ⟨S4x8x512x512, .f32⟩
  | .hbm, ⟨5, _⟩ => ⟨S4x4096x4x128, .f32⟩
  | .hbm, ⟨6, _⟩ => ⟨S4x4096x512, .f32⟩
  | .hbm, ⟨7, _⟩ => ⟨S4x4096x4x128, .f32⟩
  | .hbm, ⟨8, _⟩ => ⟨S4x16x256x256, .f32⟩
  | .hbm, ⟨9, _⟩ => ⟨S4x16x256x256, .f32⟩
  | .hbm, ⟨10, _⟩ => ⟨S4x4096x4x64, .f32⟩
  | .hbm, ⟨11, _⟩ => ⟨S4096, .i32⟩
  | .hbm, ⟨12, _⟩ => ⟨S_, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4x4x4096x4096, .f32⟩
  | .hbm, ⟨31, _⟩ => ⟨S1x4096, .i32⟩
  | .hbm, ⟨32, _⟩ => ⟨S4096x1, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S_, .f32⟩
  | .hbm, ⟨37, _⟩ => ⟨S_, .f32⟩
  | .hbm, ⟨38, _⟩ => ⟨S4x4x4096x4096, .i1⟩
  | .hbm, ⟨39, _⟩ => ⟨S4x4x4096x4096, .f32⟩
  | .hbm, ⟨40, _⟩ => ⟨S4x4x4096x4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4x4x4096x4096, .f32⟩
  | .hbm, ⟨45, _⟩ => ⟨S4x4x4096x4096, .f32⟩
  | .hbm, ⟨46, _⟩ => ⟨S_, .f32⟩
  | .hbm, ⟨47, _⟩ => ⟨S4x4x4096, .f32⟩
  | .hbm, ⟨48, _⟩ => ⟨S_, .f32⟩
  | .hbm, ⟨49, _⟩ => ⟨S4x4x4096, .f32⟩
  | .hbm, ⟨50, _⟩ => ⟨S4x4x4096, .f32⟩
  | .hbm, ⟨51, _⟩ => ⟨S4x4x4096x1, .f32⟩
  | .hbm, ⟨52, _⟩ => ⟨S4x4x4096x4096, .f32⟩
  | .hbm, ⟨53, _⟩ => ⟨S4x4x4096x4096, .f32⟩
  | .hbm, ⟨54, _⟩ => ⟨S4x4x4096x4096, .f32⟩
  | .hbm, ⟨55, _⟩ => ⟨S_, .f32⟩
  | .hbm, ⟨56, _⟩ => ⟨S4x4x4096, .f32⟩
  | .hbm, ⟨57, _⟩ => ⟨S4x4x4096x1, .f32⟩
  | .hbm, ⟨58, _⟩ => ⟨S4x4x4096x4096, .f32⟩
  | .hbm, ⟨59, _⟩ => ⟨S4x4x4096x4096, .f32⟩
  | .hbm, ⟨60, _⟩ => ⟨S4x4x64x4096, .f32⟩
  | .hbm, ⟨61, _⟩ => ⟨S4x4096x4x64, .f32⟩
  | .hbm, ⟨62, _⟩ => ⟨S4x4096x256, .f32⟩
  | .hbm, ⟨63, _⟩ => ⟨S4x4096x256, .bf16⟩
  | _, _ => ⟨S4x8x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v16 : Ref sig .tc := ⟨.hbm, 40, rfl⟩
abbrev main_cst_0 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_1 : Ref sig .tc := ⟨.hbm, 46, rfl⟩
abbrev main_v21 : Ref sig .tc := ⟨.hbm, 47, rfl⟩
abbrev main_cst_2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_3 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩

abbrev nD : Nat := 1
abbrev τ : Topo := Topo.v7x

variable {F : FTy → Type} [FloatOps F]
-- ==== FfnPle.lean ====
abbrev S16384x1024 : Shape := ⟨2, ![16384, 1024]⟩
abbrev S2x16384x256 : Shape := ⟨3, ![2, 16384, 256]⟩
abbrev S1024x5632 : Shape := ⟨2, ![1024, 5632]⟩
abbrev S2816x1024 : Shape := ⟨2, ![2816, 1024]⟩
abbrev S1024x1024 : Shape := ⟨2, ![1024, 1024]⟩
abbrev S2x256x1024 : Shape := ⟨3, ![2, 256, 1024]⟩
abbrev S2x1x1024 : Shape := ⟨3, ![2, 1, 1024]⟩
abbrev S1x1024x256 : Shape := ⟨3, ![1, 1024, 256]⟩
abbrev S1x256x1024 : Shape := ⟨3, ![1, 256, 1024]⟩
abbrev S1x1x1024 : Shape := ⟨3, ![1, 1, 1024]⟩
abbrev S256x1024 : Shape := ⟨2, ![256, 1024]⟩
abbrev S1024x2816 : Shape := ⟨2, ![1024, 2816]⟩
abbrev S256x2816 : Shape := ⟨2, ![256, 2816]⟩
abbrev S1x256x256 : Shape := ⟨3, ![1, 256, 256]⟩
abbrev S256x256 : Shape := ⟨2, ![256, 256]⟩
abbrev S1x1024 : Shape := ⟨2, ![1, 1024]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S2x16384x256, .f32⟩
  | .hbm, ⟨2, _⟩ => ⟨S1024x5632, .bf16⟩
  | .hbm, ⟨3, _⟩ => ⟨S2816x1024, .bf16⟩
  | .hbm, ⟨4, _⟩ => ⟨S1024x1024, .bf16⟩
  | .hbm, ⟨5, _⟩ => ⟨S2x256x1024, .bf16⟩
  | .hbm, ⟨6, _⟩ => ⟨S2x1x1024, .f32⟩
  | .hbm, ⟨7, _⟩ => ⟨S2x1x1024, .f32⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1024x5632, .bf16⟩
  | .local _ .vmem, ⟨5, _⟩ => ⟨S2816x1024, .bf16⟩
  | .local _ .vmem, ⟨6, _⟩ => ⟨S1024x1024, .bf16⟩
  | .local _ .vmem, ⟨7, _⟩ => ⟨S1x256x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1024x1024, .f32⟩
  | .local _ .vmem, ⟨11, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnPleRefIdeal.lean ====
abbrev S16384x1024 : Shape := ⟨2, ![16384, 1024]⟩
abbrev S2x16384x256 : Shape := ⟨3, ![2, 16384, 256]⟩
abbrev S1024x5632 : Shape := ⟨2, ![1024, 5632]⟩
abbrev S2816x1024 : Shape := ⟨2, ![2816, 1024]⟩
abbrev S1024x1024 : Shape := ⟨2, ![1024, 1024]⟩
abbrev S2x256x1024 : Shape := ⟨3, ![2, 256, 1024]⟩
abbrev S2x1x1024 : Shape := ⟨3, ![2, 1, 1024]⟩
abbrev S_ : Shape := ⟨0, ![]⟩
abbrev S1x16384x256 : Shape := ⟨3, ![1, 16384, 256]⟩
abbrev S16384x256 : Shape := ⟨2, ![16384, 256]⟩
abbrev S1x256x1024 : Shape := ⟨3, ![1, 256, 1024]⟩
abbrev S256x1024 : Shape := ⟨2, ![256, 1024]⟩
abbrev S16384x5632 : Shape := ⟨2, ![16384, 5632]⟩
abbrev S16384x2816 : Shape := ⟨2, ![16384, 2816]⟩
abbrev S1x1x1024 : Shape := ⟨3, ![1, 1, 1024]⟩
abbrev S1x1024 : Shape := ⟨2, ![1, 1024]⟩
abbrev S16384 : Shape := ⟨1, ![16384]⟩
abbrev S16384x1 : Shape := ⟨2, ![16384, 1]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x16384x256, .f32⟩
  | .hbm, ⟨2, _⟩ => ⟨S1024x5632, .bf16⟩
  | .hbm, ⟨3, _⟩ => ⟨S2816x1024, .bf16⟩
  | .hbm, ⟨4, _⟩ => ⟨S1024x1024, .bf16⟩
  | .hbm, ⟨5, _⟩ => ⟨S2x256x1024, .bf16⟩
  | .hbm, ⟨6, _⟩ => ⟨S2x1x1024, .f32⟩
  | .hbm, ⟨7, _⟩ => ⟨S2x1x1024, .f32⟩
  | .hbm, ⟨8, _⟩ => ⟨S1024x5632, .f32⟩
  | .hbm, ⟨9, _⟩ => ⟨S2816x1024, .f32⟩
  | .hbm, ⟨10, _⟩ => ⟨S1024x1024, .f32⟩
  | .hbm, ⟨11, _⟩ => ⟨S2x256x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S1x16384x256, .f32⟩
  | .hbm, ⟨22, _⟩ => ⟨S16384x256, .f32⟩
  | .hbm, ⟨23, _⟩ => ⟨S1x256x1024, .f32⟩
  | .hbm, ⟨24, _⟩ => ⟨S256x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x5632, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S1x1x1024, .f32⟩
  | .hbm, ⟨50, _⟩ => ⟨S1x1024, .f32⟩
  | .hbm, ⟨51, _⟩ => ⟨S1x1x1024, .f32⟩
  | .hbm, ⟨52, _⟩ => ⟨S1x1024, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩

abbrev nD : Nat := 1
abbrev τ : Topo := Topo.v7x

variable {F : FTy → Type} [FloatOps F]
-- ==== Ffn.lean ====
abbrev S16384x1024 : Shape := ⟨2, ![16384, 1024]⟩
abbrev S1024x5632 : Shape := ⟨2, ![1024, 5632]⟩
abbrev S2816x1024 : Shape := ⟨2, ![2816, 1024]⟩
abbrev S2x1x1024 : Shape := ⟨3, ![2, 1, 1024]⟩
abbrev S2x6304x1024 : Shape := ⟨3, ![2, 6304, 1024]⟩
abbrev S2x1024x1024 : Shape := ⟨3, ![2, 1024, 1024]⟩
abbrev S2304x1024 : Shape := ⟨2, ![2304, 1024]⟩
abbrev S1024x4096 : Shape := ⟨2, ![1024, 4096]⟩
abbrev S1024x1024 : Shape := ⟨2, ![1024, 1024]⟩
abbrev S1x1x1024 : Shape := ⟨3, ![1, 1, 1024]⟩
abbrev S1x144x1024 : Shape := ⟨3, ![1, 144, 1024]⟩
abbrev S1x256x1024 : Shape := ⟨3, ![1, 256, 1024]⟩
abbrev S1x64x1024 : Shape := ⟨3, ![1, 64, 1024]⟩
abbrev S144x1024 : Shape := ⟨2, ![144, 1024]⟩
abbrev S1024x256 : Shape := ⟨2, ![1024, 256]⟩
abbrev S64x1024 : Shape := ⟨2, ![64, 1024]⟩
abbrev S256x1024 : Shape := ⟨2, ![256, 1024]⟩
abbrev S1024x2816 : Shape := ⟨2, ![1024, 2816]⟩
abbrev S256x2816 : Shape := ⟨2, ![256, 2816]⟩
abbrev S1x1024 : Shape := ⟨2, ![1, 1024]⟩
abbrev S256 : Shape := ⟨1, ![256]⟩
abbrev S256x1 : Shape := ⟨2, ![256, 1]⟩
abbrev S1x96x1024 : Shape := ⟨3, ![1, 96, 1024]⟩
abbrev S96x1024 : Shape := ⟨2, ![96, 1024]⟩
abbrev S1x160x1024 : Shape := ⟨3, ![1, 160, 1024]⟩
abbrev S160x1024 : Shape := ⟨2, ![160, 1024]⟩

abbrev nBuf : Space → Nat
  | .hbm => 13
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S1024x5632, .bf16⟩
  | .hbm, ⟨2, _⟩ => ⟨S2816x1024, .bf16⟩
  | .hbm, ⟨3, _⟩ => ⟨S2x1x1024, .f32⟩
  | .hbm, ⟨4, _⟩ => ⟨S2x1x1024, .f32⟩
  | .hbm, ⟨5, _⟩ => ⟨S2x6304x1024, .f32⟩
  | .hbm, ⟨6, _⟩ => ⟨S2x1024x1024, .f32⟩
  | .hbm, ⟨7, _⟩ => ⟨S2x1024x1024, .f32⟩
  | .hbm, ⟨8, _⟩ => ⟨S16384x1024, .f32⟩
  | .hbm, ⟨9, _⟩ => ⟨S2304x1024, .bf16⟩
  | .hbm, ⟨10, _⟩ => ⟨S1024x4096, .bf16⟩
  | .hbm, ⟨11, _⟩ => ⟨S1024x1024, .bf16⟩
  | .hbm, ⟨12, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x144x1024, .f32⟩
  | .local _ .vmem, ⟨7, _⟩ => ⟨S1x144x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1024x1024, .f32⟩
  | .local _ .vmem, ⟨17, _⟩ => ⟨S1024x1024, .f32⟩
  | .local _ .vmem, ⟨18, _⟩ => ⟨S144x1024, .bf16⟩
  | .local _ .vmem, ⟨19, _⟩ => ⟨S144x1024, .bf16⟩
  | .local _ .vmem, ⟨20, _⟩ => ⟨S1024x256, .bf16⟩
  | .local _ .vmem, ⟨21, _⟩ => ⟨S1024x256, .bf16⟩
  | .local _ .vmem, ⟨22, _⟩ => ⟨S64x1024, .bf16⟩
  | .local _ .vmem, ⟨23, _⟩ => ⟨S64x1024, .bf16⟩
  | .local _ .vmem, ⟨24, _⟩ => ⟨S64x1024, .bf16⟩
  | .local _ .vmem, ⟨25, _⟩ => ⟨S64x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 3 → Nat :=
  let arg0 : BitVec 32 := BitVec.ofNat 32 (i 0).val
  let c8_i32 : BitVec 32 := 8#32
  let v0 : BitVec 32 := Scalar.addi c8_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x144x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S144x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FfnRefIdeal.lean ====
abbrev S16384x1024 : Shape := ⟨2, ![16384, 1024]⟩
abbrev S1024x5632 : Shape := ⟨2, ![1024, 5632]⟩
abbrev S2816x1024 : Shape := ⟨2, ![2816, 1024]⟩
abbrev S2x1x1024 : Shape := ⟨3, ![2, 1, 1024]⟩
abbrev S2x6304x1024 : Shape := ⟨3, ![2, 6304, 1024]⟩
abbrev S2x1024x1024 : Shape := ⟨3, ![2, 1024, 1024]⟩
abbrev S2x1024x6304 : Shape := ⟨3, ![2, 1024, 6304]⟩
abbrev S_ : Shape := ⟨0, ![]⟩
abbrev S16384x5632 : Shape := ⟨2, ![16384, 5632]⟩
abbrev S16384x2816 : Shape := ⟨2, ![16384, 2816]⟩
abbrev S1x1x1024 : Shape := ⟨3, ![1, 1, 1024]⟩
abbrev S1x1024 : Shape := ⟨2, ![1, 1024]⟩
abbrev S16384 : Shape := ⟨1, ![16384]⟩
abbrev S16384x1 : Shape := ⟨2, ![16384, 1]⟩
abbrev S1x2304x1024 : Shape := ⟨3, ![1, 2304, 1024]⟩
abbrev S2304x1024 : Shape := ⟨2, ![2304, 1024]⟩
abbrev S1x1024x4096 : Shape := ⟨3, ![1, 1024, 4096]⟩
abbrev S1024x4096 : Shape := ⟨2, ![1024, 4096]⟩
abbrev S1x1024x1024 : Shape := ⟨3, ![1, 1024, 1024]⟩
abbrev S1024x1024 : Shape := ⟨2, ![1024, 1024]⟩

abbrev nBuf : Space → Nat
  | .hbm => 75
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .bf16⟩
  | .hbm, ⟨2, _⟩ => ⟨S2816x1024, .bf16⟩
  | .hbm, ⟨3, _⟩ => ⟨S2x1x1024, .f32⟩
  | .hbm, ⟨4, _⟩ => ⟨S2x1x1024, .f32⟩
  | .hbm, ⟨5, _⟩ => ⟨S2x6304x1024, .f32⟩
  | .hbm, ⟨6, _⟩ => ⟨S2x1024x1024, .f32⟩
  | .hbm, ⟨7, _⟩ => ⟨S2x1024x1024, .f32⟩
  | .hbm, ⟨8, _⟩ => ⟨S1024x5632, .f32⟩
  | .hbm, ⟨9, _⟩ => ⟨S2816x1024, .f32⟩
  | .hbm, ⟨10, _⟩ => ⟨S2x1024x6304, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x5632, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S_, .f32⟩
  | .hbm, ⟨20, _⟩ => ⟨S16384x2816, .f32⟩
  | .hbm, ⟨21, _⟩ => ⟨S16384x2816, .f32⟩
  | .hbm, ⟨22, _⟩ => ⟨S_, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S1x1x1024, .f32⟩
  | .hbm, ⟨33, _⟩ => ⟨S1x1024, .f32⟩
  | .hbm, ⟨34, _⟩ => ⟨S1x1x1024, .f32⟩
  | .hbm, ⟨35, _⟩ => ⟨S1x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S1x2304x1024, .f32⟩
  | .hbm, ⟨64, _⟩ => ⟨S2304x1024, .f32⟩
  | .hbm, ⟨65, _⟩ => ⟨S2304x1024, .bf16⟩
  | .hbm, ⟨66, _⟩ => ⟨S1x1024x4096, .f32⟩
  | .hbm, ⟨67, _⟩ => ⟨S1024x4096, .f32⟩
  | .hbm, ⟨68, _⟩ => ⟨S1024x4096, .bf16⟩
  | .hbm, ⟨69, _⟩ => ⟨S1x1024x1024, .f32⟩
  | .hbm, ⟨70, _⟩ => ⟨S1024x1024, .f32⟩
  | .hbm, ⟨71, _⟩ => ⟨S1024x1024, .bf16⟩
  | .hbm, ⟨72, _⟩ => ⟨S1x1024x1024, .f32⟩
  | .hbm, ⟨73, _⟩ => ⟨S1024x1024, .f32⟩
  | .hbm, ⟨74, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]
-- ==== Merge.lean ====
abbrev S16384x1024 : Shape := ⟨2, ![16384, 1024]⟩
abbrev S16384x256 : Shape := ⟨2, ![16384, 256]⟩
abbrev S1024x4096 : Shape := ⟨2, ![1024, 4096]⟩
abbrev S1024x1024 : Shape := ⟨2, ![1024, 1024]⟩
abbrev S2x1x1024 : Shape := ⟨3, ![2, 1, 1024]⟩
abbrev S2x2816x1024 : Shape := ⟨3, ![2, 2816, 1024]⟩
abbrev S2816x1024 : Shape := ⟨2, ![2816, 1024]⟩
abbrev S1024x256 : Shape := ⟨2, ![1024, 256]⟩
abbrev S1x1x1024 : Shape := ⟨3, ![1, 1, 1024]⟩
abbrev S1x176x1024 : Shape := ⟨3, ![1, 176, 1024]⟩
abbrev S176x1024 : Shape := ⟨2, ![176, 1024]⟩
abbrev S256x1024 : Shape := ⟨2, ![256, 1024]⟩
abbrev S256x4096 : Shape := ⟨2, ![256, 4096]⟩
abbrev S256x256 : Shape := ⟨2, ![256, 256]⟩
abbrev S1x1024 : Shape := ⟨2, ![1, 1024]⟩
abbrev S256 : Shape := ⟨1, ![256]⟩
abbrev S256x1 : Shape := ⟨2, ![256, 1]⟩

abbrev nBuf : Space → Nat
  | .hbm => 15
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .bf16⟩
  | .hbm, ⟨3, _⟩ => ⟨S16384x256, .bf16⟩
  | .hbm, ⟨4, _⟩ => ⟨S16384x256, .bf16⟩
  | .hbm, ⟨5, _⟩ => ⟨S1024x4096, .bf16⟩
  | .hbm, ⟨6, _⟩ => ⟨S1024x1024, .bf16⟩
  | .hbm, ⟨7, _⟩ => ⟨S1024x1024, .bf16⟩
  | .hbm, ⟨8, _⟩ => ⟨S2x1x1024, .f32⟩
  | .hbm, ⟨9, _⟩ => ⟨S2x1x1024, .f32⟩
  | .hbm, ⟨10, _⟩ => ⟨S2x2816x1024, .f32⟩
  | .hbm, ⟨11, _⟩ => ⟨S2x2816x1024, .f32⟩
  | .hbm, ⟨12, _⟩ => ⟨S16384x1024, .f32⟩
  | .hbm, ⟨13, _⟩ => ⟨S2816x1024, .bf16⟩
  | .hbm, ⟨14, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x4096, .bf16⟩
  | .local _ .vmem, ⟨11, _⟩ => ⟨S1024x1024, .bf16⟩
  | .local _ .vmem, ⟨12, _⟩ => ⟨S1024x1024, .bf16⟩
  | .local _ .vmem, ⟨13, _⟩ => ⟨S1x1x1024, .f32⟩
  | .local _ .vmem, ⟨14, _⟩ => ⟨S1x1x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1024x1024, .f32⟩
  | .local _ .vmem, ⟨20, _⟩ => ⟨S1024x1024, .f32⟩
  | .local _ .vmem, ⟨21, _⟩ => ⟨S176x1024, .bf16⟩
  | .local _ .vmem, ⟨22, _⟩ => ⟨S176x1024, .bf16⟩
  | .local _ .vmem, ⟨23, _⟩ => ⟨S176x1024, .bf16⟩
  | .local _ .vmem, ⟨24, _⟩ => ⟨S176x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S176x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S16384x1024 : Shape := ⟨2, ![16384, 1024]⟩
abbrev S16384x256 : Shape := ⟨2, ![16384, 256]⟩
abbrev S1024x4096 : Shape := ⟨2, ![1024, 4096]⟩
abbrev S1024x1024 : Shape := ⟨2, ![1024, 1024]⟩
abbrev S2x1x1024 : Shape := ⟨3, ![2, 1, 1024]⟩
abbrev S2x2816x1024 : Shape := ⟨3, ![2, 2816, 1024]⟩
abbrev S16384x4096 : Shape := ⟨2, ![16384, 4096]⟩
abbrev S_ : Shape := ⟨0, ![]⟩
abbrev S256x1024 : Shape := ⟨2, ![256, 1024]⟩
abbrev S1x1x1024 : Shape := ⟨3, ![1, 1, 1024]⟩
abbrev S1x1024 : Shape := ⟨2, ![1, 1024]⟩
abbrev S16384 : Shape := ⟨1, ![16384]⟩
abbrev S16384x1 : Shape := ⟨2, ![16384, 1]⟩
abbrev S1x2816x1024 : Shape := ⟨3, ![1, 2816, 1024]⟩
abbrev S2816x1024 : Shape := ⟨2, ![2816, 1024]⟩

abbrev nBuf : Space → Nat
  | .hbm => 89
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .bf16⟩
  | .hbm, ⟨3, _⟩ => ⟨S16384x256, .bf16⟩
  | .hbm, ⟨4, _⟩ => ⟨S16384x256, .bf16⟩
  | .hbm, ⟨5, _⟩ => ⟨S1024x4096, .bf16⟩
  | .hbm, ⟨6, _⟩ => ⟨S1024x1024, .bf16⟩
  | .hbm, ⟨7, _⟩ => ⟨S1024x1024, .bf16⟩
  | .hbm, ⟨8, _⟩ => ⟨S2x1x1024, .f32⟩
  | .hbm, ⟨9, _⟩ => ⟨S2x1x1024, .f32⟩
  | .hbm, ⟨10, _⟩ => ⟨S2x2816x1024, .f32⟩
  | .hbm, ⟨11, _⟩ => ⟨S2x2816x1024, .f32⟩
  | .hbm, ⟨12, _⟩ => ⟨S1024x4096, .f32⟩
  | .hbm, ⟨13, _⟩ => ⟨S1024x1024, .f32⟩
  | .hbm, ⟨14, _⟩ => ⟨S1024x1024, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x1024, .f32⟩
  | .hbm, ⟨25, _⟩ => ⟨S16384x256, .f32⟩
  | .hbm, ⟨26, _⟩ => ⟨S256x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x256, .f32⟩
  | .hbm, ⟨31, _⟩ => ⟨S256x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x256, .f32⟩
  | .hbm, ⟨37, _⟩ => ⟨S256x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x256, .f32⟩
  | .hbm, ⟨43, _⟩ => ⟨S256x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S1x1x1024, .f32⟩
  | .hbm, ⟨53, _⟩ => ⟨S1x1024, .f32⟩
  | .hbm, ⟨54, _⟩ => ⟨S1x1x1024, .f32⟩
  | .hbm, ⟨55, _⟩ => ⟨S1x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S1x2816x1024, .f32⟩
  | .hbm, ⟨84, _⟩ => ⟨S2816x1024, .f32⟩
  | .hbm, ⟨85, _⟩ => ⟨S2816x1024, .bf16⟩
  | .hbm, ⟨86, _⟩ => ⟨S1x2816x1024, .f32⟩
  | .hbm, ⟨87, _⟩ => ⟨S2816x1024, .f32⟩
  | .hbm, ⟨88, _⟩ => ⟨S2816x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_1 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_2 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_6 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]
-- ==== Mix.lean ====
abbrev S4x4096x1024 : Shape := ⟨3, ![4, 4096, 1024]⟩
abbrev S2304x1024 : Shape := ⟨2, ![2304, 1024]⟩
abbrev S4x4096x128 : Shape := ⟨3, ![4, 4096, 128]⟩
abbrev S384x512 : Shape := ⟨2, ![384, 512]⟩
abbrev S2x1x256 : Shape := ⟨3, ![2, 1, 256]⟩
abbrev S2x4x128x128 : Shape := ⟨4, ![2, 4, 128, 128]⟩
abbrev S2x128x256 : Shape := ⟨3, ![2, 128, 256]⟩
abbrev S2x256x256 : Shape := ⟨3, ![2, 256, 256]⟩
abbrev S2x1x128 : Shape := ⟨3, ![2, 1, 128]⟩
abbrev S2x256x512 : Shape := ⟨3, ![2, 256, 512]⟩
abbrev S2x128x512 : Shape := ⟨3, ![2, 128, 512]⟩
abbrev S2x256x128 : Shape := ⟨3, ![2, 256, 128]⟩
abbrev S4x256x256 : Shape := ⟨3, ![4, 256, 256]⟩
abbrev S256x256 : Shape := ⟨2, ![256, 256]⟩
abbrev S2x1024x5632 : Shape := ⟨3, ![2, 1024, 5632]⟩
abbrev S2x1024x1024 : Shape := ⟨3, ![2, 1024, 1024]⟩
abbrev S4x4096x256 : Shape := ⟨3, ![4, 4096, 256]⟩
abbrev S4x8x512x512 : Shape := ⟨4, ![4, 8, 512, 512]⟩
abbrev S4x4096x512 : Shape := ⟨3, ![4, 4096, 512]⟩
abbrev S4x16x256x256 : Shape := ⟨4, ![4, 16, 256, 256]⟩
abbrev S1024x5632 : Shape := ⟨2, ![1024, 5632]⟩
abbrev S1024x1024 : Shape := ⟨2, ![1024, 1024]⟩
abbrev S1x1024x1024 : Shape := ⟨3, ![1, 1024, 1024]⟩
abbrev S1x1024x128 : Shape := ⟨3, ![1, 1024, 128]⟩
abbrev S1x1x256 : Shape := ⟨3, ![1, 1, 256]⟩
abbrev S1x4x128x128 : Shape := ⟨4, ![1, 4, 128, 128]⟩
abbrev S1x128x256 : Shape := ⟨3, ![1, 128, 256]⟩
abbrev S1x256x256 : Shape := ⟨3, ![1, 256, 256]⟩
abbrev S1x1x128 : Shape := ⟨3, ![1, 1, 128]⟩
abbrev S1x256x512 : Shape := ⟨3, ![1, 256, 512]⟩
abbrev S1x128x512 : Shape := ⟨3, ![1, 128, 512]⟩
abbrev S1x256x128 : Shape := ⟨3, ![1, 256, 128]⟩
abbrev S1x64x5632 : Shape := ⟨3, ![1, 64, 5632]⟩
abbrev S1x64x1024 : Shape := ⟨3, ![1, 64, 1024]⟩
abbrev S1x1024x256 : Shape := ⟨3, ![1, 1024, 256]⟩
abbrev S1x2x512x512 : Shape := ⟨4, ![1, 2, 512, 512]⟩
abbrev S1x1024x512 : Shape := ⟨3, ![1, 1024, 512]⟩
abbrev S1x4x256x256 : Shape := ⟨4, ![1, 4, 256, 256]⟩
abbrev S64x5632 : Shape := ⟨2, ![64, 5632]⟩
abbrev S64x1024 : Shape := ⟨2, ![64, 1024]⟩
abbrev S4x544x256 : Shape := ⟨3, ![4, 544, 256]⟩
abbrev S32x256 : Shape := ⟨2, ![32, 256]⟩
abbrev S1x32x256 : Shape := ⟨3, ![1, 32, 256]⟩
abbrev S1x512x1024 : Shape := ⟨3, ![1, 512, 1024]⟩
abbrev S512x1024 : Shape := ⟨2, ![512, 1024]⟩
abbrev S512x512 : Shape := ⟨2, ![512, 512]⟩
abbrev S256x1024 : Shape := ⟨2, ![256, 1024]⟩
abbrev S512x256 : Shape := ⟨2, ![512, 256]⟩
abbrev S1x512x128 : Shape := ⟨3, ![1, 512, 128]⟩
abbrev S512x128 : Shape := ⟨2, ![512, 128]⟩
abbrev S512x384 : Shape := ⟨2, ![512, 384]⟩
abbrev S1x256 : Shape := ⟨2, ![1, 256]⟩
abbrev S512 : Shape := ⟨1, ![512]⟩
abbrev S512x1 : Shape := ⟨2, ![512, 1]⟩
abbrev S128x128 : Shape := ⟨2, ![128, 128]⟩
abbrev S1x1x128x128 : Shape := ⟨4, ![1, 1, 128, 128]⟩
abbrev S128x512 : Shape := ⟨2, ![128, 512]⟩
abbrev S128x256 : Shape := ⟨2, ![128, 256]⟩
abbrev S1x512x256 : Shape := ⟨3, ![1, 512, 256]⟩
abbrev S1x536x256 : Shape := ⟨3, ![1, 536, 256]⟩
abbrev S536x256 : Shape := ⟨2, ![536, 256]⟩
abbrev S1x528x256 : Shape := ⟨3, ![1, 528, 256]⟩
abbrev S528x256 : Shape := ⟨2, ![528, 256]⟩
abbrev S1x520x256 : Shape := ⟨3, ![1, 520, 256]⟩
abbrev S520x256 : Shape := ⟨2, ![520, 256]⟩
abbrev S1x16x256 : Shape := ⟨3, ![1, 16, 256]⟩
abbrev S16x256 : Shape := ⟨2, ![16, 256]⟩
abbrev S1x128 : Shape := ⟨2, ![1, 128]⟩
abbrev S256x512 : Shape := ⟨2, ![256, 512]⟩
abbrev S1x1x512x512 : Shape := ⟨4, ![1, 1, 512, 512]⟩
abbrev S1x1x128x512 : Shape := ⟨4, ![1, 1, 128, 512]⟩
abbrev S1x512x512 : Shape := ⟨3, ![1, 512, 512]⟩
abbrev S256x128 : Shape := ⟨2, ![256, 128]⟩
abbrev S1x2x256x256 : Shape := ⟨4, ![1, 2, 256, 256]⟩
abbrev S1x1x256x256 : Shape := ⟨4, ![1, 1, 256, 256]⟩
abbrev S256 : Shape := ⟨1, ![256]⟩
abbrev S256x1 : Shape := ⟨2, ![256, 1]⟩

abbrev nBuf : Space → Nat
  | .hbm => 32
  | .vmem => 48
  | .smem => 0
  | _ => 0

abbrev bufTy : (tb : Table) → Fin (tcTables nBuf tb) → BufTy
  | .hbm, ⟨0, _⟩ => ⟨S4x4096x1024, .f32⟩
  | .hbm, ⟨1, _⟩ => ⟨S2304x1024, .bf16⟩
  | .hbm, ⟨2, _⟩ => ⟨S4x4096x128, .f32⟩
  | .hbm, ⟨3, _⟩ => ⟨S384x512, .bf16⟩
  | .hbm, ⟨4, _⟩ => ⟨S2x1x256, .f32⟩
  | .hbm, ⟨5, _⟩ => ⟨S2x1x256, .f32⟩
  | .hbm, ⟨6, _⟩ => ⟨S2x4x128x128, .f32⟩
  | .hbm, ⟨7, _⟩ => ⟨S2x128x256, .f32⟩
  | .hbm, ⟨8, _⟩ => ⟨S2x256x256, .bf16⟩
  | .hbm, ⟨9, _⟩ => ⟨S2x1x256, .f32⟩
  | .hbm, ⟨10, _⟩ => ⟨S2x1x256, .f32⟩
  | .hbm, ⟨11, _⟩ => ⟨S2x1x128, .f32⟩
  | .hbm, ⟨12, _⟩ => ⟨S2x256x512, .bf16⟩
  | .hbm, ⟨13, _⟩ => ⟨S2x256x512, .bf16⟩
  | .hbm, ⟨14, _⟩ => ⟨S2x128x512, .bf16⟩
  | .hbm, ⟨15, _⟩ => ⟨S2x256x128, .bf16⟩
  | .hbm, ⟨16, _⟩ => ⟨S4x256x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S2x1024x5632, .f32⟩
  | .hbm, ⟨21, _⟩ => ⟨S2x1024x1024, .f32⟩
  | .hbm, ⟨22, _⟩ => ⟨S2x1024x5632, .f32⟩
  | .hbm, ⟨23, _⟩ => ⟨S4x4096x256, .bf16⟩
  | .hbm, ⟨24, _⟩ => ⟨S4x4096x256, .bf16⟩
  | .hbm, ⟨25, _⟩ => ⟨S4x4096x256, .bf16⟩
  | .hbm, ⟨26, _⟩ => ⟨S4x8x512x512, .bf16⟩
  | .hbm, ⟨27, _⟩ => ⟨S4x4096x512, .bf16⟩
  | .hbm, ⟨28, _⟩ => ⟨S4x16x256x256, .bf16⟩
  | .hbm, ⟨29, _⟩ => ⟨S1024x5632, .bf16⟩
  | .hbm, ⟨30, _⟩ => ⟨S1024x1024, .bf16⟩
  | .hbm, ⟨31, _⟩ => ⟨S1024x5632, .bf16⟩
  | .local _ .vmem, ⟨0, _⟩ => ⟨S1x1024x1024, .f32⟩
  | .local _ .vmem, ⟨1, _⟩ => ⟨S1x1024x1024, .f32⟩
  | .local _ .vmem, ⟨2, _⟩ => ⟨S2304x1024, .bf16⟩
  | .local _ .vmem, ⟨3, _⟩ => ⟨S1x1024x128, .f32⟩
  | .local _ .vmem, ⟨4, _⟩ => ⟨S1x1024x128, .f32⟩
  | .local _ .vmem, ⟨5, _⟩ => ⟨S384x512, .bf16⟩
  | .local _ .vmem, ⟨6, _⟩ => ⟨S1x1x256, .f32⟩
  | .local _ .vmem, ⟨7, _⟩ => ⟨S1x1x256, .f32⟩
  | .local _ .vmem, ⟨8, _⟩ => ⟨S1x4x128x128, .f32⟩
  | .local _ .vmem, ⟨9, _⟩ => ⟨S1x128x256, .f32⟩
  | .local _ .vmem, ⟨10, _⟩ => ⟨S1x256x256, .bf16⟩
  | .local _ .vmem, ⟨11, _⟩ => ⟨S1x1x256, .f32⟩
  | .local _ .vmem, ⟨12, _⟩ => ⟨S1x1x256, .f32⟩
  | .local _ .vmem, ⟨13, _⟩ => ⟨S1x1x128, .f32⟩
  | .local _ .vmem, ⟨14, _⟩ => ⟨S1x256x512, .bf16⟩
  | .local _ .vmem, ⟨15, _⟩ => ⟨S1x256x512, .bf16⟩
  | .local _ .vmem, ⟨16, _⟩ => ⟨S1x128x512, .bf16⟩
  | .local _ .vmem, ⟨17, _⟩ => ⟨S1x256x128, .bf16⟩
  | .local _ .vmem, ⟨18, _⟩ => ⟨S4x256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S1x64x5632, .f32⟩
  | .local _ .vmem, ⟨23, _⟩ => ⟨S1x64x5632, .f32⟩
  | .local _ .vmem, ⟨24, _⟩ => ⟨S1x64x1024, .f32⟩
  | .local _ .vmem, ⟨25, _⟩ => ⟨S1x64x1024, .f32⟩
  | .local _ .vmem, ⟨26, _⟩ => ⟨S1x64x5632, .f32⟩
  | .local _ .vmem, ⟨27, _⟩ => ⟨S1x64x5632, .f32⟩
  | .local _ .vmem, ⟨28, _⟩ => ⟨S1x1024x256, .bf16⟩
  | .local _ .vmem, ⟨29, _⟩ => ⟨S1x1024x256, .bf16⟩
  | .local _ .vmem, ⟨30, _⟩ => ⟨S1x1024x256, .bf16⟩
  | .local _ .vmem, ⟨31, _⟩ => ⟨S1x1024x256, .bf16⟩
  | .local _ .vmem, ⟨32, _⟩ => ⟨S1x1024x256, .bf16⟩
  | .local _ .vmem, ⟨33, _⟩ => ⟨S1x1024x256, .bf16⟩
  | .local _ .vmem, ⟨34, _⟩ => ⟨S1x2x512x512, .bf16⟩
  | .local _ .vmem, ⟨35, _⟩ => ⟨S1x2x512x512, .bf16⟩
  | .local _ .vmem, ⟨36, _⟩ => ⟨S1x1024x512, .bf16⟩
  | .local _ .vmem, ⟨37, _⟩ => ⟨S1x1024x512, .bf16⟩
  | .local _ .vmem, ⟨38, _⟩ => ⟨S1x4x256x256, .bf16⟩
  | .local _ .vmem, ⟨39, _⟩ => ⟨S1x4x256x256, .bf16⟩
  | .local _ .vmem, ⟨40, _⟩ => ⟨S64x5632, .bf16⟩
  | .local _ .vmem, ⟨41, _⟩ => ⟨S64x5632, .bf16⟩
  | .local _ .vmem, ⟨42, _⟩ => ⟨S64x1024, .bf16⟩
  | .local _ .vmem, ⟨43, _⟩ => ⟨S64x1024, .bf16⟩
  | .local _ .vmem, ⟨44, _⟩ => ⟨S64x5632, .bf16⟩
  | .local _ .vmem, ⟨45, _⟩ => ⟨S64x5632, .bf16⟩
  | .local _ .vmem, ⟨46, _⟩ => ⟨S256x256, .f32⟩
  | .local _ .vmem, ⟨47, _⟩ => ⟨S4x544x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0_0 : Ref sig .tc := ⟨.hbm, 23, rfl⟩
abbrev main_v0_1 : Ref sig .tc := ⟨.hbm, 24, rfl⟩
abbrev main_v0_2 : Ref sig .tc := ⟨.hbm, 25, rfl⟩
abbrev main_v0_3 : Ref sig .tc := ⟨.hbm, 26, rfl⟩
abbrev main_v0_4 : Ref sig .tc := ⟨.hbm, 27, rfl⟩
abbrev main_v0_5 : Ref sig .tc := ⟨.hbm, 28, rfl⟩
abbrev main_v0_6 : Ref sig .tc := ⟨.hbm, 29, rfl⟩
abbrev main_v0_7 : Ref sig .tc := ⟨.hbm, 30, rfl⟩
abbrev main_v0_8 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc0_stg24_0 : Ref sig .tc := ⟨.vmem, 30, rfl⟩
abbrev cc0_stg24_1 : Ref sig .tc := ⟨.vmem, 31, rfl⟩
abbrev cc0_stg25_0 : Ref sig .tc := ⟨.vmem, 32, rfl⟩
abbrev cc0_stg25_1 : Ref sig .tc := ⟨.vmem, 33, rfl⟩
abbrev cc0_stg26_0 : Ref sig .tc := ⟨.vmem, 34, rfl⟩
abbrev cc0_stg26_1 : Ref sig .tc := ⟨.vmem, 35, rfl⟩
abbrev cc0_stg27_0 : Ref sig .tc := ⟨.vmem, 36, rfl⟩
abbrev cc0_stg27_1 : Ref sig .tc := ⟨.vmem, 37, rfl⟩
abbrev cc0_stg28_0 : Ref sig .tc := ⟨.vmem, 38, rfl⟩
abbrev cc0_stg28_1 : Ref sig .tc := ⟨.vmem, 39, rfl⟩
abbrev cc0_stg29_0 : Ref sig .tc := ⟨.vmem, 40, rfl⟩
abbrev cc0_stg29_1 : Ref sig .tc := ⟨.vmem, 41, rfl⟩
abbrev cc0_stg30_0 : Ref sig .tc := ⟨.vmem, 42, rfl⟩
abbrev cc0_stg30_1 : Ref sig .tc := ⟨.vmem, 43, rfl⟩
abbrev cc0_stg31_0 : Ref sig .tc := ⟨.vmem, 44, rfl⟩
abbrev cc0_stg31_1 : Ref sig .tc := ⟨.vmem, 45, rfl⟩
abbrev cc0_scratch0 : Ref sig .tc := ⟨.vmem, 46, rfl⟩
abbrev cc0_scratch1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem20_1 : DmaSem sig := 23
abbrev cc0_sem21_0 : DmaSem sig := 24
abbrev cc0_sem21_1 : DmaSem sig := 25
abbrev cc0_sem22_0 : DmaSem sig := 26
abbrev cc0_sem22_1 : DmaSem sig := 27
abbrev cc0_sem23_0 : DmaSem sig := 28
abbrev cc0_sem23_1 : DmaSem sig := 29
abbrev cc0_sem24_0 : DmaSem sig := 30
abbrev cc0_sem24_1 : DmaSem sig := 31
abbrev cc0_sem25_0 : DmaSem sig := 32
abbrev cc0_sem25_1 : DmaSem sig := 33
abbrev cc0_sem26_0 : DmaSem sig := 34
abbrev cc0_sem26_1 : DmaSem sig := 35
abbrev cc0_sem27_0 : DmaSem sig := 36
abbrev cc0_sem27_1 : DmaSem sig := 37
abbrev cc0_sem28_0 : DmaSem sig := 38
abbrev cc0_sem28_1 : DmaSem sig := 39
abbrev cc0_sem29_0 : DmaSem sig := 40
abbrev cc0_sem29_1 : DmaSem sig := 41
abbrev cc0_sem30_0 : DmaSem sig := 42
abbrev cc0_sem30_1 : DmaSem sig := 43
abbrev cc0_sem31_0 : DmaSem sig := 44
abbrev cc0_sem31_1 : DmaSem sig := 45

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_21 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_22 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_28 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_29 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_30 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_31 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S384x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x256x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4x256x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S256x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S256x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x64x5632 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x64x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x64x5632 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1024x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x1024x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x1024x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x2x512x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x1024x512 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x4x256x256 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S64x5632 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S64x1024 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S64x5632 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]
-- ==== Proof.Attn.TileIdeal.lean ====
/- The attention's loop over its query tiles, one tile at a time: what a tile's trip writes, as lists of the stores it
   makes over what it finds. -/
module

public import proofs.«01_k».proof.Proof.Gen.KernelIdeal.Loops

@[expose] public section

set_option maxRecDepth 8192
set_option maxHeartbeats 2000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of one trip: the three inputs' windows, the output's window and the three scratch buffers. -/
abbrev Held (c : Dev nD) (arg1 : Memref sig .tc .vmem S1x8x512x512 .bf16) (arg2 : Memref sig .tc .vmem S1x4096x512 .bf16) (arg3 : Memref sig .tc .vmem S1x16x256x256 .bf16) (arg4 : Memref sig .tc .vmem S1x4096x256 .bf16) (arg5 : Memref sig .tc .vmem S2x4x256x512 .f32) (arg6 : Memref sig .tc .vmem S4x1x512 .f32) (arg7 : Memref sig .tc .vmem S4x80x512 .f32) (X1 : BufTy.Contents (Elt F) arg1.view.ty) (X2 : BufTy.Contents (Elt F) arg2.view.ty) (X3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) : sProp (MT nD τ sig Unit (Elt F) ℕ (UR sig nD τ) ℕ) :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7))

/-- One query tile: from any contents of the buffers it writes, the lists of its stores into the output and
   the scores, and what it leaves in the running maxima and sums. -/
@[irreducible] def tile (𝒱 : Variants) (c : Dev nD) (bd : Option 𝒱.V) (i : grid0.Coords) (arg1 : Memref sig .tc .vmem S1x8x512x512 .bf16) (harg1 : arg1.IsWhole) (arg2 : Memref sig .tc .vmem S1x4096x512 .bf16) (harg2 : arg2.IsWhole) (arg3 : Memref sig .tc .vmem S1x16x256x256 .bf16) (harg3 : arg3.IsWhole) (arg4 : Memref sig .tc .vmem S1x4096x256 .bf16) (harg4 : arg4.IsWhole) (arg5 : Memref sig .tc .vmem S2x4x256x512 .f32) (harg5 : arg5.IsWhole) (arg6 : Memref sig .tc .vmem S4x1x512 .f32) (harg6 : arg6.IsWhole) (arg7 : Memref sig .tc .vmem S4x80x512 .f32) (harg7 : arg7.IsWhole) (v52 : IVec S256x512 1) (v55 : IVec S256x512 1) (v56 : FVec F S16x256 .bf16) (X1 : BufTy.Contents (Elt F) arg1.view.ty) (X2 : BufTy.Contents (Elt F) arg2.view.ty) (X3 : BufTy.Contents (Elt F) arg3.view.ty) (k : Fin k0_t1_loop.trips) :
    Σ' (L4 : BufTy.Contents (Elt F) arg4.view.ty → BufTy.Contents (Elt F) arg5.view.ty → BufTy.Contents (Elt F) arg6.view.ty → BufTy.Contents (Elt F) arg7.view.ty → List (View.Piece (Elt F) S1x4096x256 .bf16)) (L5 : BufTy.Contents (Elt F) arg4.view.ty → BufTy.Contents (Elt F) arg5.view.ty → BufTy.Contents (Elt F) arg6.view.ty → BufTy.Contents (Elt F) arg7.view.ty → List (View.Piece (Elt F) S2x4x256x512 .f32)) (G6 : BufTy.Contents (Elt F) arg4.view.ty → BufTy.Contents (Elt F) arg5.view.ty → BufTy.Contents (Elt F) arg6.view.ty → BufTy.Contents (Elt F) arg7.view.ty → BufTy.Contents (Elt F) arg6.view.ty), { G7 : BufTy.Contents (Elt F) arg4.view.ty → BufTy.Contents (Elt F) arg5.view.ty → BufTy.Contents (Elt F) arg6.view.ty → BufTy.Contents (Elt F) arg7.view.ty → BufTy.Contents (Elt F) arg7.view.ty // ∀ (E : Set ℕ) (f4 : BufTy.Contents (Elt F) arg4.view.ty) (f5 : BufTy.Contents (Elt F) arg5.view.ty) (f6 : BufTy.Contents (Elt F) arg6.view.ty) (f7 : BufTy.Contents (Elt F) arg7.view.ty),
      Held (F := F) c arg1 arg2 arg3 arg4 arg5 arg6 arg7 X1 X2 X3 f4 f5 f6 f7
      ⊢ wp frame (wpE (defs₀ (F := F)) 𝒱 (c : Thread nD τ) bd) E (k0_t1_body (F := F) i arg1 harg1 arg2 harg2 arg3 harg3 arg4 harg4 arg5 harg5 arg6 harg6 arg7 harg7 v52 v55 v56 k PUnit.unit)
          (fun _ => Held (F := F) c arg1 arg2 arg3 arg4 arg5 arg6 arg7 X1 X2 X3 (arg4.view.writes (Elt F) f4 (L4 f4 f5 f6 f7)) (arg5.view.writes (Elt F) f5 (L5 f4 f5 f6 f7)) (G6 f4 f5 f6 f7) (G7 f4 f5 f6 f7)) } := by
  refine ⟨?_, ?_, ?_, ?_, fun E f4 f5 f6 f7 => ?run⟩
  case run =>
    unfold k0_t1_body
    iintro ⟨HR1, HR2, HR3, HW4, HW5, HW6, HW7⟩
    sl_exec
    sl_step
    sl_close

/-- The first diagonal block's mask, the second's, and the rows of ones under the values. -/
abbrev maskA : IVec S256x512 1 := k0_pay161 k0_pay156 k0_pay157 k0_pay158 k0_pay159
abbrev maskB : IVec S256x512 1 := k0_pay162 k0_pay156 k0_pay157 k0_pay158 k0_pay159
abbrev onesR : FVec F S16x256 .bf16 := k0_pay163

/-- The resources before a query tile, any contents of which a fact `I` is kept. -/
abbrev Kept (c : Dev nD) (arg1 : Memref sig .tc .vmem S1x8x512x512 .bf16) (arg2 : Memref sig .tc .vmem S1x4096x512 .bf16) (arg3 : Memref sig .tc .vmem S1x16x256x256 .bf16) (arg4 : Memref sig .tc .vmem S1x4096x256 .bf16) (arg5 : Memref sig .tc .vmem S2x4x256x512 .f32) (arg6 : Memref sig .tc .vmem S4x1x512 .f32) (arg7 : Memref sig .tc .vmem S4x80x512 .f32) (X1 : BufTy.Contents (Elt F) arg1.view.ty) (X2 : BufTy.Contents (Elt F) arg2.view.ty) (X3 : BufTy.Contents (Elt F) arg3.view.ty)
    (I : BufTy.Contents (Elt F) arg4.view.ty → BufTy.Contents (Elt F) arg5.view.ty → BufTy.Contents (Elt F) arg6.view.ty → BufTy.Contents (Elt F) arg7.view.ty → Prop) : sProp (MT nD τ sig Unit (Elt F) ℕ (UR sig nD τ) ℕ) :=
  iprop(∃ f4, ∃ f5, ∃ f6, ∃ f7, (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ ⌜I f4 f5 f6 f7⌝)

/-- What a query tile leaves, from what it finds. -/
abbrev TileStep (i : grid0.Coords) (arg1 : Memref sig .tc .vmem S1x8x512x512 .bf16) (harg1 : arg1.IsWhole) (arg2 : Memref sig .tc .vmem S1x4096x512 .bf16) (harg2 : arg2.IsWhole) (arg3 : Memref sig .tc .vmem S1x16x256x256 .bf16) (harg3 : arg3.IsWhole) (arg4 : Memref sig .tc .vmem S1x4096x256 .bf16) (harg4 : arg4.IsWhole) (arg5 : Memref sig .tc .vmem S2x4x256x512 .f32) (harg5 : arg5.IsWhole) (arg6 : Memref sig .tc .vmem S4x1x512 .f32) (harg6 : arg6.IsWhole) (arg7 : Memref sig .tc .vmem S4x80x512 .f32) (harg7 : arg7.IsWhole) (X1 : BufTy.Contents (Elt F) arg1.view.ty) (X2 : BufTy.Contents (Elt F) arg2.view.ty) (X3 : BufTy.Contents (Elt F) arg3.view.ty) (k : Fin k0_t1_loop.trips) (c : Dev nD) (I J : BufTy.Contents (Elt F) arg4.view.ty → BufTy.Contents (Elt F) arg5.view.ty → BufTy.Contents (Elt F) arg6.view.ty → BufTy.Contents (Elt F) arg7.view.ty → Prop) : Prop :=
  ∀ (f4 : BufTy.Contents (Elt F) arg4.view.ty) (f5 : BufTy.Contents (Elt F) arg5.view.ty) (f6 : BufTy.Contents (Elt F) arg6.view.ty) (f7 : BufTy.Contents (Elt F) arg7.view.ty), I f4 f5 f6 f7 →
    let T := tile (F := F) Variants.none c none i arg1 harg1 arg2 harg2 arg3 harg3 arg4 harg4 arg5 harg5 arg6 harg6 arg7 harg7 maskA maskB onesR X1 X2 X3 k
    J (arg4.view.writes (Elt F) f4 (T.1 f4 f5 f6 f7)) (arg5.view.writes (Elt F) f5 (T.2.1 f4 f5 f6 f7)) (T.2.2.1 f4 f5 f6 f7) (T.2.2.2.1 f4 f5 f6 f7)

/-- The loop over the query tiles, keeping a fact that every tile keeps. -/
@[reducible] def tiles (c : Dev nD) (i : grid0.Coords) (arg1 : Memref sig .tc .vmem S1x8x512x512 .bf16) (harg1 : arg1.IsWhole) (arg2 : Memref sig .tc .vmem S1x4096x512 .bf16) (harg2 : arg2.IsWhole) (arg3 : Memref sig .tc .vmem S1x16x256x256 .bf16) (harg3 : arg3.IsWhole) (arg4 : Memref sig .tc .vmem S1x4096x256 .bf16) (harg4 : arg4.IsWhole) (arg5 : Memref sig .tc .vmem S2x4x256x512 .f32) (harg5 : arg5.IsWhole) (arg6 : Memref sig .tc .vmem S4x1x512 .f32) (harg6 : arg6.IsWhole) (arg7 : Memref sig .tc .vmem S4x80x512 .f32) (harg7 : arg7.IsWhole) (X1 : BufTy.Contents (Elt F) arg1.view.ty) (X2 : BufTy.Contents (Elt F) arg2.view.ty) (X3 : BufTy.Contents (Elt F) arg3.view.ty) (I : ℕ → BufTy.Contents (Elt F) arg4.view.ty → BufTy.Contents (Elt F) arg5.view.ty → BufTy.Contents (Elt F) arg6.view.ty → BufTy.Contents (Elt F) arg7.view.ty → Prop)
    (hI : ∀ k, TileStep (F := F) i arg1 harg1 arg2 harg2 arg3 harg3 arg4 harg4 arg5 harg5 arg6 harg6 arg7 harg7 X1 X2 X3 k c (I k.val) (I (k.val + 1))) :
    Cert.KernelIdeal.Gen.LoopInvTy_k0_t1 (F := F) Unit ℕ (UR sig nD τ) ℕ Variants.none c none Set.univ i arg1 harg1 arg2 harg2 arg3 harg3 arg4 harg4 arg5 harg5 arg6 harg6 arg7 harg7 maskA maskB onesR where
  inv k _ := Kept (F := F) c arg1 arg2 arg3 arg4 arg5 arg6 arg7 X1 X2 X3 (I k)
  step k _ := by
    iintro ⟨%f4, %f5, %f6, %f7, HR1, HR2, HR3, HW4, HW5, HW6, HW7, %h⟩
    iapply (wp_wand_r Idealize.ShloMosaic.frame (wpE (defs₀ (F := F)) Variants.none (c : Thread nD τ) none) Set.univ)
    isplitl [HR1 HR2 HR3 HW4 HW5 HW6 HW7]
    · iapply ((tile (F := F) Variants.none c none i arg1 harg1 arg2 harg2 arg3 harg3 arg4 harg4 arg5 harg5 arg6 harg6 arg7 harg7 maskA maskB onesR X1 X2 X3 k).2.2.2.2 Set.univ f4 f5 f6 f7)
      isplitl [HR1]; · iexact HR1
      isplitl [HR2]; · iexact HR2
      isplitl [HR3]; · iexact HR3
      isplitl [HW4]; · iexact HW4
      isplitl [HW5]; · iexact HW5
      isplitl [HW6]; · iexact HW6
      iexact HW7
    · iintro %_ ⟨HR1, HR2, HR3, HW4, HW5, HW6, HW7⟩
      iexists _, _, _, _
      isplitl [HR1]; · iexact HR1
      isplitl [HR2]; · iexact HR2
      isplitl [HR3]; · iexact HR3
      isplitl [HW4]; · iexact HW4
      isplitl [HW5]; · iexact HW5
      isplitl [HW6]; · iexact HW6
      isplitl [HW7]; · iexact HW7
      ipureintro; exact hI k f4 f5 f6 f7 h

/-- The whole body at a grid point: the stores of the first scores, and a fact that holds after them and that every
   query tile keeps, at the end. -/
@[irreducible] def body (c : Dev nD) (i : grid0.Coords) (arg1 : Memref sig .tc .vmem S1x8x512x512 .bf16) (harg1 : arg1.IsWhole) (arg2 : Memref sig .tc .vmem S1x4096x512 .bf16) (harg2 : arg2.IsWhole) (arg3 : Memref sig .tc .vmem S1x16x256x256 .bf16) (harg3 : arg3.IsWhole) (arg4 : Memref sig .tc .vmem S1x4096x256 .bf16) (harg4 : arg4.IsWhole) (arg5 : Memref sig .tc .vmem S2x4x256x512 .f32) (harg5 : arg5.IsWhole) (arg6 : Memref sig .tc .vmem S4x1x512 .f32) (harg6 : arg6.IsWhole) (arg7 : Memref sig .tc .vmem S4x80x512 .f32) (harg7 : arg7.IsWhole) (X1 : BufTy.Contents (Elt F) arg1.view.ty) (X2 : BufTy.Contents (Elt F) arg2.view.ty) (X3 : BufTy.Contents (Elt F) arg3.view.ty) :
    { L5 : List (View.Piece (Elt F) S2x4x256x512 .f32) // ∀ (f4 : BufTy.Contents (Elt F) arg4.view.ty) (f5 : BufTy.Contents (Elt F) arg5.view.ty) (f6 : BufTy.Contents (Elt F) arg6.view.ty) (f7 : BufTy.Contents (Elt F) arg7.view.ty) (I : ℕ → BufTy.Contents (Elt F) arg4.view.ty → BufTy.Contents (Elt F) arg5.view.ty → BufTy.Contents (Elt F) arg6.view.ty → BufTy.Contents (Elt F) arg7.view.ty → Prop)
      (hI : ∀ k, TileStep (F := F) i arg1 harg1 arg2 harg2 arg3 harg3 arg4 harg4 arg5 harg5 arg6 harg6 arg7 harg7 X1 X2 X3 k c (I k.val) (I (k.val + 1)))
      (h0 : I 0 f4 (arg5.view.writes (Elt F) f5 L5) f6 f7),
      Held (F := F) c arg1 arg2 arg3 arg4 arg5 arg6 arg7 X1 X2 X3 f4 f5 f6 f7
      ⊢ wp frame (wpE (defs₀ (F := F)) Variants.none (c : Thread nD τ) none) Set.univ (cc0_mla_attention_skel (F := F) i arg1 harg1 arg2 harg2 arg3 harg3 arg4 harg4 arg5 harg5 arg6 harg6 arg7 harg7)
          (fun _ => Kept (F := F) c arg1 arg2 arg3 arg4 arg5 arg6 arg7 X1 X2 X3 (I 8)) } := by
  refine ⟨?_, fun f4 f5 f6 f7 I hI h0 => ?run⟩
  case run =>
    unfold cc0_mla_attention_skel
    let L := tiles (F := F) c i arg1 harg1 arg2 harg2 arg3 harg3 arg4 harg4 arg5 harg5 arg6 harg6 arg7 harg7 X1 X2 X3 I hI
    iintro ⟨HR1, HR2, HR3, HW4, HW5, HW6, HW7⟩
    sl_exec
    sl_step
    sl_close

end Cert.Proof.KernelIdeal

end

end
-- ==== Proof.Attn.RunIdeal.lean ====
module

public import proofs.«01_k».proof.Proof.Gen.KernelIdeal.Frame
public import proofs.«01_k».proof.Proof.Attn.TileIdeal
public import Idealize.ShloMosaic.Lib.Pipeline.DatRel
public import Idealize.ShloMosaic.Lib.Pipeline.ArrRel

/-! The attention call's run: its scratch buffers are carried unread from one grid point to the next, and the
    output's window is held to a fact that the body establishes at each point. -/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as launched, each input's window at its block after the body, full shares. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => Classical.arbitrary _
  Φ _ := Pipeline.ΦA spec0 c
  q _ := fullShare
  owed _ := 0

theorem dat_A (c : Dev nD) (w : Fin cfg0.W) : (dat m c).A w = V m c (Pipeline.arrRef spec0 w) := by
  dsimp only [dat]

theorem dat_after0 (c : Dev nD) (t : Fin cfg0.N) : (dat m c).after 0 t = iblk m c 0 t := by dsimp only [dat]
theorem dat_after1 (c : Dev nD) (t : Fin cfg0.N) : (dat m c).after 1 t = iblk m c 1 t := by dsimp only [dat]
theorem dat_after2 (c : Dev nD) (t : Fin cfg0.N) : (dat m c).after 2 t = iblk m c 2 t := by dsimp only [dat]

theorem dat_before0 (c : Dev nD) (t : Fin cfg0.N) (d) : (dat m c).before 0 t d = iblk m c 0 t :=
  before0_0_of m (dat m c) (dat_A m c 0) (dat_after0 m c) t d
theorem dat_before1 (c : Dev nD) (t : Fin cfg0.N) (d) : (dat m c).before 1 t d = iblk m c 1 t :=
  before0_1_of m (dat m c) (dat_A m c 1) (dat_after1 m c) t d
theorem dat_before2 (c : Dev nD) (t : Fin cfg0.N) (d) : (dat m c).before 2 t d = iblk m c 2 t :=
  before0_2_of m (dat m c) (dat_A m c 2) (dat_after2 m c) t d

/-- The output's window alone is held to a fact rather than to a value. -/
abbrev marked : Fin cfg0.W → Bool := ![false, false, false, true]

/-- The fact held at each window: `Q` of the output's block. -/
def held (Q : Fin cfg0.N → (S1x4096x256.Idx → Elt F .bf16) → Prop) :
    (w : Fin cfg0.W) → Fin cfg0.N → ((cfg0.win w).block.Idx → Elt F (cfg0.win w).elt) → Prop
  | ⟨0, _⟩, _, _ => True
  | ⟨1, _⟩, _, _ => True
  | ⟨2, _⟩, _, _ => True
  | ⟨3, _⟩, t, X => Q t X

/-- A body whose stores keep some fact about the buffers that gives `Q` of the output's block at the end: whatever the buffers hold before
    the point, given that the inputs' windows read as their blocks `B1`, `B2` and `B3`. -/
def Establishes (c : Dev nD) (i : grid0.Coords) (B1 : S1x8x512x512.Idx → Elt F .bf16) (B2 : S1x4096x512.Idx → Elt F .bf16) (B3 : S1x16x256x256.Idx → Elt F .bf16)
    (Q : (S1x4096x256.Idx → Elt F .bf16) → Prop) : Prop :=
  ∀ (arg1 : Memref sig .tc .vmem S1x8x512x512 .bf16) (harg1 : arg1.IsWhole) (arg2 : Memref sig .tc .vmem S1x4096x512 .bf16) (harg2 : arg2.IsWhole) (arg3 : Memref sig .tc .vmem S1x16x256x256 .bf16) (harg3 : arg3.IsWhole) (arg4 : Memref sig .tc .vmem S1x4096x256 .bf16) (harg4 : arg4.IsWhole) (arg5 : Memref sig .tc .vmem S2x4x256x512 .f32) (harg5 : arg5.IsWhole) (arg6 : Memref sig .tc .vmem S4x1x512 .f32) (harg6 : arg6.IsWhole) (arg7 : Memref sig .tc .vmem S4x80x512 .f32) (harg7 : arg7.IsWhole)
    (X1 : BufTy.Contents (Elt F) arg1.view.ty) (X2 : BufTy.Contents (Elt F) arg2.view.ty) (X3 : BufTy.Contents (Elt F) arg3.view.ty),
    arg1.view.read (Elt F) X1 = B1 → arg2.view.read (Elt F) X2 = B2 → arg3.view.read (Elt F) X3 = B3 →
    ∀ (f4 : BufTy.Contents (Elt F) arg4.view.ty) (f5 : BufTy.Contents (Elt F) arg5.view.ty) (f6 : BufTy.Contents (Elt F) arg6.view.ty) (f7 : BufTy.Contents (Elt F) arg7.view.ty),
    ∃ I : ℕ → BufTy.Contents (Elt F) arg4.view.ty → BufTy.Contents (Elt F) arg5.view.ty → BufTy.Contents (Elt F) arg6.view.ty → BufTy.Contents (Elt F) arg7.view.ty → Prop,
      (∀ k, TileStep (F := F) i arg1 harg1 arg2 harg2 arg3 harg3 arg4 harg4 arg5 harg5 arg6 harg6 arg7 harg7 X1 X2 X3 k c (I k.val) (I (k.val + 1)))
      ∧ I 0 f4 (arg5.view.writes (Elt F) f5 (body (F := F) c i arg1 harg1 arg2 harg2 arg3 harg3 arg4 harg4 arg5 harg5 arg6 harg6 arg7 harg7 X1 X2 X3).1) f6 f7
      ∧ ∀ g4 g5 g6 g7, I 8 g4 g5 g6 g7 → Q (arg4.view.read (Elt F) g4)

/-- What the body is called with at point `t`, -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ Y, owns (c : Thread nD τ) (st0_3 t) fullShare Y))

/-- and what it returns. -/
def bodyPost (Q : Fin cfg0.N → (S1x4096x256.Idx → Elt F .bf16) → Prop) (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ (∃ X, ⌜Q t X⌝ ∗ owns (c : Thread nD τ) (st0_3 t) fullShare X))

theorem sound_body (Q : Fin cfg0.N → (S1x4096x256.Idx → Elt F .bf16) → Prop) (c : Dev nD) (t : Fin cfg0.N)
    (hQ : Establishes c (grid0.coords t) (iblk m c 0 t) (iblk m c 1 t) (iblk m c 2 t) (Q t)) :
    bodyPre m c t ⊢ wp frame (wpE (defs₀ (F := F)) Variants.none c none) Set.univ (bodyAt0 t) (fun _ => bodyPost m Q c t) := by
  unfold bodyPre bodyPost bodyAt0
  simp only [dat_before0, dat_before1, dat_before2]
  rw [show (dat m c).Φ t.castSucc = Pipeline.ΦA spec0 c from rfl, show (dat m c).Φ t.succ = Pipeline.ΦA spec0 c from rfl,
    show (dat m c).owesAt () t.succ = (dat m c).owesAt () t.castSucc from rfl, dat_after0, dat_after1, dat_after2]
  unfold Pipeline.ΦA
  rw [scopedRest0_eq, cc0_mla_attention_eq_skeleton]
  simp only [← owns_whole]
  unfold owns
  iintro ⟨⟨⟨⟨%d5, ⟨%f5, -, H5⟩⟩, ⟨%d6, ⟨%f6, -, H6⟩⟩, ⟨%d7, ⟨%f7, -, H7⟩⟩⟩, Hr⟩, Ho, ⟨%d0, %f1, %hf1, H1⟩, ⟨%d1, %f2, %hf2, H2⟩, ⟨%d2, %f3, %hf3, H3⟩, ⟨%d4, %f4, -, H4⟩⟩
  have hh := hQ (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (Memref.whole cc0_scratch0) (Memref.isWhole_whole _) (Memref.whole cc0_scratch1) (Memref.isWhole_whole _) (Memref.whole cc0_scratch2) (Memref.isWhole_whole _) f1 f2 f3 hf1 hf2 hf3 f4 f5 f6 f7
  obtain ⟨I, hI, h0, h8⟩ := hh
  iapply (wp_wand_r Idealize.ShloMosaic.frame (wpE (defs₀ (F := F)) Variants.none (c : Thread nD τ) none) Set.univ)
  isplitl [H1 H2 H3 H4 H5 H6 H7]
  · iapply ((body (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (Memref.whole cc0_scratch0) (Memref.isWhole_whole _) (Memref.whole cc0_scratch1) (Memref.isWhole_whole _) (Memref.whole cc0_scratch2) (Memref.isWhole_whole _) f1 f2 f3).2 f4 f5 f6 f7 I hI h0)
    isplitl [H1]; · iexact H1
    isplitl [H2]; · iexact H2
    isplitl [H3]; · iexact H3
    isplitl [H4]; · iexact H4
    isplitl [H5]; · iexact H5
    isplitl [H6]; · iexact H6
    iexact H7
  · iintro %_ ⟨%g4, %g5, %g6, %g7, H1, H2, H3, H4, H5, H6, H7, %hg⟩
    isplitl [H5 H6 H7 Hr]
    · isplitl [H5 H6 H7]
      · isplitl [H5]
        · iexists _, g5; isplitr; · ipureintro; rfl
          iexact H5
        isplitl [H6]
        · iexists _, g6; isplitr; · ipureintro; rfl
          iexact H6
        iexists _, g7; isplitr; · ipureintro; rfl
        iexact H7
      · iexact Hr
    isplitl [Ho]; · iexact Ho
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    iexists _; isplitr
    · ipureintro; exact h8 g4 g5 g6 g7 hg
    iexists g4; isplitr; · ipureintro; rfl
    iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (Q : Fin cfg0.N → (S1x4096x256.Idx → Elt F .bf16) → Prop) (c : Dev nD)
    (hQ : ∀ t, Establishes c (grid0.coords t) (iblk m c 0 t) (iblk m c 1 t) (iblk m c 2 t) (Q t)) :
    BodyObligationRel (dat (F := F) m c) (defs₀ (F := F)) Variants.none () Set.univ marked (held Q) := fun t => by
  rw [bigSep_W0, bigSep_W0, defs₀_row]
  refine triple_restated (sound_body m Q c t (hQ t)) rfl ?_ fun _ => .rfl
  unfold bodyPre
  have e : iprop(∃ Y, ⌜((dat m c).toRRel marked (held Q)).Finds 3 t Y⌝ ∗ owns (c : Thread nD τ) (st0_3 t) fullShare Y)
      ⊢ (iprop(∃ Y, owns (c : Thread nD τ) (st0_3 t) fullShare Y) : sProp 𝕄) := by
    iintro ⟨%Y, -, H⟩; iexists Y; iexact H
  exact sep_mono .rfl (sep_mono .rfl (sep_mono .rfl (sep_mono .rfl (sep_mono .rfl e))))

/-- The proof data of every core. -/
abbrev rdat (Q : Dev nD → Fin cfg0.N → (S1x4096x256.Idx → Elt F .bf16) → Prop) (c : Dev nD) : RDat τ (Elt F) Unit ℕ (UR sig nD τ) ℕ cfg0 c :=
  (dat m c).toRRel marked (held (Q c))

set_option backward.isDefEq.respectTransparency.types false in
set_option maxHeartbeats 800000 in
/-- The run: the arrays end as the proof data has them, the counters at zero. -/
theorem run_main (Q : Dev nD → Fin cfg0.N → (S1x4096x256.Idx → Elt F .bf16) → Prop)
    (hQ : ∀ c t, Establishes c (grid0.coords t) (iblk m c 0 t) (iblk m c 1 t) (iblk m c 2 t) (Q c t)) :
    θ_run defs (onTc (τ := τ) (main (F := F))) (s₀ m ρ) (fun r => RDat.FramePost cfg0 (rdat m Q) (V m) r ∧ r.2.sem = fun _ => 0) :=
  Pipeline.RDat.θ_run_frame (Q' := _) cfgs (0 : Fin 1) launch0 defs₀ Variants.none (rdat m Q) m ρ main
    (hbody := fun c => (body_obligation m (Q c) c (hQ c)).toRRel) (hshare := fun c w => (dat m c).share_full (fun _ => rfl) w)
    (howed := fun _ _ => rfl) (V := V m) (hmain := hmain m Variants.none) (hA := dat_A m) (hΦ := fun _ _ => rfl)

/-- The run with its inputs kept and each point's output block a block that `Q` holds of. -/
theorem run_kept (Q : Dev nD → Fin cfg0.N → (S1x4096x256.Idx → Elt F .bf16) → Prop)
    (hQ : ∀ c t, Establishes c (grid0.coords t) (iblk m c 0 t) (iblk m c 1 t) (iblk m c 2 t) (Q c t)) :
    θ_run defs (onTc (τ := τ) (main (F := F))) ⟨m, fun _ => 0, ρ⟩ (fun r => (∀ c : Dev nD,
      ∃ after : (w' : Fin cfg0.W) → Fin cfg0.N → (cfg0.win w').block.Idx → Elt F (cfg0.win w').elt,
        (∀ t, Q c t (after 3 t))
        ∧ r.2.mem ((c.tc : Thread nD τ).loc main_v0) = ((rdat m Q c).withAfter after).arrAt 3 cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run defs _ _).mono (fun r h => ⟨fun c => by
    obtain ⟨after, hL, hA⟩ := RDat.FramePost.exists_exact h.1 c
    refine ⟨after, fun t => (dat m c).toRRel_leaves (fgt := marked) (Rl := held (Q c)) (w := 3) rfl (hL 3 t (flush0_3 t)), hA 3,
      (hA 0).trans ((((rdat m Q c).withAfter after).arrAt_in 0 rfl _).trans ((dat_A m c 0).trans (V_main_arg0 m c))),
      (hA 1).trans ((((rdat m Q c).withAfter after).arrAt_in 1 rfl _).trans ((dat_A m c 1).trans (V_main_arg1 m c))),
      (hA 2).trans ((((rdat m Q c).withAfter after).arrAt_in 2 rfl _).trans ((dat_A m c 2).trans (V_main_arg2 m c)))⟩, h.2⟩) (run_main m ρ Q hQ)

/-- Any body establishes nothing. -/
theorem establishes_true (c : Dev nD) (i : grid0.Coords) (B1 B2 B3) : Establishes (F := F) c i B1 B2 B3 (fun _ => True) :=
  fun _ _ _ _ _ _ _ _ _ _ _ _ _ _ _ _ _ _ _ _ _ _ _ _ => ⟨fun _ _ _ _ _ => True, fun _ _ _ _ _ _ => trivial, trivial, fun _ _ _ _ _ => trivial⟩

/-- The frame: the call terminates with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => let ⟨_, _, _, h⟩ := h.1 c; h, h.2⟩)
    (run_kept m ρ (fun _ _ _ => True) fun _ _ => establishes_true _ _ _ _ _)

end Cert.Proof.KernelIdeal

end

end
-- ==== Proof.Attn.Store.lean ====
/- Reading a buffer back through the list of stores made into it: the newest store is read, a store elsewhere is passed
   over, and a list of stores made after another is made over what that one left. -/
module

public import Idealize.ShloMosaic.Lib.Pipeline.ReadBack
public import Idealize.ShloMosaic.Lib.WritesUnit

@[expose] public section

noncomputable section

namespace Cert.Proof.Store

open Idealize.ShloMosaic

variable {sig : RefSig} {κ : Kind} {sp : Space} {s : Shape} {e : EltTy} {Val : EltTy → Type} [∀ e, Nonempty (Val e)]

/-- A load through the newest store's own rectangle reads what was stored. -/
theorem hit (v : View sig κ sp s e) (f : v.ty.Contents Val) (r : Rect s) (w : r.shape.Idx → Val e) (L : List (View.Piece Val s e)) :
    v.readAt Val r.toLoadRect (v.writes Val f (⟨r, w⟩ :: L)) = w := by
  rw [View.readAt_writes_of_cover v f _ _ fun j => ⟨⟨r, w⟩, List.mem_cons_self, r.toLoadRect.idx_mem j⟩]
  exact View.readCov_cons_toLoadRect v r w L

/-- A load that the newest store does not touch reads what was there before it. -/
theorem skip (v : View sig κ sp s e) (f : v.ty.Contents Val) (r : Rect s) (w : r.shape.Idx → Val e) (L : List (View.Piece Val s e))
    (B : LoadRect s) (h : LoadRect.disj r B = true) :
    v.readAt Val B (v.writes Val f (⟨r, w⟩ :: L)) = v.readAt Val B (v.writes Val f L) := by
  exact View.readAt_writes_of_forall_not_mem v (v.writes Val f L) [⟨r, w⟩] B fun j p hp => by
    rw [List.mem_singleton.mp hp]; exact LoadRect.idx_not_mem_of_disj h j

omit [∀ e, Nonempty (Val e)] in
/-- Stores made after others are made over what those left. -/
theorem append (v : View sig κ sp s e) (f : v.ty.Contents Val) (L L' : List (View.Piece Val s e)) :
    v.writes Val f (L ++ L') = v.writes Val (v.writes Val f L') L := by
  induction L with
  | nil => rfl
  | cons p L ih => rw [List.cons_append, View.writes_cons, View.writes_cons, ih]

/-- A part of what the newest store stored. -/
theorem part (v : View sig κ sp s e) (f : v.ty.Contents Val) (r : Rect s) (w : r.shape.Idx → Val e) (L : List (View.Piece Val s e))
    (B : LoadRect s) (g : B.shape.Idx → r.shape.Idx) (h : ∀ j, B.idx j = r.emb (g j)) :
    v.readAt Val B (v.writes Val f (⟨r, w⟩ :: L)) = fun j => w (g j) := by
  funext j
  have e := congrFun (hit v f r w L) (g j)
  rw [View.readAt_apply] at e ⊢
  rw [h j]; exact e

/-- The part given by its offsets within the store's rectangle. -/
theorem part_unit (v : View sig κ sp s e) (f : v.ty.Contents Val) {off off' d size size' : Fin s.rank → ℕ}
    (inb : ∀ a, off a + size a ≤ s.size a) (inb' : ∀ a, off' a + size' a ≤ s.size a) (inbd : ∀ a, d a + size' a ≤ size a)
    (w : (Rect.unit off size inb).shape.Idx → Val e) (L : List (View.Piece Val s e)) (h : ∀ a, off' a = off a + d a) :
    v.readAt Val (Rect.unit off' size' inb').toLoadRect (v.writes Val f (⟨Rect.unit off size inb, w⟩ :: L))
      = fun j => w ((Rect.unit (s := ⟨s.rank, size⟩) d size' inbd).toLoadRect.idx j) :=
  part v f _ w L _ _ fun j => funext fun a => Fin.ext (by
    show off' a + 1 * (j a).val = off a + 1 * (d a + 1 * (j a).val)
    rw [h a]; omega)

end Cert.Proof.Store

end

end
-- ==== Proof.Attn.InnerIdeal.lean ====
/- The attention's inner loop: what two key blocks' trip leaves in the scores, the running maxima and the running
   sums, and so what the loop over the whole key blocks before the diagonal leaves. -/
module

public import proofs.«01_k».proof.Proof.Attn.TileIdeal
public import proofs.«01_k».proof.Proof.Attn.Store

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

/-! ## The blocks the kernel cuts out of its windows -/

/-- The queries of head `h` in tile `t`, transposed: feature by query. -/
def qRow (B1 : Vec F S1x8x512x512 .bf16) (t : ℕ) (h : Fin 4) : Vec F S1x1x128x512 .bf16 := fun x =>
  B1 ((Rect.unit (s := S1x8x512x512) ![0, min t 7, 128 * h.val, 0] S1x1x128x512.size
    (by intro a; fin_cases a <;> simp [Shape.size] <;> omega)).toLoadRect.idx x)

/-- The second half of those queries. -/
def qHalf (B1 : Vec F S1x8x512x512 .bf16) (t : ℕ) (h : Fin 4) : Vec F S1x1x128x256 .bf16 := fun x =>
  B1 ((Rect.unit (s := S1x8x512x512) ![0, min t 7, 128 * h.val, 256] S1x1x128x256.size
    (by intro a; fin_cases a <;> simp [Shape.size] <;> omega)).toLoadRect.idx x)

/-- The keys of head `h` in block `n`: key by feature. -/
def kRow (B2 : Vec F S1x4096x512 .bf16) (n : ℕ) (h : Fin 4) : Vec F S1x256x128 .bf16 := fun x =>
  B2 ((Rect.unit (s := S1x4096x512) ![0, 256 * min n 15, 128 * h.val] S1x256x128.size
    (by intro a; fin_cases a <;> simp [Shape.size] <;> omega)).toLoadRect.idx x)

/-- The values of head `h` in block `n`, transposed: feature by key. -/
def vRow (B3 : Vec F S1x16x256x256 .bf16) (n : ℕ) (h : Fin 4) : Vec F S1x1x64x256 .bf16 := fun x =>
  B3 ((Rect.unit (s := S1x16x256x256) ![0, min n 15, 64 * h.val, 0] S1x1x64x256.size
    (by intro a; fin_cases a <;> simp [Shape.size] <;> omega)).toLoadRect.idx x)

/-- Head `h`'s scores kept for the next block, its running maxima and its running sums, in the scratch buffers. -/
def row5 (v : View sig .tc .vmem S2x4x256x512 .f32) (f : v.ty.Contents (Elt F)) (h : Fin 4) : Vec F S1x1x256x512 .f32 :=
  v.readAt (Elt F) (Rect.unit (s := S2x4x256x512) ![0, h.val, 0, 0] S1x1x256x512.size
    (by intro a; fin_cases a <;> simp [Shape.size] <;> omega)).toLoadRect f

def row6 (v : View sig .tc .vmem S4x1x512 .f32) (f : v.ty.Contents (Elt F)) (h : Fin 4) : Vec F S1x1x512 .f32 :=
  v.readAt (Elt F) (Rect.unit (s := S4x1x512) ![h.val, 0, 0] S1x1x512.size
    (by intro a; fin_cases a <;> simp [Shape.size] <;> omega)).toLoadRect f

def row7 (v : View sig .tc .vmem S4x80x512 .f32) (f : v.ty.Contents (Elt F)) (h : Fin 4) : Vec F S1x80x512 .f32 :=
  v.readAt (Elt F) (Rect.unit (s := S4x80x512) ![h.val, 0, 0] S1x80x512.size
    (by intro a; fin_cases a <;> simp [Shape.size] <;> omega)).toLoadRect f

theorem q_read (arg1 : Memref sig .tc .vmem S1x8x512x512 .bf16) (X1 : BufTy.Contents (Elt F) arg1.view.ty) {off : Fin S1x8x512x512.rank → ℕ}
    (inb) (t : ℕ) (h : Fin 4) (e : off = ![0, min t 7, 128 * h.val, 0]) :
    arg1.view.readAt (Elt F) (Rect.unit off S1x1x128x512.size inb).toLoadRect X1 = qRow (arg1.view.read (Elt F) X1) t h := by
  subst e; rfl

theorem qh_read (arg1 : Memref sig .tc .vmem S1x8x512x512 .bf16) (X1 : BufTy.Contents (Elt F) arg1.view.ty) {off : Fin S1x8x512x512.rank → ℕ}
    (inb) (t : ℕ) (h : Fin 4) (e : off = ![0, min t 7, 128 * h.val, 256]) :
    arg1.view.readAt (Elt F) (Rect.unit off S1x1x128x256.size inb).toLoadRect X1 = qHalf (arg1.view.read (Elt F) X1) t h := by
  subst e; rfl

theorem k_read (arg2 : Memref sig .tc .vmem S1x4096x512 .bf16) (X2 : BufTy.Contents (Elt F) arg2.view.ty) {off : Fin S1x4096x512.rank → ℕ}
    (inb) (n : ℕ) (h : Fin 4) (e : off = ![0, 256 * min n 15, 128 * h.val]) :
    arg2.view.readAt (Elt F) (Rect.unit off S1x256x128.size inb).toLoadRect X2 = kRow (arg2.view.read (Elt F) X2) n h := by
  subst e; rfl

theorem v_read (arg3 : Memref sig .tc .vmem S1x16x256x256 .bf16) (X3 : BufTy.Contents (Elt F) arg3.view.ty) {off : Fin S1x16x256x256.rank → ℕ}
    (inb) (n : ℕ) (h : Fin 4) (e : off = ![0, min n 15, 64 * h.val, 0]) :
    arg3.view.readAt (Elt F) (Rect.unit off S1x1x64x256.size inb).toLoadRect X3 = vRow (arg3.view.read (Elt F) X3) n h := by
  subst e; rfl

/-! ## The recurrences: scores of key block `n`, maxima and sums over the blocks before `n` -/

section
variable (B1 : Vec F S1x8x512x512 .bf16) (B2 : Vec F S1x4096x512 .bf16) (B3 : Vec F S1x16x256x256 .bf16) (t : ℕ) (h : Fin 4)

/-- The scores of key block `n` against the tile's queries. -/
def SV (n : ℕ) : Vec F S1x1x256x512 .f32 := k0_pay4 (kRow B2 n h) (qRow B1 t h)

/-- The running maxima over the key blocks before `n`. -/
def MV : ℕ → Vec F S1x1x512 .f32
  | 0 => fun _ => Scalar.ofBits .f32 0xFF800000#32
  | n + 1 => k0_pay14 (MV n) (SV B1 B2 t h n)

/-- The running sums over the key blocks before `n`: the values' rows and, below them, the weights'. -/
def AV : ℕ → Vec F S1x80x512 .f32
  | 0 => fun _ => Scalar.ofBits .f32 0x00000000#32
  | n + 1 => k0_pay13 onesR (MV B1 B2 t h n) (SV B1 B2 t h n) (SV B1 B2 t h n) (vRow B3 n h) (AV n)

end

/-! ## One trip -/

section
variable (𝒱 : Variants) (c : Dev nD) (bd : Option 𝒱.V) (i : grid0.Coords) (arg1 : Memref sig .tc .vmem S1x8x512x512 .bf16) (harg1 : arg1.IsWhole) (arg2 : Memref sig .tc .vmem S1x4096x512 .bf16) (harg2 : arg2.IsWhole) (arg3 : Memref sig .tc .vmem S1x16x256x256 .bf16) (harg3 : arg3.IsWhole) (arg4 : Memref sig .tc .vmem S1x4096x256 .bf16) (harg4 : arg4.IsWhole) (arg5 : Memref sig .tc .vmem S2x4x256x512 .f32) (harg5 : arg5.IsWhole) (arg6 : Memref sig .tc .vmem S4x1x512 .f32) (harg6 : arg6.IsWhole) (arg7 : Memref sig .tc .vmem S4x80x512 .f32) (harg7 : arg7.IsWhole) (c0 c1 : BitVec 32)
  (k0_t1 : Fin k0_t1_loop.trips) (arg8 : BitVec 32) (X1 : BufTy.Contents (Elt F) arg1.view.ty) (X2 : BufTy.Contents (Elt F) arg2.view.ty) (X3 : BufTy.Contents (Elt F) arg3.view.ty)
  (f5 : BufTy.Contents (Elt F) arg5.view.ty) (f6 : BufTy.Contents (Elt F) arg6.view.ty) (f7 : BufTy.Contents (Elt F) arg7.view.ty)

variable {arg1 arg2 arg3 arg4 arg5 arg6 arg7}
set_option maxHeartbeats 2000000

theorem trips2 : ∀ k0_t1 : Fin k0_t1_loop.trips, (k0_t2_loop k0_t1).trips = k0_t1.val := by decide +kernel
theorem trips3 : ∀ k0_t1 : Fin k0_t1_loop.trips, (k0_t3_loop k0_t1).trips = 0 := by decide +kernel
theorem trips1 : k0_t1_loop.trips = 8 := by decide +kernel

theorem tq0 (inb) : arg1.view.readAt (Elt F) (Rect.unit (s := S1x8x512x512) (k0_off2 k0_t1) S1x1x128x512.size inb).toLoadRect X1 = qRow (arg1.view.read (Elt F) X1) k0_t1.val 0 :=
  q_read arg1 X1 _ _ _ (by rw [k0_off2_eq, Nat.min_eq_left (by have := k0_t1.isLt; have := trips1; omega)]; rfl)
theorem tk0 (k : Fin (k0_t2_loop k0_t1).trips) (inb) : arg2.view.readAt (Elt F) (Rect.unit (s := S1x4096x512) (k0_off1 k0_t1 k 1#32) S1x256x128.size inb).toLoadRect X2 = kRow (arg2.view.read (Elt F) X2) (2 * k.val + 1) 0 :=
  k_read arg2 X2 _ _ _ ((k0_off1_eq k0_t1 k 0).trans (by rw [Nat.min_eq_left (by have := k.isLt; have := trips2 k0_t1; have := k0_t1.isLt; have := trips1; omega)]; congr 2; simp; omega))
theorem tl0 (k : Fin (k0_t2_loop k0_t1).trips) (inb) : arg2.view.readAt (Elt F) (Rect.unit (s := S1x4096x512) (k0_off1 k0_t1 k 2#32) S1x256x128.size inb).toLoadRect X2 = kRow (arg2.view.read (Elt F) X2) (2 * k.val + 1 + 1) 0 :=
  k_read arg2 X2 _ _ _ ((k0_off1_eq k0_t1 k 1).trans (by rw [Nat.min_eq_left (by have := k.isLt; have := trips2 k0_t1; have := k0_t1.isLt; have := trips1; omega)]; congr 2; simp; omega))
theorem tv0 (k : Fin (k0_t2_loop k0_t1).trips) (inb) : arg3.view.readAt (Elt F) (Rect.unit (s := S1x16x256x256) (k0_off3 k0_t1 k) S1x1x64x256.size inb).toLoadRect X3 = vRow (arg3.view.read (Elt F) X3) (2 * k.val) 0 :=
  v_read arg3 X3 _ _ _ (by rw [k0_off3_eq, Nat.min_eq_left (by have := k.isLt; have := trips2 k0_t1; have := k0_t1.isLt; have := trips1; omega)]; rfl)
theorem tw0 (k : Fin (k0_t2_loop k0_t1).trips) (inb) : arg3.view.readAt (Elt F) (Rect.unit (s := S1x16x256x256) (k0_off13 k0_t1 k) S1x1x64x256.size inb).toLoadRect X3 = vRow (arg3.view.read (Elt F) X3) (2 * k.val + 1) 0 :=
  v_read arg3 X3 _ _ _ (by rw [k0_off13_eq, Nat.min_eq_left (by have := k.isLt; have := trips2 k0_t1; have := k0_t1.isLt; have := trips1; omega)]; rfl)

theorem tq1 (inb) : arg1.view.readAt (Elt F) (Rect.unit (s := S1x8x512x512) (k0_off5 k0_t1) S1x1x128x512.size inb).toLoadRect X1 = qRow (arg1.view.read (Elt F) X1) k0_t1.val 1 :=
  q_read arg1 X1 _ _ _ (by rw [k0_off5_eq, Nat.min_eq_left (by have := k0_t1.isLt; have := trips1; omega)]; rfl)
theorem tk1 (k : Fin (k0_t2_loop k0_t1).trips) (inb) : arg2.view.readAt (Elt F) (Rect.unit (s := S1x4096x512) (k0_off4 k0_t1 k 1#32) S1x256x128.size inb).toLoadRect X2 = kRow (arg2.view.read (Elt F) X2) (2 * k.val + 1) 1 :=
  k_read arg2 X2 _ _ _ ((k0_off4_eq k0_t1 k 0).trans (by rw [Nat.min_eq_left (by have := k.isLt; have := trips2 k0_t1; have := k0_t1.isLt; have := trips1; omega)]; congr 2; simp; omega))
theorem tl1 (k : Fin (k0_t2_loop k0_t1).trips) (inb) : arg2.view.readAt (Elt F) (Rect.unit (s := S1x4096x512) (k0_off4 k0_t1 k 2#32) S1x256x128.size inb).toLoadRect X2 = kRow (arg2.view.read (Elt F) X2) (2 * k.val + 1 + 1) 1 :=
  k_read arg2 X2 _ _ _ ((k0_off4_eq k0_t1 k 1).trans (by rw [Nat.min_eq_left (by have := k.isLt; have := trips2 k0_t1; have := k0_t1.isLt; have := trips1; omega)]; congr 2; simp; omega))
theorem tv1 (k : Fin (k0_t2_loop k0_t1).trips) (inb) : arg3.view.readAt (Elt F) (Rect.unit (s := S1x16x256x256) (k0_off6 k0_t1 k) S1x1x64x256.size inb).toLoadRect X3 = vRow (arg3.view.read (Elt F) X3) (2 * k.val) 1 :=
  v_read arg3 X3 _ _ _ (by rw [k0_off6_eq, Nat.min_eq_left (by have := k.isLt; have := trips2 k0_t1; have := k0_t1.isLt; have := trips1; omega)]; rfl)
theorem tw1 (k : Fin (k0_t2_loop k0_t1).trips) (inb) : arg3.view.readAt (Elt F) (Rect.unit (s := S1x16x256x256) (k0_off14 k0_t1 k) S1x1x64x256.size inb).toLoadRect X3 = vRow (arg3.view.read (Elt F) X3) (2 * k.val + 1) 1 :=
  v_read arg3 X3 _ _ _ (by rw [k0_off14_eq, Nat.min_eq_left (by have := k.isLt; have := trips2 k0_t1; have := k0_t1.isLt; have := trips1; omega)]; rfl)

theorem tq2 (inb) : arg1.view.readAt (Elt F) (Rect.unit (s := S1x8x512x512) (k0_off8 k0_t1) S1x1x128x512.size inb).toLoadRect X1 = qRow (arg1.view.read (Elt F) X1) k0_t1.val 2 :=
  q_read arg1 X1 _ _ _ (by rw [k0_off8_eq, Nat.min_eq_left (by have := k0_t1.isLt; have := trips1; omega)]; rfl)
theorem tk2 (k : Fin (k0_t2_loop k0_t1).trips) (inb) : arg2.view.readAt (Elt F) (Rect.unit (s := S1x4096x512) (k0_off7 k0_t1 k 1#32) S1x256x128.size inb).toLoadRect X2 = kRow (arg2.view.read (Elt F) X2) (2 * k.val + 1) 2 :=
  k_read arg2 X2 _ _ _ ((k0_off7_eq k0_t1 k 0).trans (by rw [Nat.min_eq_left (by have := k.isLt; have := trips2 k0_t1; have := k0_t1.isLt; have := trips1; omega)]; congr 2; simp; omega))
theorem tl2 (k : Fin (k0_t2_loop k0_t1).trips) (inb) : arg2.view.readAt (Elt F) (Rect.unit (s := S1x4096x512) (k0_off7 k0_t1 k 2#32) S1x256x128.size inb).toLoadRect X2 = kRow (arg2.view.read (Elt F) X2) (2 * k.val + 1 + 1) 2 :=
  k_read arg2 X2 _ _ _ ((k0_off7_eq k0_t1 k 1).trans (by rw [Nat.min_eq_left (by have := k.isLt; have := trips2 k0_t1; have := k0_t1.isLt; have := trips1; omega)]; congr 2; simp; omega))
theorem tv2 (k : Fin (k0_t2_loop k0_t1).trips) (inb) : arg3.view.readAt (Elt F) (Rect.unit (s := S1x16x256x256) (k0_off9 k0_t1 k) S1x1x64x256.size inb).toLoadRect X3 = vRow (arg3.view.read (Elt F) X3) (2 * k.val) 2 :=
  v_read arg3 X3 _ _ _ (by rw [k0_off9_eq, Nat.min_eq_left (by have := k.isLt; have := trips2 k0_t1; have := k0_t1.isLt; have := trips1; omega)]; rfl)
theorem tw2 (k : Fin (k0_t2_loop k0_t1).trips) (inb) : arg3.view.readAt (Elt F) (Rect.unit (s := S1x16x256x256) (k0_off15 k0_t1 k) S1x1x64x256.size inb).toLoadRect X3 = vRow (arg3.view.read (Elt F) X3) (2 * k.val + 1) 2 :=
  v_read arg3 X3 _ _ _ (by rw [k0_off15_eq, Nat.min_eq_left (by have := k.isLt; have := trips2 k0_t1; have := k0_t1.isLt; have := trips1; omega)]; rfl)

theorem tq3 (inb) : arg1.view.readAt (Elt F) (Rect.unit (s := S1x8x512x512) (k0_off11 k0_t1) S1x1x128x512.size inb).toLoadRect X1 = qRow (arg1.view.read (Elt F) X1) k0_t1.val 3 :=
  q_read arg1 X1 _ _ _ (by rw [k0_off11_eq, Nat.min_eq_left (by have := k0_t1.isLt; have := trips1; omega)]; rfl)
theorem tk3 (k : Fin (k0_t2_loop k0_t1).trips) (inb) : arg2.view.readAt (Elt F) (Rect.unit (s := S1x4096x512) (k0_off10 k0_t1 k 1#32) S1x256x128.size inb).toLoadRect X2 = kRow (arg2.view.read (Elt F) X2) (2 * k.val + 1) 3 :=
  k_read arg2 X2 _ _ _ ((k0_off10_eq k0_t1 k 0).trans (by rw [Nat.min_eq_left (by have := k.isLt; have := trips2 k0_t1; have := k0_t1.isLt; have := trips1; omega)]; congr 2; simp; omega))
theorem tl3 (k : Fin (k0_t2_loop k0_t1).trips) (inb) : arg2.view.readAt (Elt F) (Rect.unit (s := S1x4096x512) (k0_off10 k0_t1 k 2#32) S1x256x128.size inb).toLoadRect X2 = kRow (arg2.view.read (Elt F) X2) (2 * k.val + 1 + 1) 3 :=
  k_read arg2 X2 _ _ _ ((k0_off10_eq k0_t1 k 1).trans (by rw [Nat.min_eq_left (by have := k.isLt; have := trips2 k0_t1; have := k0_t1.isLt; have := trips1; omega)]; congr 2; simp; omega))
theorem tv3 (k : Fin (k0_t2_loop k0_t1).trips) (inb) : arg3.view.readAt (Elt F) (Rect.unit (s := S1x16x256x256) (k0_off12 k0_t1 k) S1x1x64x256.size inb).toLoadRect X3 = vRow (arg3.view.read (Elt F) X3) (2 * k.val) 3 :=
  v_read arg3 X3 _ _ _ (by rw [k0_off12_eq, Nat.min_eq_left (by have := k.isLt; have := trips2 k0_t1; have := k0_t1.isLt; have := trips1; omega)]; rfl)
theorem tw3 (k : Fin (k0_t2_loop k0_t1).trips) (inb) : arg3.view.readAt (Elt F) (Rect.unit (s := S1x16x256x256) (k0_off16 k0_t1 k) S1x1x64x256.size inb).toLoadRect X3 = vRow (arg3.view.read (Elt F) X3) (2 * k.val + 1) 3 :=
  v_read arg3 X3 _ _ _ (by rw [k0_off16_eq, Nat.min_eq_left (by have := k.isLt; have := trips2 k0_t1; have := k0_t1.isLt; have := trips1; omega)]; rfl)

theorem tm0 (k : Fin (k0_t2_loop k0_t1).trips) : trip_k0_t2.sl.v734 arg5 arg6 f5 f6 = (k0_pay14 (row6 arg6.view f6 0) (row5 arg5.view f5 0)) := by
  refine (Store.skip _ _ _ _ _ _ (by decide +kernel)).trans ?_
  refine (Store.skip _ _ _ _ _ _ (by decide +kernel)).trans ?_
  refine (Store.skip _ _ _ _ _ _ (by decide +kernel)).trans ?_
  exact (Store.hit _ _ _ _ _).trans rfl
theorem ts0 (k : Fin (k0_t2_loop k0_t1).trips) : trip_k0_t2.sl.v736 arg1 arg2 arg5 k0_t1 X1 X2 k = (SV (arg1.view.read (Elt F) X1) (arg2.view.read (Elt F) X2) k0_t1.val 0 (2 * k.val + 1)) := by
  refine (Store.skip _ _ _ _ _ _ (by decide +kernel)).trans ?_
  refine (Store.skip _ _ _ _ _ _ (by decide +kernel)).trans ?_
  refine (Store.skip _ _ _ _ _ _ (by decide +kernel)).trans ?_
  refine (Store.skip _ _ _ _ _ _ (by decide +kernel)).trans ?_
  exact (Store.hit _ _ _ _ _).trans (congrArg₂ k0_pay4 (tk0 k0_t1 X2 k _) (tq0 k0_t1 X1 _))
theorem ta0 (k : Fin (k0_t2_loop k0_t1).trips) : trip_k0_t2.sl.v753 arg3 arg5 arg6 arg7 onesR k0_t1 X3 k f5 f6 f7 = (k0_pay13 onesR (row6 arg6.view f6 0) (row5 arg5.view f5 0) (row5 arg5.view f5 0) (vRow (arg3.view.read (Elt F) X3) (2 * k.val) 0) (row7 arg7.view f7 0)) := by
  refine (Store.skip _ _ _ _ _ _ (by decide +kernel)).trans ?_
  refine (Store.skip _ _ _ _ _ _ (by decide +kernel)).trans ?_
  refine (Store.skip _ _ _ _ _ _ (by decide +kernel)).trans ?_
  exact (Store.hit _ _ _ _ _).trans (congrArg (fun v => k0_pay13 onesR (row6 arg6.view f6 0) (row5 arg5.view f5 0) (row5 arg5.view f5 0) v (row7 arg7.view f7 0)) (tv0 k0_t1 X3 k _))

theorem trip5_0 (k : Fin (k0_t2_loop k0_t1).trips) : row5 arg5.view (arg5.view.writes (Elt F) f5 (tripL_k0_t2 (F := F) 𝒱 c bd i arg1 harg1 arg2 harg2 arg3 harg3 arg4 harg4 arg5 harg5 arg6 harg6 arg7 harg7 onesR c0 c1 k0_t1 arg8 X1 X2 X3 k f5 f6 f7).1) 0 = SV (arg1.view.read (Elt F) X1) (arg2.view.read (Elt F) X2) k0_t1.val 0 (2 * k.val + 1 + 1) := by
  unfold tripL_k0_t2 trip_k0_t2
  refine (Store.skip _ _ _ _ _ _ (by decide +kernel)).trans ?_
  refine (Store.skip _ _ _ _ _ _ (by decide +kernel)).trans ?_
  refine (Store.skip _ _ _ _ _ _ (by decide +kernel)).trans ?_
  exact (Store.hit _ _ _ _ _).trans (congrArg₂ k0_pay4 (tl0 k0_t1 X2 k _) (tq0 k0_t1 X1 _))
theorem trip6_0 (k : Fin (k0_t2_loop k0_t1).trips) : row6 arg6.view (arg6.view.writes (Elt F) f6 (tripL_k0_t2 (F := F) 𝒱 c bd i arg1 harg1 arg2 harg2 arg3 harg3 arg4 harg4 arg5 harg5 arg6 harg6 arg7 harg7 onesR c0 c1 k0_t1 arg8 X1 X2 X3 k f5 f6 f7).2.1) 0 = k0_pay14 (k0_pay14 (row6 arg6.view f6 0) (row5 arg5.view f5 0)) (SV (arg1.view.read (Elt F) X1) (arg2.view.read (Elt F) X2) k0_t1.val 0 (2 * k.val + 1)) := by
  unfold tripL_k0_t2 trip_k0_t2
  refine (Store.skip _ _ _ _ _ _ (by decide +kernel)).trans ?_
  refine (Store.skip _ _ _ _ _ _ (by decide +kernel)).trans ?_
  refine (Store.skip _ _ _ _ _ _ (by decide +kernel)).trans ?_
  refine (Store.hit _ _ _ _ _).trans ?_
  rw [← tm0 k0_t1 f5 f6 k, ← ts0 k0_t1 X1 X2 k]
  rfl
theorem trip7_0 (k : Fin (k0_t2_loop k0_t1).trips) : row7 arg7.view (arg7.view.writes (Elt F) f7 (tripL_k0_t2 (F := F) 𝒱 c bd i arg1 harg1 arg2 harg2 arg3 harg3 arg4 harg4 arg5 harg5 arg6 harg6 arg7 harg7 onesR c0 c1 k0_t1 arg8 X1 X2 X3 k f5 f6 f7).2.2) 0 = k0_pay13 onesR (k0_pay14 (row6 arg6.view f6 0) (row5 arg5.view f5 0)) (SV (arg1.view.read (Elt F) X1) (arg2.view.read (Elt F) X2) k0_t1.val 0 (2 * k.val + 1)) (SV (arg1.view.read (Elt F) X1) (arg2.view.read (Elt F) X2) k0_t1.val 0 (2 * k.val + 1)) (vRow (arg3.view.read (Elt F) X3) (2 * k.val + 1) 0) (k0_pay13 onesR (row6 arg6.view f6 0) (row5 arg5.view f5 0) (row5 arg5.view f5 0) (vRow (arg3.view.read (Elt F) X3) (2 * k.val) 0) (row7 arg7.view f7 0)) := by
  unfold tripL_k0_t2 trip_k0_t2
  refine (Store.skip _ _ _ _ _ _ (by decide +kernel)).trans ?_
  refine (Store.skip _ _ _ _ _ _ (by decide +kernel)).trans ?_
  refine (Store.skip _ _ _ _ _ _ (by decide +kernel)).trans ?_
  refine (Store.hit _ _ _ _ _).trans ?_
  rw [← tm0 k0_t1 f5 f6 k, ← ts0 k0_t1 X1 X2 k, ← ta0 k0_t1 X3 f5 f6 f7 k, ← tw0 k0_t1 X3 k (k0_off13_inb k0_t1 k)]
  rfl

theorem tm1 (k : Fin (k0_t2_loop k0_t1).trips) : trip_k0_t2.sl.v781 arg1 arg2 arg5 arg6 k0_t1 X1 X2 k f5 f6 = (k0_pay14 (row6 arg6.view f6 1) (row5 arg5.view f5 1)) := by
  refine (Store.skip _ _ _ _ _ _ (by decide +kernel)).trans ?_
  refine (Store.skip _ _ _ _ _ _ (by decide +kernel)).trans ?_
  refine (Store.skip _ _ _ _ _ _ (by decide +kernel)).trans ?_
  exact (Store.hit _ _ _ _ _).trans rfl
theorem ts1 (k : Fin (k0_t2_loop k0_t1).trips) : trip_k0_t2.sl.v783 arg1 arg2 arg5 k0_t1 X1 X2 k = (SV (arg1.view.read (Elt F) X1) (arg2.view.read (Elt F) X2) k0_t1.val 1 (2 * k.val + 1)) := by
  refine (Store.skip _ _ _ _ _ _ (by decide +kernel)).trans ?_
  refine (Store.skip _ _ _ _ _ _ (by decide +kernel)).trans ?_
  refine (Store.skip _ _ _ _ _ _ (by decide +kernel)).trans ?_
  refine (Store.skip _ _ _ _ _ _ (by decide +kernel)).trans ?_
  exact (Store.hit _ _ _ _ _).trans (congrArg₂ k0_pay4 (tk1 k0_t1 X2 k _) (tq1 k0_t1 X1 _))
theorem ta1 (k : Fin (k0_t2_loop k0_t1).trips) : trip_k0_t2.sl.v800 arg1 arg2 arg3 arg5 arg6 arg7 onesR k0_t1 X1 X2 X3 k f5 f6 f7 = (k0_pay13 onesR (row6 arg6.view f6 1) (row5 arg5.view f5 1) (row5 arg5.view f5 1) (vRow (arg3.view.read (Elt F) X3) (2 * k.val) 1) (row7 arg7.view f7 1)) := by
  refine (Store.skip _ _ _ _ _ _ (by decide +kernel)).trans ?_
  refine (Store.skip _ _ _ _ _ _ (by decide +kernel)).trans ?_
  refine (Store.skip _ _ _ _ _ _ (by decide +kernel)).trans ?_
  exact (Store.hit _ _ _ _ _).trans (congrArg (fun v => k0_pay13 onesR (row6 arg6.view f6 1) (row5 arg5.view f5 1) (row5 arg5.view f5 1) v (row7 arg7.view f7 1)) (tv1 k0_t1 X3 k _))

theorem trip5_1 (k : Fin (k0_t2_loop k0_t1).trips) : row5 arg5.view (arg5.view.writes (Elt F) f5 (tripL_k0_t2 (F := F) 𝒱 c bd i arg1 harg1 arg2 harg2 arg3 harg3 arg4 harg4 arg5 harg5 arg6 harg6 arg7 harg7 onesR c0 c1 k0_t1 arg8 X1 X2 X3 k f5 f6 f7).1) 1 = SV (arg1.view.read (Elt F) X1) (arg2.view.read (Elt F) X2) k0_t1.val 1 (2 * k.val + 1 + 1) := by
  unfold tripL_k0_t2 trip_k0_t2
  refine (Store.skip _ _ _ _ _ _ (by decide +kernel)).trans ?_
  refine (Store.skip _ _ _ _ _ _ (by decide +kernel)).trans ?_
  exact (Store.hit _ _ _ _ _).trans (congrArg₂ k0_pay4 (tl1 k0_t1 X2 k _) (tq1 k0_t1 X1 _))
theorem trip6_1 (k : Fin (k0_t2_loop k0_t1).trips) : row6 arg6.view (arg6.view.writes (Elt F) f6 (tripL_k0_t2 (F := F) 𝒱 c bd i arg1 harg1 arg2 harg2 arg3 harg3 arg4 harg4 arg5 harg5 arg6 harg6 arg7 harg7 onesR c0 c1 k0_t1 arg8 X1 X2 X3 k f5 f6 f7).2.1) 1 = k0_pay14 (k0_pay14 (row6 arg6.view f6 1) (row5 arg5.view f5 1)) (SV (arg1.view.read (Elt F) X1) (arg2.view.read (Elt F) X2) k0_t1.val 1 (2 * k.val + 1)) := by
  unfold tripL_k0_t2 trip_k0_t2
  refine (Store.skip _ _ _ _ _ _ (by decide +kernel)).trans ?_
  refine (Store.skip _ _ _ _ _ _ (by decide +kernel)).trans ?_
  refine (Store.hit _ _ _ _ _).trans ?_
  rw [← tm1 k0_t1 X1 X2 f5 f6 k, ← ts1 k0_t1 X1 X2 k]
  rfl
theorem trip7_1 (k : Fin (k0_t2_loop k0_t1).trips) : row7 arg7.view (arg7.view.writes (Elt F) f7 (tripL_k0_t2 (F := F) 𝒱 c bd i arg1 harg1 arg2 harg2 arg3 harg3 arg4 harg4 arg5 harg5 arg6 harg6 arg7 harg7 onesR c0 c1 k0_t1 arg8 X1 X2 X3 k f5 f6 f7).2.2) 1 = k0_pay13 onesR (k0_pay14 (row6 arg6.view f6 1) (row5 arg5.view f5 1)) (SV (arg1.view.read (Elt F) X1) (arg2.view.read (Elt F) X2) k0_t1.val 1 (2 * k.val + 1)) (SV (arg1.view.read (Elt F) X1) (arg2.view.read (Elt F) X2) k0_t1.val 1 (2 * k.val + 1)) (vRow (arg3.view.read (Elt F) X3) (2 * k.val + 1) 1) (k0_pay13 onesR (row6 arg6.view f6 1) (row5 arg5.view f5 1) (row5 arg5.view f5 1) (vRow (arg3.view.read (Elt F) X3) (2 * k.val) 1) (row7 arg7.view f7 1)) := by
  unfold tripL_k0_t2 trip_k0_t2
  refine (Store.skip _ _ _ _ _ _ (by decide +kernel)).trans ?_
  refine (Store.skip _ _ _ _ _ _ (by decide +kernel)).trans ?_
  refine (Store.hit _ _ _ _ _).trans ?_
  rw [← tm1 k0_t1 X1 X2 f5 f6 k, ← ts1 k0_t1 X1 X2 k, ← ta1 k0_t1 X1 X2 X3 f5 f6 f7 k, ← tw1 k0_t1 X3 k (k0_off14_inb k0_t1 k)]
  rfl

theorem tm2 (k : Fin (k0_t2_loop k0_t1).trips) : trip_k0_t2.sl.v828 arg1 arg2 arg5 arg6 k0_t1 X1 X2 k f5 f6 = (k0_pay14 (row6 arg6.view f6 2) (row5 arg5.view f5 2)) := by
  refine (Store.skip _ _ _ _ _ _ (by decide +kernel)).trans ?_
  refine (Store.skip _ _ _ _ _ _ (by decide +kernel)).trans ?_
  refine (Store.skip _ _ _ _ _ _ (by decide +kernel)).trans ?_
  exact (Store.hit _ _ _ _ _).trans rfl
theorem ts2 (k : Fin (k0_t2_loop k0_t1).trips) : trip_k0_t2.sl.v830 arg1 arg2 arg5 k0_t1 X1 X2 k = (SV (arg1.view.read (Elt F) X1) (arg2.view.read (Elt F) X2) k0_t1.val 2 (2 * k.val + 1)) := by
  refine (Store.skip _ _ _ _ _ _ (by decide +kernel)).trans ?_
  refine (Store.skip _ _ _ _ _ _ (by decide +kernel)).trans ?_
  refine (Store.skip _ _ _ _ _ _ (by decide +kernel)).trans ?_
  refine (Store.skip _ _ _ _ _ _ (by decide +kernel)).trans ?_
  exact (Store.hit _ _ _ _ _).trans (congrArg₂ k0_pay4 (tk2 k0_t1 X2 k _) (tq2 k0_t1 X1 _))
theorem ta2 (k : Fin (k0_t2_loop k0_t1).trips) : trip_k0_t2.sl.v847 arg1 arg2 arg3 arg5 arg6 arg7 onesR k0_t1 X1 X2 X3 k f5 f6 f7 = (k0_pay13 onesR (row6 arg6.view f6 2) (row5 arg5.view f5 2) (row5 arg5.view f5 2) (vRow (arg3.view.read (Elt F) X3) (2 * k.val) 2) (row7 arg7.view f7 2)) := by
  refine (Store.skip _ _ _ _ _ _ (by decide +kernel)).trans ?_
  refine (Store.skip _ _ _ _ _ _ (by decide +kernel)).trans ?_
  refine (Store.skip _ _ _ _ _ _ (by decide +kernel)).trans ?_
  exact (Store.hit _ _ _ _ _).trans (congrArg (fun v => k0_pay13 onesR (row6 arg6.view f6 2) (row5 arg5.view f5 2) (row5 arg5.view f5 2) v (row7 arg7.view f7 2)) (tv2 k0_t1 X3 k _))

theorem trip5_2 (k : Fin (k0_t2_loop k0_t1).trips) : row5 arg5.view (arg5.view.writes (Elt F) f5 (tripL_k0_t2 (F := F) 𝒱 c bd i arg1 harg1 arg2 harg2 arg3 harg3 arg4 harg4 arg5 harg5 arg6 harg6 arg7 harg7 onesR c0 c1 k0_t1 arg8 X1 X2 X3 k f5 f6 f7).1) 2 = SV (arg1.view.read (Elt F) X1) (arg2.view.read (Elt F) X2) k0_t1.val 2 (2 * k.val + 1 + 1) := by
  unfold tripL_k0_t2 trip_k0_t2
  refine (Store.skip _ _ _ _ _ _ (by decide +kernel)).trans ?_
  exact (Store.hit _ _ _ _ _).trans (congrArg₂ k0_pay4 (tl2 k0_t1 X2 k _) (tq2 k0_t1 X1 _))
theorem trip6_2 (k : Fin (k0_t2_loop k0_t1).trips) : row6 arg6.view (arg6.view.writes (Elt F) f6 (tripL_k0_t2 (F := F) 𝒱 c bd i arg1 harg1 arg2 harg2 arg3 harg3 arg4 harg4 arg5 harg5 arg6 harg6 arg7 harg7 onesR c0 c1 k0_t1 arg8 X1 X2 X3 k f5 f6 f7).2.1) 2 = k0_pay14 (k0_pay14 (row6 arg6.view f6 2) (row5 arg5.view f5 2)) (SV (arg1.view.read (Elt F) X1) (arg2.view.read (Elt F) X2) k0_t1.val 2 (2 * k.val + 1)) := by
  unfold tripL_k0_t2 trip_k0_t2
  refine (Store.skip _ _ _ _ _ _ (by decide +kernel)).trans ?_
  refine (Store.hit _ _ _ _ _).trans ?_
  rw [← tm2 k0_t1 X1 X2 f5 f6 k, ← ts2 k0_t1 X1 X2 k]
  rfl
theorem trip7_2 (k : Fin (k0_t2_loop k0_t1).trips) : row7 arg7.view (arg7.view.writes (Elt F) f7 (tripL_k0_t2 (F := F) 𝒱 c bd i arg1 harg1 arg2 harg2 arg3 harg3 arg4 harg4 arg5 harg5 arg6 harg6 arg7 harg7 onesR c0 c1 k0_t1 arg8 X1 X2 X3 k f5 f6 f7).2.2) 2 = k0_pay13 onesR (k0_pay14 (row6 arg6.view f6 2) (row5 arg5.view f5 2)) (SV (arg1.view.read (Elt F) X1) (arg2.view.read (Elt F) X2) k0_t1.val 2 (2 * k.val + 1)) (SV (arg1.view.read (Elt F) X1) (arg2.view.read (Elt F) X2) k0_t1.val 2 (2 * k.val + 1)) (vRow (arg3.view.read (Elt F) X3) (2 * k.val + 1) 2) (k0_pay13 onesR (row6 arg6.view f6 2) (row5 arg5.view f5 2) (row5 arg5.view f5 2) (vRow (arg3.view.read (Elt F) X3) (2 * k.val) 2) (row7 arg7.view f7 2)) := by
  unfold tripL_k0_t2 trip_k0_t2
  refine (Store.skip _ _ _ _ _ _ (by decide +kernel)).trans ?_
  refine (Store.hit _ _ _ _ _).trans ?_
  rw [← tm2 k0_t1 X1 X2 f5 f6 k, ← ts2 k0_t1 X1 X2 k, ← ta2 k0_t1 X1 X2 X3 f5 f6 f7 k, ← tw2 k0_t1 X3 k (k0_off15_inb k0_t1 k)]
  rfl

theorem tm3 (k : Fin (k0_t2_loop k0_t1).trips) : trip_k0_t2.sl.v875 arg1 arg2 arg5 arg6 k0_t1 X1 X2 k f5 f6 = (k0_pay14 (row6 arg6.view f6 3) (row5 arg5.view f5 3)) := by
  refine (Store.skip _ _ _ _ _ _ (by decide +kernel)).trans ?_
  refine (Store.skip _ _ _ _ _ _ (by decide +kernel)).trans ?_
  refine (Store.skip _ _ _ _ _ _ (by decide +kernel)).trans ?_
  exact (Store.hit _ _ _ _ _).trans rfl
theorem ts3 (k : Fin (k0_t2_loop k0_t1).trips) : trip_k0_t2.sl.v877 arg1 arg2 arg5 k0_t1 X1 X2 k = (SV (arg1.view.read (Elt F) X1) (arg2.view.read (Elt F) X2) k0_t1.val 3 (2 * k.val + 1)) := by
  refine (Store.skip _ _ _ _ _ _ (by decide +kernel)).trans ?_
  refine (Store.skip _ _ _ _ _ _ (by decide +kernel)).trans ?_
  refine (Store.skip _ _ _ _ _ _ (by decide +kernel)).trans ?_
  refine (Store.skip _ _ _ _ _ _ (by decide +kernel)).trans ?_
  exact (Store.hit _ _ _ _ _).trans (congrArg₂ k0_pay4 (tk3 k0_t1 X2 k _) (tq3 k0_t1 X1 _))
theorem ta3 (k : Fin (k0_t2_loop k0_t1).trips) : trip_k0_t2.sl.v894 arg1 arg2 arg3 arg5 arg6 arg7 onesR k0_t1 X1 X2 X3 k f5 f6 f7 = (k0_pay13 onesR (row6 arg6.view f6 3) (row5 arg5.view f5 3) (row5 arg5.view f5 3) (vRow (arg3.view.read (Elt F) X3) (2 * k.val) 3) (row7 arg7.view f7 3)) := by
  refine (Store.skip _ _ _ _ _ _ (by decide +kernel)).trans ?_
  refine (Store.skip _ _ _ _ _ _ (by decide +kernel)).trans ?_
  refine (Store.skip _ _ _ _ _ _ (by decide +kernel)).trans ?_
  exact (Store.hit _ _ _ _ _).trans (congrArg (fun v => k0_pay13 onesR (row6 arg6.view f6 3) (row5 arg5.view f5 3) (row5 arg5.view f5 3) v (row7 arg7.view f7 3)) (tv3 k0_t1 X3 k _))

theorem trip5_3 (k : Fin (k0_t2_loop k0_t1).trips) : row5 arg5.view (arg5.view.writes (Elt F) f5 (tripL_k0_t2 (F := F) 𝒱 c bd i arg1 harg1 arg2 harg2 arg3 harg3 arg4 harg4 arg5 harg5 arg6 harg6 arg7 harg7 onesR c0 c1 k0_t1 arg8 X1 X2 X3 k f5 f6 f7).1) 3 = SV (arg1.view.read (Elt F) X1) (arg2.view.read (Elt F) X2) k0_t1.val 3 (2 * k.val + 1 + 1) := by
  unfold tripL_k0_t2 trip_k0_t2
  exact (Store.hit _ _ _ _ _).trans (congrArg₂ k0_pay4 (tl3 k0_t1 X2 k _) (tq3 k0_t1 X1 _))
theorem trip6_3 (k : Fin (k0_t2_loop k0_t1).trips) : row6 arg6.view (arg6.view.writes (Elt F) f6 (tripL_k0_t2 (F := F) 𝒱 c bd i arg1 harg1 arg2 harg2 arg3 harg3 arg4 harg4 arg5 harg5 arg6 harg6 arg7 harg7 onesR c0 c1 k0_t1 arg8 X1 X2 X3 k f5 f6 f7).2.1) 3 = k0_pay14 (k0_pay14 (row6 arg6.view f6 3) (row5 arg5.view f5 3)) (SV (arg1.view.read (Elt F) X1) (arg2.view.read (Elt F) X2) k0_t1.val 3 (2 * k.val + 1)) := by
  unfold tripL_k0_t2 trip_k0_t2
  refine (Store.hit _ _ _ _ _).trans ?_
  rw [← tm3 k0_t1 X1 X2 f5 f6 k, ← ts3 k0_t1 X1 X2 k]
  rfl
theorem trip7_3 (k : Fin (k0_t2_loop k0_t1).trips) : row7 arg7.view (arg7.view.writes (Elt F) f7 (tripL_k0_t2 (F := F) 𝒱 c bd i arg1 harg1 arg2 harg2 arg3 harg3 arg4 harg4 arg5 harg5 arg6 harg6 arg7 harg7 onesR c0 c1 k0_t1 arg8 X1 X2 X3 k f5 f6 f7).2.2) 3 = k0_pay13 onesR (k0_pay14 (row6 arg6.view f6 3) (row5 arg5.view f5 3)) (SV (arg1.view.read (Elt F) X1) (arg2.view.read (Elt F) X2) k0_t1.val 3 (2 * k.val + 1)) (SV (arg1.view.read (Elt F) X1) (arg2.view.read (Elt F) X2) k0_t1.val 3 (2 * k.val + 1)) (vRow (arg3.view.read (Elt F) X3) (2 * k.val + 1) 3) (k0_pay13 onesR (row6 arg6.view f6 3) (row5 arg5.view f5 3) (row5 arg5.view f5 3) (vRow (arg3.view.read (Elt F) X3) (2 * k.val) 3) (row7 arg7.view f7 3)) := by
  unfold tripL_k0_t2 trip_k0_t2
  refine (Store.hit _ _ _ _ _).trans ?_
  rw [← tm3 k0_t1 X1 X2 f5 f6 k, ← ts3 k0_t1 X1 X2 k, ← ta3 k0_t1 X1 X2 X3 f5 f6 f7 k, ← tw3 k0_t1 X3 k (k0_off16_inb k0_t1 k)]
  rfl

/-! ## The loop over the key blocks before the diagonal -/

/-- After `n` trips the scores are those of block `2n`, and the maxima and sums those of the blocks before it. -/
theorem inner (G5 : BufTy.Contents (Elt F) arg5.view.ty) (G6 : BufTy.Contents (Elt F) arg6.view.ty) (G7 : BufTy.Contents (Elt F) arg7.view.ty)
    (h5 : ∀ h, row5 arg5.view G5 h = SV (arg1.view.read (Elt F) X1) (arg2.view.read (Elt F) X2) k0_t1.val h 0) (h6 : ∀ h, row6 arg6.view G6 h = MV (arg1.view.read (Elt F) X1) (arg2.view.read (Elt F) X2) k0_t1.val h 0)
    (h7 : ∀ h, row7 arg7.view G7 h = AV (arg1.view.read (Elt F) X1) (arg2.view.read (Elt F) X2) (arg3.view.read (Elt F) X3) k0_t1.val h 0) : ∀ n : ℕ, n ≤ (k0_t2_loop k0_t1).trips →
    (∀ h, row5 arg5.view (arg5.view.writes (Elt F) G5 (pb_k0_t2 (F := F) 𝒱 c bd i arg1 harg1 arg2 harg2 arg3 harg3 arg4 harg4 arg5 harg5 arg6 harg6 arg7 harg7 onesR c0 c1 k0_t1 arg8 X1 X2 X3 G5 G6 G7 n).1) h = SV (arg1.view.read (Elt F) X1) (arg2.view.read (Elt F) X2) k0_t1.val h (2 * n))
    ∧ (∀ h, row6 arg6.view (arg6.view.writes (Elt F) G6 (pb_k0_t2 (F := F) 𝒱 c bd i arg1 harg1 arg2 harg2 arg3 harg3 arg4 harg4 arg5 harg5 arg6 harg6 arg7 harg7 onesR c0 c1 k0_t1 arg8 X1 X2 X3 G5 G6 G7 n).2.1) h = MV (arg1.view.read (Elt F) X1) (arg2.view.read (Elt F) X2) k0_t1.val h (2 * n))
    ∧ (∀ h, row7 arg7.view (arg7.view.writes (Elt F) G7 (pb_k0_t2 (F := F) 𝒱 c bd i arg1 harg1 arg2 harg2 arg3 harg3 arg4 harg4 arg5 harg5 arg6 harg6 arg7 harg7 onesR c0 c1 k0_t1 arg8 X1 X2 X3 G5 G6 G7 n).2.2) h = AV (arg1.view.read (Elt F) X1) (arg2.view.read (Elt F) X2) (arg3.view.read (Elt F) X3) k0_t1.val h (2 * n))
  | 0, _ => ⟨h5, h6, h7⟩
  | n + 1, hn => by
    obtain ⟨i5, i6, i7⟩ := inner G5 G6 G7 h5 h6 h7 n (Nat.le_of_succ_le hn)
    have e := pb_k0_t2_succ (F := F) 𝒱 c bd i arg1 harg1 arg2 harg2 arg3 harg3 arg4 harg4 arg5 harg5 arg6 harg6 arg7 harg7 onesR c0 c1 k0_t1 arg8 X1 X2 X3 G5 G6 G7 ⟨n, hn⟩
    simp only [e, Store.append]
    refine ⟨fun h => ?_, fun h => ?_, fun h => ?_⟩
    · refine (show _ = SV (arg1.view.read (Elt F) X1) (arg2.view.read (Elt F) X2) k0_t1.val h (2 * n + 1 + 1) from ?_)
      fin_cases h
      · exact trip5_0 𝒱 c bd i harg1 harg2 harg3 harg4 harg5 harg6 harg7 c0 c1 k0_t1 arg8 X1 X2 X3 _ _ _ ⟨n, hn⟩
      · exact trip5_1 𝒱 c bd i harg1 harg2 harg3 harg4 harg5 harg6 harg7 c0 c1 k0_t1 arg8 X1 X2 X3 _ _ _ ⟨n, hn⟩
      · exact trip5_2 𝒱 c bd i harg1 harg2 harg3 harg4 harg5 harg6 harg7 c0 c1 k0_t1 arg8 X1 X2 X3 _ _ _ ⟨n, hn⟩
      · exact trip5_3 𝒱 c bd i harg1 harg2 harg3 harg4 harg5 harg6 harg7 c0 c1 k0_t1 arg8 X1 X2 X3 _ _ _ ⟨n, hn⟩
    · refine (?_ : _ = k0_pay14 (k0_pay14 (MV (arg1.view.read (Elt F) X1) (arg2.view.read (Elt F) X2) k0_t1.val h (2 * n)) (SV (arg1.view.read (Elt F) X1) (arg2.view.read (Elt F) X2) k0_t1.val h (2 * n))) (SV (arg1.view.read (Elt F) X1) (arg2.view.read (Elt F) X2) k0_t1.val h (2 * n + 1)))
      rw [← i5 h, ← i6 h]
      fin_cases h
      · exact trip6_0 𝒱 c bd i harg1 harg2 harg3 harg4 harg5 harg6 harg7 c0 c1 k0_t1 arg8 X1 X2 X3 _ _ _ ⟨n, hn⟩
      · exact trip6_1 𝒱 c bd i harg1 harg2 harg3 harg4 harg5 harg6 harg7 c0 c1 k0_t1 arg8 X1 X2 X3 _ _ _ ⟨n, hn⟩
      · exact trip6_2 𝒱 c bd i harg1 harg2 harg3 harg4 harg5 harg6 harg7 c0 c1 k0_t1 arg8 X1 X2 X3 _ _ _ ⟨n, hn⟩
      · exact trip6_3 𝒱 c bd i harg1 harg2 harg3 harg4 harg5 harg6 harg7 c0 c1 k0_t1 arg8 X1 X2 X3 _ _ _ ⟨n, hn⟩
    · refine (?_ : _ = k0_pay13 onesR (k0_pay14 (MV (arg1.view.read (Elt F) X1) (arg2.view.read (Elt F) X2) k0_t1.val h (2 * n)) (SV (arg1.view.read (Elt F) X1) (arg2.view.read (Elt F) X2) k0_t1.val h (2 * n)))
          (SV (arg1.view.read (Elt F) X1) (arg2.view.read (Elt F) X2) k0_t1.val h (2 * n + 1)) (SV (arg1.view.read (Elt F) X1) (arg2.view.read (Elt F) X2) k0_t1.val h (2 * n + 1)) (vRow (arg3.view.read (Elt F) X3) (2 * n + 1) h)
          (k0_pay13 onesR (MV (arg1.view.read (Elt F) X1) (arg2.view.read (Elt F) X2) k0_t1.val h (2 * n)) (SV (arg1.view.read (Elt F) X1) (arg2.view.read (Elt F) X2) k0_t1.val h (2 * n)) (SV (arg1.view.read (Elt F) X1) (arg2.view.read (Elt F) X2) k0_t1.val h (2 * n)) (vRow (arg3.view.read (Elt F) X3) (2 * n) h)
            (AV (arg1.view.read (Elt F) X1) (arg2.view.read (Elt F) X2) (arg3.view.read (Elt F) X3) k0_t1.val h (2 * n))))
      rw [← i5 h, ← i6 h, ← i7 h]
      fin_cases h
      · exact trip7_0 𝒱 c bd i harg1 harg2 harg3 harg4 harg5 harg6 harg7 c0 c1 k0_t1 arg8 X1 X2 X3 _ _ _ ⟨n, hn⟩
      · exact trip7_1 𝒱 c bd i harg1 harg2 harg3 harg4 harg5 harg6 harg7 c0 c1 k0_t1 arg8 X1 X2 X3 _ _ _ ⟨n, hn⟩
      · exact trip7_2 𝒱 c bd i harg1 harg2 harg3 harg4 harg5 harg6 harg7 c0 c1 k0_t1 arg8 X1 X2 X3 _ _ _ ⟨n, hn⟩
      · exact trip7_3 𝒱 c bd i harg1 harg2 harg3 harg4 harg5 harg6 harg7 c0 c1 k0_t1 arg8 X1 X2 X3 _ _ _ ⟨n, hn⟩

end

end Cert.Proof.KernelIdeal

end

end
-- ==== Proof.Attn.EndIdeal.lean ====
module

public import proofs.«01_k».proof.Proof.Attn.InnerIdeal

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

/-! ## The diagonal blocks and the tile's output -/

/-- The second half of the queries' maxima, and of their sums. -/
def halfM (m : Vec F S1x1x512 .f32) : Vec F S1x1x256 .f32 := fun j =>
  m ((Rect.unit (s := S1x1x512) ![0, 0, 256] S1x1x256.size (by decide)).toLoadRect.idx j)
def halfA (a : Vec F S1x80x512 .f32) : Vec F S1x80x256 .f32 := fun j =>
  a ((Rect.unit (s := S1x80x512) ![0, 0, 256] S1x80x256.size (by decide)).toLoadRect.idx j)
/-- The first half of the queries' sums. -/
def lowA (a : Vec F S1x80x512 .f32) : Vec F S1x80x256 .f32 := fun j =>
  a ((Rect.unit (s := S1x80x512) ![0, 0, 0] S1x80x256.size (by decide)).toLoadRect.idx j)

section
variable (B1 : Vec F S1x8x512x512 .bf16) (B2 : Vec F S1x4096x512 .bf16) (B3 : Vec F S1x16x256x256 .bf16) (t : ℕ) (h : Fin 4)

/-- The maxima after the first diagonal block, masked; the sums after it. -/
def DM : Vec F S1x1x512 .f32 := k0_pay110 (k0_pay108 maskA (MV B1 B2 t h (2 * t)) (SV B1 B2 t h (2 * t)))
def DA : Vec F S1x80x512 .f32 :=
  k0_pay109 maskA onesR (MV B1 B2 t h (2 * t)) (SV B1 B2 t h (2 * t)) (SV B1 B2 t h (2 * t)) (vRow B3 (2 * t) h) (AV B1 B2 B3 t h (2 * t))
/-- The scores of the second diagonal block against the second half of the queries. -/
def SH : Vec F S1x1x256x256 .f32 := k0_pay106 (kRow B2 (2 * t + 1) h) (qHalf B1 t h)
/-- The second half's sums after the second diagonal block, masked. -/
def UA : Vec F S1x80x256 .f32 :=
  k0_pay133 maskB onesR (k0_pay130 (halfM (DM B1 B2 t h))) (k0_pay131 maskB) (SH B1 B2 t h) (SH B1 B2 t h) (vRow B3 (2 * t + 1) h) (halfA (DA B1 B2 B3 t h))

/-- The tile's sums in the end: values' rows, then the weights'. -/
def FA : Vec F S1x80x512 .f32 := fun y =>
  if hy : (y 2).val < 256 then lowA (DA B1 B2 B3 t h) (fun a => ⟨(y a).val, by
      have := (y a).isLt; fin_cases a <;> simp_all [Shape.size]⟩)
  else UA B1 B2 B3 t h (fun a => ⟨(y a).val - ![0, 0, 256] a, by
      have := (y a).isLt; fin_cases a <;> simp_all [Shape.size] <;> omega⟩)

/-- The values' rows of the sums, and the weights' row. -/
def topA (a : Vec F S1x80x512 .f32) : Vec F S1x64x512 .f32 := fun j =>
  a ((Rect.unit (s := S1x80x512) ![0, 0, 0] S1x64x512.size (by decide)).toLoadRect.idx j)
def botA (a : Vec F S1x80x512 .f32) : Vec F S1x1x512 .f32 := fun j =>
  a ((Rect.unit (s := S1x80x512) ![0, 64, 0] S1x1x512.size (by decide)).toLoadRect.idx j)

end

section
variable (B1 : Vec F S1x8x512x512 .bf16) (B2 : Vec F S1x4096x512 .bf16) (B3 : Vec F S1x16x256x256 .bf16)

/-- The output of query tile `t`. -/
def outTile (t : ℕ) : Vec F S1x512x256 .bf16 :=
  k0_pay3 (k0_pay155 (topA (FA B1 B2 B3 t 0)) (botA (FA B1 B2 B3 t 0))) (topA (FA B1 B2 B3 t 1)) (botA (FA B1 B2 B3 t 1))
    (topA (FA B1 B2 B3 t 2)) (botA (FA B1 B2 B3 t 2)) (topA (FA B1 B2 B3 t 3)) (botA (FA B1 B2 B3 t 3))

/-- The whole output block: tile by tile. -/
def outBlock : Vec F S1x4096x256 .bf16 := fun y =>
  outTile B1 B2 B3 ((y 1).val / 512) (fun a => ⟨![0, (y 1).val % 512, (y 2).val] a, by
    have := (y 2).isLt; fin_cases a <;> simp_all [Shape.size] <;> omega⟩)

end

section
set_option maxHeartbeats 2000000
variable (𝒱 : Variants) (c : Dev nD) (bd : Option 𝒱.V) (i : grid0.Coords) (arg1 : Memref sig .tc .vmem S1x8x512x512 .bf16) (harg1 : arg1.IsWhole) (arg2 : Memref sig .tc .vmem S1x4096x512 .bf16) (harg2 : arg2.IsWhole) (arg3 : Memref sig .tc .vmem S1x16x256x256 .bf16) (harg3 : arg3.IsWhole) (arg4 : Memref sig .tc .vmem S1x4096x256 .bf16) (harg4 : arg4.IsWhole) (arg5 : Memref sig .tc .vmem S2x4x256x512 .f32) (harg5 : arg5.IsWhole) (arg6 : Memref sig .tc .vmem S4x1x512 .f32) (harg6 : arg6.IsWhole) (arg7 : Memref sig .tc .vmem S4x80x512 .f32) (harg7 : arg7.IsWhole)
  (k : Fin k0_t1_loop.trips) (X1 : BufTy.Contents (Elt F) arg1.view.ty) (X2 : BufTy.Contents (Elt F) arg2.view.ty) (X3 : BufTy.Contents (Elt F) arg3.view.ty)
  (f4 : BufTy.Contents (Elt F) arg4.view.ty) (f5 : BufTy.Contents (Elt F) arg5.view.ty) (f6 : BufTy.Contents (Elt F) arg6.view.ty) (f7 : BufTy.Contents (Elt F) arg7.view.ty)
variable {arg1 arg2 arg3 arg4 arg5 arg6 arg7}

theorem k_lt (k : Fin k0_t1_loop.trips) : k.val < 8 := trips1 ▸ k.isLt

theorem eq0 (inb) : arg1.view.readAt (Elt F) (Rect.unit (s := S1x8x512x512) (k0_off34 k) S1x1x128x256.size inb).toLoadRect X1 = qHalf (arg1.view.read (Elt F) X1) k.val 0 :=
  qh_read arg1 X1 _ _ _ (by rw [k0_off34_eq, Nat.min_eq_left (by have := k_lt k; omega)]; rfl)
theorem ek0 (inb) : arg2.view.readAt (Elt F) (Rect.unit (s := S1x4096x512) (k0_off33 k) S1x256x128.size inb).toLoadRect X2 = kRow (arg2.view.read (Elt F) X2) (2 * k.val + 1) 0 :=
  k_read arg2 X2 _ _ _ (by rw [k0_off33_eq, Nat.min_eq_left (by have := k_lt k; omega)]; rw [show 512 * k.val + 256 = 256 * (2 * k.val + 1) by omega]; rfl)
theorem ev0 (inb) : arg3.view.readAt (Elt F) (Rect.unit (s := S1x16x256x256) (k0_off35 k) S1x1x64x256.size inb).toLoadRect X3 = vRow (arg3.view.read (Elt F) X3) (2 * k.val) 0 :=
  v_read arg3 X3 _ _ _ (by rw [k0_off35_eq, Nat.min_eq_left (by have := k_lt k; omega)]; rfl)
theorem ew0 (inb) : arg3.view.readAt (Elt F) (Rect.unit (s := S1x16x256x256) (k0_off45 k) S1x1x64x256.size inb).toLoadRect X3 = vRow (arg3.view.read (Elt F) X3) (2 * k.val + 1) 0 :=
  v_read arg3 X3 _ _ _ (by rw [k0_off45_eq, Nat.min_eq_left (by have := k_lt k; omega)]; rfl)
theorem en0 (inb) : arg1.view.readAt (Elt F) (Rect.unit (s := S1x8x512x512) (k0_off49 k) S1x1x128x512.size inb).toLoadRect X1 = qRow (arg1.view.read (Elt F) X1) (k.val + 1) 0 :=
  q_read arg1 X1 _ _ _ (by rw [k0_off49_eq]; rfl)
theorem e00 (inb) : arg2.view.readAt (Elt F) (Rect.unit (s := S1x4096x512) ![0, 0, 0] S1x256x128.size inb).toLoadRect X2 = kRow (arg2.view.read (Elt F) X2) 0 0 :=
  k_read arg2 X2 _ _ _ rfl

theorem eq1 (inb) : arg1.view.readAt (Elt F) (Rect.unit (s := S1x8x512x512) (k0_off37 k) S1x1x128x256.size inb).toLoadRect X1 = qHalf (arg1.view.read (Elt F) X1) k.val 1 :=
  qh_read arg1 X1 _ _ _ (by rw [k0_off37_eq, Nat.min_eq_left (by have := k_lt k; omega)]; rfl)
theorem ek1 (inb) : arg2.view.readAt (Elt F) (Rect.unit (s := S1x4096x512) (k0_off36 k) S1x256x128.size inb).toLoadRect X2 = kRow (arg2.view.read (Elt F) X2) (2 * k.val + 1) 1 :=
  k_read arg2 X2 _ _ _ (by rw [k0_off36_eq, Nat.min_eq_left (by have := k_lt k; omega)]; rw [show 512 * k.val + 256 = 256 * (2 * k.val + 1) by omega]; rfl)
theorem ev1 (inb) : arg3.view.readAt (Elt F) (Rect.unit (s := S1x16x256x256) (k0_off38 k) S1x1x64x256.size inb).toLoadRect X3 = vRow (arg3.view.read (Elt F) X3) (2 * k.val) 1 :=
  v_read arg3 X3 _ _ _ (by rw [k0_off38_eq, Nat.min_eq_left (by have := k_lt k; omega)]; rfl)
theorem ew1 (inb) : arg3.view.readAt (Elt F) (Rect.unit (s := S1x16x256x256) (k0_off46 k) S1x1x64x256.size inb).toLoadRect X3 = vRow (arg3.view.read (Elt F) X3) (2 * k.val + 1) 1 :=
  v_read arg3 X3 _ _ _ (by rw [k0_off46_eq, Nat.min_eq_left (by have := k_lt k; omega)]; rfl)
theorem en1 (inb) : arg1.view.readAt (Elt F) (Rect.unit (s := S1x8x512x512) (k0_off50 k) S1x1x128x512.size inb).toLoadRect X1 = qRow (arg1.view.read (Elt F) X1) (k.val + 1) 1 :=
  q_read arg1 X1 _ _ _ (by rw [k0_off50_eq]; rfl)
theorem e01 (inb) : arg2.view.readAt (Elt F) (Rect.unit (s := S1x4096x512) ![0, 0, 128] S1x256x128.size inb).toLoadRect X2 = kRow (arg2.view.read (Elt F) X2) 0 1 :=
  k_read arg2 X2 _ _ _ rfl

theorem eq2 (inb) : arg1.view.readAt (Elt F) (Rect.unit (s := S1x8x512x512) (k0_off40 k) S1x1x128x256.size inb).toLoadRect X1 = qHalf (arg1.view.read (Elt F) X1) k.val 2 :=
  qh_read arg1 X1 _ _ _ (by rw [k0_off40_eq, Nat.min_eq_left (by have := k_lt k; omega)]; rfl)
theorem ek2 (inb) : arg2.view.readAt (Elt F) (Rect.unit (s := S1x4096x512) (k0_off39 k) S1x256x128.size inb).toLoadRect X2 = kRow (arg2.view.read (Elt F) X2) (2 * k.val + 1) 2 :=
  k_read arg2 X2 _ _ _ (by rw [k0_off39_eq, Nat.min_eq_left (by have := k_lt k; omega)]; rw [show 512 * k.val + 256 = 256 * (2 * k.val + 1) by omega]; rfl)
theorem ev2 (inb) : arg3.view.readAt (Elt F) (Rect.unit (s := S1x16x256x256) (k0_off41 k) S1x1x64x256.size inb).toLoadRect X3 = vRow (arg3.view.read (Elt F) X3) (2 * k.val) 2 :=
  v_read arg3 X3 _ _ _ (by rw [k0_off41_eq, Nat.min_eq_left (by have := k_lt k; omega)]; rfl)
theorem ew2 (inb) : arg3.view.readAt (Elt F) (Rect.unit (s := S1x16x256x256) (k0_off47 k) S1x1x64x256.size inb).toLoadRect X3 = vRow (arg3.view.read (Elt F) X3) (2 * k.val + 1) 2 :=
  v_read arg3 X3 _ _ _ (by rw [k0_off47_eq, Nat.min_eq_left (by have := k_lt k; omega)]; rfl)
theorem en2 (inb) : arg1.view.readAt (Elt F) (Rect.unit (s := S1x8x512x512) (k0_off51 k) S1x1x128x512.size inb).toLoadRect X1 = qRow (arg1.view.read (Elt F) X1) (k.val + 1) 2 :=
  q_read arg1 X1 _ _ _ (by rw [k0_off51_eq]; rfl)
theorem e02 (inb) : arg2.view.readAt (Elt F) (Rect.unit (s := S1x4096x512) ![0, 0, 256] S1x256x128.size inb).toLoadRect X2 = kRow (arg2.view.read (Elt F) X2) 0 2 :=
  k_read arg2 X2 _ _ _ rfl

theorem eq3 (inb) : arg1.view.readAt (Elt F) (Rect.unit (s := S1x8x512x512) (k0_off43 k) S1x1x128x256.size inb).toLoadRect X1 = qHalf (arg1.view.read (Elt F) X1) k.val 3 :=
  qh_read arg1 X1 _ _ _ (by rw [k0_off43_eq, Nat.min_eq_left (by have := k_lt k; omega)]; rfl)
theorem ek3 (inb) : arg2.view.readAt (Elt F) (Rect.unit (s := S1x4096x512) (k0_off42 k) S1x256x128.size inb).toLoadRect X2 = kRow (arg2.view.read (Elt F) X2) (2 * k.val + 1) 3 :=
  k_read arg2 X2 _ _ _ (by rw [k0_off42_eq, Nat.min_eq_left (by have := k_lt k; omega)]; rw [show 512 * k.val + 256 = 256 * (2 * k.val + 1) by omega]; rfl)
theorem ev3 (inb) : arg3.view.readAt (Elt F) (Rect.unit (s := S1x16x256x256) (k0_off44 k) S1x1x64x256.size inb).toLoadRect X3 = vRow (arg3.view.read (Elt F) X3) (2 * k.val) 3 :=
  v_read arg3 X3 _ _ _ (by rw [k0_off44_eq, Nat.min_eq_left (by have := k_lt k; omega)]; rfl)
theorem ew3 (inb) : arg3.view.readAt (Elt F) (Rect.unit (s := S1x16x256x256) (k0_off48 k) S1x1x64x256.size inb).toLoadRect X3 = vRow (arg3.view.read (Elt F) X3) (2 * k.val + 1) 3 :=
  v_read arg3 X3 _ _ _ (by rw [k0_off48_eq, Nat.min_eq_left (by have := k_lt k; omega)]; rfl)
theorem en3 (inb) : arg1.view.readAt (Elt F) (Rect.unit (s := S1x8x512x512) (k0_off52 k) S1x1x128x512.size inb).toLoadRect X1 = qRow (arg1.view.read (Elt F) X1) (k.val + 1) 3 :=
  q_read arg1 X1 _ _ _ (by rw [k0_off52_eq]; rfl)
theorem e03 (inb) : arg2.view.readAt (Elt F) (Rect.unit (s := S1x4096x512) ![0, 0, 384] S1x256x128.size inb).toLoadRect X2 = kRow (arg2.view.read (Elt F) X2) 0 3 :=
  k_read arg2 X2 _ _ _ rfl

/-- The inner loop's trips. -/
theorem st2 : Scf.trips (k0_t2_loop k).lb (k0_t2_loop k).ub (k0_t2_loop k).st = k.val := trips2 k
theorem st3 : Scf.trips (k0_t3_loop k).lb (k0_t3_loop k).ub (k0_t3_loop k).st = 0 := trips3 k

theorem fill6 (v : View sig .tc .vmem S4x1x512 .f32) (h : Fin 4) :
    row6 v (v.writes (Elt F) v.junk tile.sl.HW6_1) h = fun _ => Scalar.ofBits .f32 0xFF800000#32 :=
  (View.readCov_fill v _ _ _ _ (by decide)).trans rfl
theorem fill7 (v : View sig .tc .vmem S4x80x512 .f32) (h : Fin 4) :
    row7 v (v.writes (Elt F) v.junk tile.sl.HW7_1) h = fun _ => Scalar.ofBits .f32 0x00000000#32 :=
  (View.readCov_fill v _ _ _ _ (by decide)).trans rfl

/-- What the inner loop leaves. -/
theorem loop (h5 : ∀ h, row5 arg5.view f5 h = SV (arg1.view.read (Elt F) X1) (arg2.view.read (Elt F) X2) k.val h 0) :
    (∀ h, row5 arg5.view (arg5.view.writes (Elt F) f5 (pb_k0_t2 (F := F) 𝒱 c bd i arg1 harg1 arg2 harg2 arg3 harg3 arg4 harg4 arg5 harg5 arg6 harg6 arg7 harg7 onesR (0#32) (1#32) k (tile.sl.arg8 k) X1 X2 X3 f5 (arg6.view.writes (Elt F) arg6.view.junk tile.sl.HW6_1) (arg7.view.writes (Elt F) arg7.view.junk tile.sl.HW7_1) (Scf.trips (k0_t2_loop k).lb (k0_t2_loop k).ub (k0_t2_loop k).st)).1) h = SV (arg1.view.read (Elt F) X1) (arg2.view.read (Elt F) X2) k.val h (2 * k.val))
    ∧ (∀ h, row6 arg6.view (arg6.view.writes (Elt F) (arg6.view.writes (Elt F) arg6.view.junk tile.sl.HW6_1) (pb_k0_t2 (F := F) 𝒱 c bd i arg1 harg1 arg2 harg2 arg3 harg3 arg4 harg4 arg5 harg5 arg6 harg6 arg7 harg7 onesR (0#32) (1#32) k (tile.sl.arg8 k) X1 X2 X3 f5 (arg6.view.writes (Elt F) arg6.view.junk tile.sl.HW6_1) (arg7.view.writes (Elt F) arg7.view.junk tile.sl.HW7_1) (Scf.trips (k0_t2_loop k).lb (k0_t2_loop k).ub (k0_t2_loop k).st)).2.1) h = MV (arg1.view.read (Elt F) X1) (arg2.view.read (Elt F) X2) k.val h (2 * k.val))
    ∧ (∀ h, row7 arg7.view (arg7.view.writes (Elt F) (arg7.view.writes (Elt F) arg7.view.junk tile.sl.HW7_1) (pb_k0_t2 (F := F) 𝒱 c bd i arg1 harg1 arg2 harg2 arg3 harg3 arg4 harg4 arg5 harg5 arg6 harg6 arg7 harg7 onesR (0#32) (1#32) k (tile.sl.arg8 k) X1 X2 X3 f5 (arg6.view.writes (Elt F) arg6.view.junk tile.sl.HW6_1) (arg7.view.writes (Elt F) arg7.view.junk tile.sl.HW7_1) (Scf.trips (k0_t2_loop k).lb (k0_t2_loop k).ub (k0_t2_loop k).st)).2.2) h = AV (arg1.view.read (Elt F) X1) (arg2.view.read (Elt F) X2) (arg3.view.read (Elt F) X3) k.val h (2 * k.val)) := by
  rw [st2 k]
  exact inner (F := F) 𝒱 c bd i harg1 harg2 harg3 harg4 harg5 harg6 harg7 (0#32) (1#32) k (tile.sl.arg8 k) X1 X2 X3 f5 _ _ h5 (fun h => fill6 _ h) (fun h => fill7 _ h) k.val (trips2 k).ge

/-- The remainder loop makes no trip. -/
theorem rest (G5 : BufTy.Contents (Elt F) arg5.view.ty) (G6 : BufTy.Contents (Elt F) arg6.view.ty) (G7 : BufTy.Contents (Elt F) arg7.view.ty) :
    pb_k0_t3 (F := F) 𝒱 c bd i arg1 harg1 arg2 harg2 arg3 harg3 arg4 harg4 arg5 harg5 arg6 harg6 arg7 harg7 onesR (0#32) (1#32) k (tile.sl.arg8 k) (tile.sl.v107 k) X1 X2 X3 G5 G6 G7 (Scf.trips (k0_t3_loop k).lb (k0_t3_loop k).ub (k0_t3_loop k).st) = ([], [], []) := by
  rw [st3 k]; rfl

theorem base5 (h5 : ∀ h, row5 arg5.view f5 h = SV (arg1.view.read (Elt F) X1) (arg2.view.read (Elt F) X2) k.val h 0) (G5 : BufTy.Contents (Elt F) arg5.view.ty) (G6 : BufTy.Contents (Elt F) arg6.view.ty) (G7 : BufTy.Contents (Elt F) arg7.view.ty) (h : Fin 4) :
    row5 arg5.view (arg5.view.writes (Elt F) f5 ((pb_k0_t3 (F := F) 𝒱 c bd i arg1 harg1 arg2 harg2 arg3 harg3 arg4 harg4 arg5 harg5 arg6 harg6 arg7 harg7 onesR (0#32) (1#32) k (tile.sl.arg8 k) (tile.sl.v107 k) X1 X2 X3 G5 G6 G7 (Scf.trips (k0_t3_loop k).lb (k0_t3_loop k).ub (k0_t3_loop k).st)).1 ++ (pb_k0_t2 (F := F) 𝒱 c bd i arg1 harg1 arg2 harg2 arg3 harg3 arg4 harg4 arg5 harg5 arg6 harg6 arg7 harg7 onesR (0#32) (1#32) k (tile.sl.arg8 k) X1 X2 X3 f5 (arg6.view.writes (Elt F) arg6.view.junk tile.sl.HW6_1) (arg7.view.writes (Elt F) arg7.view.junk tile.sl.HW7_1) (Scf.trips (k0_t2_loop k).lb (k0_t2_loop k).ub (k0_t2_loop k).st)).1)) h = SV (arg1.view.read (Elt F) X1) (arg2.view.read (Elt F) X2) k.val h (2 * k.val) := by
  rw [rest]; exact (loop 𝒱 c bd i harg1 harg2 harg3 harg4 harg5 harg6 harg7 k X1 X2 X3 f5 h5).1 h
theorem base6 (h5 : ∀ h, row5 arg5.view f5 h = SV (arg1.view.read (Elt F) X1) (arg2.view.read (Elt F) X2) k.val h 0) (G5 : BufTy.Contents (Elt F) arg5.view.ty) (G6 : BufTy.Contents (Elt F) arg6.view.ty) (G7 : BufTy.Contents (Elt F) arg7.view.ty) (h : Fin 4) :
    row6 arg6.view (arg6.view.writes (Elt F) arg6.view.junk ((pb_k0_t3 (F := F) 𝒱 c bd i arg1 harg1 arg2 harg2 arg3 harg3 arg4 harg4 arg5 harg5 arg6 harg6 arg7 harg7 onesR (0#32) (1#32) k (tile.sl.arg8 k) (tile.sl.v107 k) X1 X2 X3 G5 G6 G7 (Scf.trips (k0_t3_loop k).lb (k0_t3_loop k).ub (k0_t3_loop k).st)).2.1 ++ ((pb_k0_t2 (F := F) 𝒱 c bd i arg1 harg1 arg2 harg2 arg3 harg3 arg4 harg4 arg5 harg5 arg6 harg6 arg7 harg7 onesR (0#32) (1#32) k (tile.sl.arg8 k) X1 X2 X3 f5 (arg6.view.writes (Elt F) arg6.view.junk tile.sl.HW6_1) (arg7.view.writes (Elt F) arg7.view.junk tile.sl.HW7_1) (Scf.trips (k0_t2_loop k).lb (k0_t2_loop k).ub (k0_t2_loop k).st)).2.1 ++ tile.sl.HW6_1))) h = MV (arg1.view.read (Elt F) X1) (arg2.view.read (Elt F) X2) k.val h (2 * k.val) := by
  rw [rest, List.nil_append, Store.append]; exact (loop 𝒱 c bd i harg1 harg2 harg3 harg4 harg5 harg6 harg7 k X1 X2 X3 f5 h5).2.1 h
theorem base7 (h5 : ∀ h, row5 arg5.view f5 h = SV (arg1.view.read (Elt F) X1) (arg2.view.read (Elt F) X2) k.val h 0) (G5 : BufTy.Contents (Elt F) arg5.view.ty) (G6 : BufTy.Contents (Elt F) arg6.view.ty) (G7 : BufTy.Contents (Elt F) arg7.view.ty) (h : Fin 4) :
    row7 arg7.view (arg7.view.writes (Elt F) arg7.view.junk ((pb_k0_t3 (F := F) 𝒱 c bd i arg1 harg1 arg2 harg2 arg3 harg3 arg4 harg4 arg5 harg5 arg6 harg6 arg7 harg7 onesR (0#32) (1#32) k (tile.sl.arg8 k) (tile.sl.v107 k) X1 X2 X3 G5 G6 G7 (Scf.trips (k0_t3_loop k).lb (k0_t3_loop k).ub (k0_t3_loop k).st)).2.2 ++ ((pb_k0_t2 (F := F) 𝒱 c bd i arg1 harg1 arg2 harg2 arg3 harg3 arg4 harg4 arg5 harg5 arg6 harg6 arg7 harg7 onesR (0#32) (1#32) k (tile.sl.arg8 k) X1 X2 X3 f5 (arg6.view.writes (Elt F) arg6.view.junk tile.sl.HW6_1) (arg7.view.writes (Elt F) arg7.view.junk tile.sl.HW7_1) (Scf.trips (k0_t2_loop k).lb (k0_t2_loop k).ub (k0_t2_loop k).st)).2.2 ++ tile.sl.HW7_1))) h = AV (arg1.view.read (Elt F) X1) (arg2.view.read (Elt F) X2) (arg3.view.read (Elt F) X3) k.val h (2 * k.val) := by
  rw [rest, List.nil_append, Store.append]; exact (loop 𝒱 c bd i harg1 harg2 harg3 harg4 harg5 harg6 harg7 k X1 X2 X3 f5 h5).2.2 h

/-- Two halves of a row make the row. -/
theorem split7 (v : View sig .tc .vmem S4x80x512 .f32) (f : v.ty.Contents (Elt F)) (h : Fin 4) (a u : Vec F S1x80x256 .f32)
    (ha : v.readAt (Elt F) (Rect.unit (s := S4x80x512) ![h.val, 0, 0] S1x80x256.size (by intro a; fin_cases a <;> simp [Shape.size] <;> omega)).toLoadRect f = a)
    (hu : v.readAt (Elt F) (Rect.unit (s := S4x80x512) ![h.val, 0, 256] S1x80x256.size (by intro a; fin_cases a <;> simp [Shape.size] <;> omega)).toLoadRect f = u) :
    row7 v f h = fun y => if hy : (y 2).val < 256 then a (fun a => ⟨(y a).val, by
      have := (y a).isLt; fin_cases a <;> simp_all [Shape.size]⟩)
      else u (fun a => ⟨(y a).val - ![0, 0, 256] a, by have := (y a).isLt; fin_cases a <;> simp_all [Shape.size] <;> omega⟩) := by
  subst ha hu
  funext y
  split
  · rw [row7, View.readAt_apply, View.readAt_apply]; congr 1
  · rename_i hy
    rw [row7, View.readAt_apply, View.readAt_apply]; congr 1
    funext a
    refine Fin.ext ?_
    fin_cases a
    · rfl
    · rfl
    · show 0 + 1 * (y 2).val = 256 + 1 * ((y 2).val - 256)
      omega

theorem top7 (v : View sig .tc .vmem S4x80x512 .f32) (f : v.ty.Contents (Elt F)) (h : Fin 4) :
    v.readAt (Elt F) (Rect.unit (s := S4x80x512) ![h.val, 0, 0] S1x64x512.size (by intro a; fin_cases a <;> simp [Shape.size] <;> omega)).toLoadRect f = topA (row7 v f h) := by
  funext y
  rw [topA, row7, View.readAt_apply, View.readAt_apply]; congr 1
  funext a
  refine Fin.ext ?_
  fin_cases a
  · show h.val + 1 * (y 0).val = h.val + 1 * (0 + 1 * (y 0).val); omega
  · show 0 + 1 * (y 1).val = 0 + 1 * (0 + 1 * (y 1).val); omega
  · show 0 + 1 * (y 2).val = 0 + 1 * (0 + 1 * (y 2).val); omega
theorem bot7 (v : View sig .tc .vmem S4x80x512 .f32) (f : v.ty.Contents (Elt F)) (h : Fin 4) :
    v.readAt (Elt F) (Rect.unit (s := S4x80x512) ![h.val, 64, 0] S1x1x512.size (by intro a; fin_cases a <;> simp [Shape.size] <;> omega)).toLoadRect f = botA (row7 v f h) := by
  funext y
  rw [botA, row7, View.readAt_apply, View.readAt_apply]; congr 1
  funext a
  refine Fin.ext ?_
  fin_cases a
  · show h.val + 1 * (y 0).val = h.val + 1 * (0 + 1 * (y 0).val); omega
  · show 64 + 1 * (y 1).val = 0 + 1 * (64 + 1 * (y 1).val); omega
  · show 0 + 1 * (y 2).val = 0 + 1 * (0 + 1 * (y 2).val); omega

theorem esc0 (h5 : ∀ h, row5 arg5.view f5 h = SV (arg1.view.read (Elt F) X1) (arg2.view.read (Elt F) X2) k.val h 0) : row5 arg5.view (arg5.view.writes (Elt F) f5 (tile.sl.HW5_1 𝒱 c bd i arg1 harg1 arg2 harg2 arg3 harg3 arg4 harg4 arg5 harg5 arg6 harg6 arg7 harg7 onesR X1 X2 X3 k f5)) 0 = SV (arg1.view.read (Elt F) X1) (arg2.view.read (Elt F) X2) k.val 0 (2 * k.val) := by
  refine (Store.skip _ _ _ _ _ _ (by decide +kernel)).trans ?_
  exact base5 𝒱 c bd i harg1 harg2 harg3 harg4 harg5 harg6 harg7 k X1 X2 X3 f5 h5 _ _ _ 0
theorem em0 (h5 : ∀ h, row5 arg5.view f5 h = SV (arg1.view.read (Elt F) X1) (arg2.view.read (Elt F) X2) k.val h 0) : tile.sl.v123 𝒱 c bd i arg1 harg1 arg2 harg2 arg3 harg3 arg4 harg4 arg5 harg5 arg6 harg6 arg7 harg7 onesR X1 X2 X3 k f5 = MV (arg1.view.read (Elt F) X1) (arg2.view.read (Elt F) X2) k.val 0 (2 * k.val) := by
  exact base6 𝒱 c bd i harg1 harg2 harg3 harg4 harg5 harg6 harg7 k X1 X2 X3 f5 h5 _ _ _ 0
theorem ea0 (h5 : ∀ h, row5 arg5.view f5 h = SV (arg1.view.read (Elt F) X1) (arg2.view.read (Elt F) X2) k.val h 0) : tile.sl.v146 𝒱 c bd i arg1 harg1 arg2 harg2 arg3 harg3 arg4 harg4 arg5 harg5 arg6 harg6 arg7 harg7 onesR X1 X2 X3 k f5 = AV (arg1.view.read (Elt F) X1) (arg2.view.read (Elt F) X2) (arg3.view.read (Elt F) X3) k.val 0 (2 * k.val) := by
  exact base7 𝒱 c bd i harg1 harg2 harg3 harg4 harg5 harg6 harg7 k X1 X2 X3 f5 h5 _ _ _ 0
theorem ehm0 (h5 : ∀ h, row5 arg5.view f5 h = SV (arg1.view.read (Elt F) X1) (arg2.view.read (Elt F) X2) k.val h 0) : tile.sl.v310 𝒱 c bd i arg1 harg1 arg2 harg2 arg3 harg3 arg4 harg4 arg5 harg5 arg6 harg6 arg7 harg7 maskA onesR X1 X2 X3 k f5 = halfM (DM (arg1.view.read (Elt F) X1) (arg2.view.read (Elt F) X2) k.val 0) := by
  refine (Store.skip _ _ _ _ _ _ (by decide +kernel)).trans ?_
  refine (Store.skip _ _ _ _ _ _ (by decide +kernel)).trans ?_
  refine (Store.skip _ _ _ _ _ _ (by decide +kernel)).trans ?_
  refine (Store.part_unit (d := ![0, 0, 256]) _ _ _ _ (by decide) _ _ (by decide +kernel)).trans ?_
  unfold halfM DM
  rw [← em0 𝒱 c bd i harg1 harg2 harg3 harg4 harg5 harg6 harg7 k X1 X2 X3 f5 h5, ← esc0 𝒱 c bd i harg1 harg2 harg3 harg4 harg5 harg6 harg7 k X1 X2 X3 f5 h5]
  rfl
theorem eha0 (h5 : ∀ h, row5 arg5.view f5 h = SV (arg1.view.read (Elt F) X1) (arg2.view.read (Elt F) X2) k.val h 0) : tile.sl.v335 𝒱 c bd i arg1 harg1 arg2 harg2 arg3 harg3 arg4 harg4 arg5 harg5 arg6 harg6 arg7 harg7 maskA onesR X1 X2 X3 k f5 = halfA (DA (arg1.view.read (Elt F) X1) (arg2.view.read (Elt F) X2) (arg3.view.read (Elt F) X3) k.val 0) := by
  refine (Store.skip _ _ _ _ _ _ (by decide +kernel)).trans ?_
  refine (Store.skip _ _ _ _ _ _ (by decide +kernel)).trans ?_
  refine (Store.skip _ _ _ _ _ _ (by decide +kernel)).trans ?_
  refine (Store.part_unit (d := ![0, 0, 256]) _ _ _ _ (by decide) _ _ (by decide +kernel)).trans ?_
  unfold halfA DA
  rw [← em0 𝒱 c bd i harg1 harg2 harg3 harg4 harg5 harg6 harg7 k X1 X2 X3 f5 h5, ← esc0 𝒱 c bd i harg1 harg2 harg3 harg4 harg5 harg6 harg7 k X1 X2 X3 f5 h5, ← ea0 𝒱 c bd i harg1 harg2 harg3 harg4 harg5 harg6 harg7 k X1 X2 X3 f5 h5, ← ev0 k X3 (k0_off35_inb k)]
  rfl
theorem esh0 : tile.sl.v313 𝒱 c bd i arg1 harg1 arg2 harg2 arg3 harg3 arg4 harg4 arg5 harg5 arg6 harg6 arg7 harg7 onesR X1 X2 X3 k f5 = SH (arg1.view.read (Elt F) X1) (arg2.view.read (Elt F) X2) k.val 0 := by
  refine (Store.skip _ _ _ _ _ _ (by decide +kernel)).trans ?_
  refine (Store.skip _ _ _ _ _ _ (by decide +kernel)).trans ?_
  refine (Store.skip _ _ _ _ _ _ (by decide +kernel)).trans ?_
  refine (Store.hit _ _ _ _ _).trans ?_
  unfold SH
  rw [← ek0 k X2 (k0_off33_inb k), ← eq0 k X1 (k0_off34_inb k)]
theorem elo0 (h5 : ∀ h, row5 arg5.view f5 h = SV (arg1.view.read (Elt F) X1) (arg2.view.read (Elt F) X2) k.val h 0) : arg7.view.readAt (Elt F) (Rect.unit (s := S4x80x512) ![0, 0, 0] S1x80x256.size (by decide)).toLoadRect
    (arg7.view.writes (Elt F) arg7.view.junk (tile.sl.HW7_8 𝒱 c bd i arg1 harg1 arg2 harg2 arg3 harg3 arg4 harg4 arg5 harg5 arg6 harg6 arg7 harg7 maskA maskB onesR X1 X2 X3 k f5)) = lowA (DA (arg1.view.read (Elt F) X1) (arg2.view.read (Elt F) X2) (arg3.view.read (Elt F) X3) k.val 0) := by
  refine (Store.skip _ _ _ _ _ _ (by decide +kernel)).trans ?_
  refine (Store.skip _ _ _ _ _ _ (by decide +kernel)).trans ?_
  refine (Store.skip _ _ _ _ _ _ (by decide +kernel)).trans ?_
  refine (Store.skip _ _ _ _ _ _ (by decide +kernel)).trans ?_
  refine (Store.skip _ _ _ _ _ _ (by decide +kernel)).trans ?_
  refine (Store.skip _ _ _ _ _ _ (by decide +kernel)).trans ?_
  refine (Store.skip _ _ _ _ _ _ (by decide +kernel)).trans ?_
  refine (Store.part_unit (d := ![0, 0, 0]) _ _ _ _ (by decide) _ _ (by decide +kernel)).trans ?_
  unfold lowA DA
  rw [← em0 𝒱 c bd i harg1 harg2 harg3 harg4 harg5 harg6 harg7 k X1 X2 X3 f5 h5, ← esc0 𝒱 c bd i harg1 harg2 harg3 harg4 harg5 harg6 harg7 k X1 X2 X3 f5 h5, ← ea0 𝒱 c bd i harg1 harg2 harg3 harg4 harg5 harg6 harg7 k X1 X2 X3 f5 h5, ← ev0 k X3 (k0_off35_inb k)]
  rfl
theorem ehi0 (h5 : ∀ h, row5 arg5.view f5 h = SV (arg1.view.read (Elt F) X1) (arg2.view.read (Elt F) X2) k.val h 0) : arg7.view.readAt (Elt F) (Rect.unit (s := S4x80x512) ![0, 0, 256] S1x80x256.size (by decide)).toLoadRect
    (arg7.view.writes (Elt F) arg7.view.junk (tile.sl.HW7_8 𝒱 c bd i arg1 harg1 arg2 harg2 arg3 harg3 arg4 harg4 arg5 harg5 arg6 harg6 arg7 harg7 maskA maskB onesR X1 X2 X3 k f5)) = UA (arg1.view.read (Elt F) X1) (arg2.view.read (Elt F) X2) (arg3.view.read (Elt F) X3) k.val 0 := by
  refine (Store.skip _ _ _ _ _ _ (by decide +kernel)).trans ?_
  refine (Store.skip _ _ _ _ _ _ (by decide +kernel)).trans ?_
  refine (Store.skip _ _ _ _ _ _ (by decide +kernel)).trans ?_
  refine (Store.hit _ _ _ _ _).trans ?_
  unfold UA
  rw [← ehm0 𝒱 c bd i harg1 harg2 harg3 harg4 harg5 harg6 harg7 k X1 X2 X3 f5 h5, ← eha0 𝒱 c bd i harg1 harg2 harg3 harg4 harg5 harg6 harg7 k X1 X2 X3 f5 h5, ← esh0 𝒱 c bd i harg1 harg2 harg3 harg4 harg5 harg6 harg7 k X1 X2 X3 f5, ← ew0 k X3 (k0_off45_inb k)]
  rfl
theorem efa0 (h5 : ∀ h, row5 arg5.view f5 h = SV (arg1.view.read (Elt F) X1) (arg2.view.read (Elt F) X2) k.val h 0) : row7 arg7.view (arg7.view.writes (Elt F) arg7.view.junk (tile.sl.HW7_8 𝒱 c bd i arg1 harg1 arg2 harg2 arg3 harg3 arg4 harg4 arg5 harg5 arg6 harg6 arg7 harg7 maskA maskB onesR X1 X2 X3 k f5)) 0 = FA (arg1.view.read (Elt F) X1) (arg2.view.read (Elt F) X2) (arg3.view.read (Elt F) X3) k.val 0 :=
  split7 _ _ _ _ _ (elo0 𝒱 c bd i harg1 harg2 harg3 harg4 harg5 harg6 harg7 k X1 X2 X3 f5 h5) (ehi0 𝒱 c bd i harg1 harg2 harg3 harg4 harg5 harg6 harg7 k X1 X2 X3 f5 h5)
theorem etop0 (h5 : ∀ h, row5 arg5.view f5 h = SV (arg1.view.read (Elt F) X1) (arg2.view.read (Elt F) X2) k.val h 0) : tile.sl.v501 𝒱 c bd i arg1 harg1 arg2 harg2 arg3 harg3 arg4 harg4 arg5 harg5 arg6 harg6 arg7 harg7 maskA maskB onesR X1 X2 X3 k f5 = topA (FA (arg1.view.read (Elt F) X1) (arg2.view.read (Elt F) X2) (arg3.view.read (Elt F) X3) k.val 0) :=
  (top7 _ _ 0).trans (congrArg topA (efa0 𝒱 c bd i harg1 harg2 harg3 harg4 harg5 harg6 harg7 k X1 X2 X3 f5 h5))
theorem ebot0 (h5 : ∀ h, row5 arg5.view f5 h = SV (arg1.view.read (Elt F) X1) (arg2.view.read (Elt F) X2) k.val h 0) : tile.sl.v503 𝒱 c bd i arg1 harg1 arg2 harg2 arg3 harg3 arg4 harg4 arg5 harg5 arg6 harg6 arg7 harg7 maskA maskB onesR X1 X2 X3 k f5 = botA (FA (arg1.view.read (Elt F) X1) (arg2.view.read (Elt F) X2) (arg3.view.read (Elt F) X3) k.val 0) :=
  (bot7 _ _ 0).trans (congrArg botA (efa0 𝒱 c bd i harg1 harg2 harg3 harg4 harg5 harg6 harg7 k X1 X2 X3 f5 h5))

theorem esc1 (h5 : ∀ h, row5 arg5.view f5 h = SV (arg1.view.read (Elt F) X1) (arg2.view.read (Elt F) X2) k.val h 0) : row5 arg5.view (arg5.view.writes (Elt F) f5 (tile.sl.HW5_2 𝒱 c bd i arg1 harg1 arg2 harg2 arg3 harg3 arg4 harg4 arg5 harg5 arg6 harg6 arg7 harg7 onesR X1 X2 X3 k f5)) 1 = SV (arg1.view.read (Elt F) X1) (arg2.view.read (Elt F) X2) k.val 1 (2 * k.val) := by
  refine (Store.skip _ _ _ _ _ _ (by decide +kernel)).trans ?_
  refine (Store.skip _ _ _ _ _ _ (by decide +kernel)).trans ?_
  exact base5 𝒱 c bd i harg1 harg2 harg3 harg4 harg5 harg6 harg7 k X1 X2 X3 f5 h5 _ _ _ 1
theorem em1 (h5 : ∀ h, row5 arg5.view f5 h = SV (arg1.view.read (Elt F) X1) (arg2.view.read (Elt F) X2) k.val h 0) : tile.sl.v173 𝒱 c bd i arg1 harg1 arg2 harg2 arg3 harg3 arg4 harg4 arg5 harg5 arg6 harg6 arg7 harg7 maskA onesR X1 X2 X3 k f5 = MV (arg1.view.read (Elt F) X1) (arg2.view.read (Elt F) X2) k.val 1 (2 * k.val) := by
  refine (Store.skip _ _ _ _ _ _ (by decide +kernel)).trans ?_
  exact base6 𝒱 c bd i harg1 harg2 harg3 harg4 harg5 harg6 harg7 k X1 X2 X3 f5 h5 _ _ _ 1
theorem ea1 (h5 : ∀ h, row5 arg5.view f5 h = SV (arg1.view.read (Elt F) X1) (arg2.view.read (Elt F) X2) k.val h 0) : tile.sl.v196 𝒱 c bd i arg1 harg1 arg2 harg2 arg3 harg3 arg4 harg4 arg5 harg5 arg6 harg6 arg7 harg7 maskA onesR X1 X2 X3 k f5 = AV (arg1.view.read (Elt F) X1) (arg2.view.read (Elt F) X2) (arg3.view.read (Elt F) X3) k.val 1 (2 * k.val) := by
  refine (Store.skip _ _ _ _ _ _ (by decide +kernel)).trans ?_
  exact base7 𝒱 c bd i harg1 harg2 harg3 harg4 harg5 harg6 harg7 k X1 X2 X3 f5 h5 _ _ _ 1
theorem ehm1 (h5 : ∀ h, row5 arg5.view f5 h = SV (arg1.view.read (Elt F) X1) (arg2.view.read (Elt F) X2) k.val h 0) : tile.sl.v347 𝒱 c bd i arg1 harg1 arg2 harg2 arg3 harg3 arg4 harg4 arg5 harg5 arg6 harg6 arg7 harg7 maskA maskB onesR X1 X2 X3 k f5 = halfM (DM (arg1.view.read (Elt F) X1) (arg2.view.read (Elt F) X2) k.val 1) := by
  refine (Store.skip _ _ _ _ _ _ (by decide +kernel)).trans ?_
  refine (Store.skip _ _ _ _ _ _ (by decide +kernel)).trans ?_
  refine (Store.skip _ _ _ _ _ _ (by decide +kernel)).trans ?_
  refine (Store.part_unit (d := ![0, 0, 256]) _ _ _ _ (by decide) _ _ (by decide +kernel)).trans ?_
  unfold halfM DM
  rw [← em1 𝒱 c bd i harg1 harg2 harg3 harg4 harg5 harg6 harg7 k X1 X2 X3 f5 h5, ← esc1 𝒱 c bd i harg1 harg2 harg3 harg4 harg5 harg6 harg7 k X1 X2 X3 f5 h5]
  rfl
theorem eha1 (h5 : ∀ h, row5 arg5.view f5 h = SV (arg1.view.read (Elt F) X1) (arg2.view.read (Elt F) X2) k.val h 0) : tile.sl.v372 𝒱 c bd i arg1 harg1 arg2 harg2 arg3 harg3 arg4 harg4 arg5 harg5 arg6 harg6 arg7 harg7 maskA maskB onesR X1 X2 X3 k f5 = halfA (DA (arg1.view.read (Elt F) X1) (arg2.view.read (Elt F) X2) (arg3.view.read (Elt F) X3) k.val 1) := by
  refine (Store.skip _ _ _ _ _ _ (by decide +kernel)).trans ?_
  refine (Store.skip _ _ _ _ _ _ (by decide +kernel)).trans ?_
  refine (Store.skip _ _ _ _ _ _ (by decide +kernel)).trans ?_
  refine (Store.part_unit (d := ![0, 0, 256]) _ _ _ _ (by decide) _ _ (by decide +kernel)).trans ?_
  unfold halfA DA
  rw [← em1 𝒱 c bd i harg1 harg2 harg3 harg4 harg5 harg6 harg7 k X1 X2 X3 f5 h5, ← esc1 𝒱 c bd i harg1 harg2 harg3 harg4 harg5 harg6 harg7 k X1 X2 X3 f5 h5, ← ea1 𝒱 c bd i harg1 harg2 harg3 harg4 harg5 harg6 harg7 k X1 X2 X3 f5 h5, ← ev1 k X3 (k0_off38_inb k)]
  rfl
theorem esh1 : tile.sl.v350 𝒱 c bd i arg1 harg1 arg2 harg2 arg3 harg3 arg4 harg4 arg5 harg5 arg6 harg6 arg7 harg7 onesR X1 X2 X3 k f5 = SH (arg1.view.read (Elt F) X1) (arg2.view.read (Elt F) X2) k.val 1 := by
  refine (Store.skip _ _ _ _ _ _ (by decide +kernel)).trans ?_
  refine (Store.skip _ _ _ _ _ _ (by decide +kernel)).trans ?_
  refine (Store.hit _ _ _ _ _).trans ?_
  unfold SH
  rw [← ek1 k X2 (k0_off36_inb k), ← eq1 k X1 (k0_off37_inb k)]; rfl
theorem elo1 (h5 : ∀ h, row5 arg5.view f5 h = SV (arg1.view.read (Elt F) X1) (arg2.view.read (Elt F) X2) k.val h 0) : arg7.view.readAt (Elt F) (Rect.unit (s := S4x80x512) ![1, 0, 0] S1x80x256.size (by decide)).toLoadRect
    (arg7.view.writes (Elt F) arg7.view.junk (tile.sl.HW7_8 𝒱 c bd i arg1 harg1 arg2 harg2 arg3 harg3 arg4 harg4 arg5 harg5 arg6 harg6 arg7 harg7 maskA maskB onesR X1 X2 X3 k f5)) = lowA (DA (arg1.view.read (Elt F) X1) (arg2.view.read (Elt F) X2) (arg3.view.read (Elt F) X3) k.val 1) := by
  refine (Store.skip _ _ _ _ _ _ (by decide +kernel)).trans ?_
  refine (Store.skip _ _ _ _ _ _ (by decide +kernel)).trans ?_
  refine (Store.skip _ _ _ _ _ _ (by decide +kernel)).trans ?_
  refine (Store.skip _ _ _ _ _ _ (by decide +kernel)).trans ?_
  refine (Store.skip _ _ _ _ _ _ (by decide +kernel)).trans ?_
  refine (Store.skip _ _ _ _ _ _ (by decide +kernel)).trans ?_
  refine (Store.part_unit (d := ![0, 0, 0]) _ _ _ _ (by decide) _ _ (by decide +kernel)).trans ?_
  unfold lowA DA
  rw [← em1 𝒱 c bd i harg1 harg2 harg3 harg4 harg5 harg6 harg7 k X1 X2 X3 f5 h5, ← esc1 𝒱 c bd i harg1 harg2 harg3 harg4 harg5 harg6 harg7 k X1 X2 X3 f5 h5, ← ea1 𝒱 c bd i harg1 harg2 harg3 harg4 harg5 harg6 harg7 k X1 X2 X3 f5 h5, ← ev1 k X3 (k0_off38_inb k)]
  rfl
theorem ehi1 (h5 : ∀ h, row5 arg5.view f5 h = SV (arg1.view.read (Elt F) X1) (arg2.view.read (Elt F) X2) k.val h 0) : arg7.view.readAt (Elt F) (Rect.unit (s := S4x80x512) ![1, 0, 256] S1x80x256.size (by decide)).toLoadRect
    (arg7.view.writes (Elt F) arg7.view.junk (tile.sl.HW7_8 𝒱 c bd i arg1 harg1 arg2 harg2 arg3 harg3 arg4 harg4 arg5 harg5 arg6 harg6 arg7 harg7 maskA maskB onesR X1 X2 X3 k f5)) = UA (arg1.view.read (Elt F) X1) (arg2.view.read (Elt F) X2) (arg3.view.read (Elt F) X3) k.val 1 := by
  refine (Store.skip _ _ _ _ _ _ (by decide +kernel)).trans ?_
  refine (Store.skip _ _ _ _ _ _ (by decide +kernel)).trans ?_
  refine (Store.hit _ _ _ _ _).trans ?_
  unfold UA
  rw [← ehm1 𝒱 c bd i harg1 harg2 harg3 harg4 harg5 harg6 harg7 k X1 X2 X3 f5 h5, ← eha1 𝒱 c bd i harg1 harg2 harg3 harg4 harg5 harg6 harg7 k X1 X2 X3 f5 h5, ← esh1 𝒱 c bd i harg1 harg2 harg3 harg4 harg5 harg6 harg7 k X1 X2 X3 f5, ← ew1 k X3 (k0_off46_inb k)]
  rfl
theorem efa1 (h5 : ∀ h, row5 arg5.view f5 h = SV (arg1.view.read (Elt F) X1) (arg2.view.read (Elt F) X2) k.val h 0) : row7 arg7.view (arg7.view.writes (Elt F) arg7.view.junk (tile.sl.HW7_8 𝒱 c bd i arg1 harg1 arg2 harg2 arg3 harg3 arg4 harg4 arg5 harg5 arg6 harg6 arg7 harg7 maskA maskB onesR X1 X2 X3 k f5)) 1 = FA (arg1.view.read (Elt F) X1) (arg2.view.read (Elt F) X2) (arg3.view.read (Elt F) X3) k.val 1 :=
  split7 _ _ _ _ _ (elo1 𝒱 c bd i harg1 harg2 harg3 harg4 harg5 harg6 harg7 k X1 X2 X3 f5 h5) (ehi1 𝒱 c bd i harg1 harg2 harg3 harg4 harg5 harg6 harg7 k X1 X2 X3 f5 h5)
theorem etop1 (h5 : ∀ h, row5 arg5.view f5 h = SV (arg1.view.read (Elt F) X1) (arg2.view.read (Elt F) X2) k.val h 0) : tile.sl.v507 𝒱 c bd i arg1 harg1 arg2 harg2 arg3 harg3 arg4 harg4 arg5 harg5 arg6 harg6 arg7 harg7 maskA maskB onesR X1 X2 X3 k f5 = topA (FA (arg1.view.read (Elt F) X1) (arg2.view.read (Elt F) X2) (arg3.view.read (Elt F) X3) k.val 1) :=
  (top7 _ _ 1).trans (congrArg topA (efa1 𝒱 c bd i harg1 harg2 harg3 harg4 harg5 harg6 harg7 k X1 X2 X3 f5 h5))
theorem ebot1 (h5 : ∀ h, row5 arg5.view f5 h = SV (arg1.view.read (Elt F) X1) (arg2.view.read (Elt F) X2) k.val h 0) : tile.sl.v509 𝒱 c bd i arg1 harg1 arg2 harg2 arg3 harg3 arg4 harg4 arg5 harg5 arg6 harg6 arg7 harg7 maskA maskB onesR X1 X2 X3 k f5 = botA (FA (arg1.view.read (Elt F) X1) (arg2.view.read (Elt F) X2) (arg3.view.read (Elt F) X3) k.val 1) :=
  (bot7 _ _ 1).trans (congrArg botA (efa1 𝒱 c bd i harg1 harg2 harg3 harg4 harg5 harg6 harg7 k X1 X2 X3 f5 h5))

theorem esc2 (h5 : ∀ h, row5 arg5.view f5 h = SV (arg1.view.read (Elt F) X1) (arg2.view.read (Elt F) X2) k.val h 0) : row5 arg5.view (arg5.view.writes (Elt F) f5 (tile.sl.HW5_3 𝒱 c bd i arg1 harg1 arg2 harg2 arg3 harg3 arg4 harg4 arg5 harg5 arg6 harg6 arg7 harg7 onesR X1 X2 X3 k f5)) 2 = SV (arg1.view.read (Elt F) X1) (arg2.view.read (Elt F) X2) k.val 2 (2 * k.val) := by
  refine (Store.skip _ _ _ _ _ _ (by decide +kernel)).trans ?_
  refine (Store.skip _ _ _ _ _ _ (by decide +kernel)).trans ?_
  refine (Store.skip _ _ _ _ _ _ (by decide +kernel)).trans ?_
  exact base5 𝒱 c bd i harg1 harg2 harg3 harg4 harg5 harg6 harg7 k X1 X2 X3 f5 h5 _ _ _ 2
theorem em2 (h5 : ∀ h, row5 arg5.view f5 h = SV (arg1.view.read (Elt F) X1) (arg2.view.read (Elt F) X2) k.val h 0) : tile.sl.v223 𝒱 c bd i arg1 harg1 arg2 harg2 arg3 harg3 arg4 harg4 arg5 harg5 arg6 harg6 arg7 harg7 maskA onesR X1 X2 X3 k f5 = MV (arg1.view.read (Elt F) X1) (arg2.view.read (Elt F) X2) k.val 2 (2 * k.val) := by
  refine (Store.skip _ _ _ _ _ _ (by decide +kernel)).trans ?_
  refine (Store.skip _ _ _ _ _ _ (by decide +kernel)).trans ?_
  exact base6 𝒱 c bd i harg1 harg2 harg3 harg4 harg5 harg6 harg7 k X1 X2 X3 f5 h5 _ _ _ 2
theorem ea2 (h5 : ∀ h, row5 arg5.view f5 h = SV (arg1.view.read (Elt F) X1) (arg2.view.read (Elt F) X2) k.val h 0) : tile.sl.v246 𝒱 c bd i arg1 harg1 arg2 harg2 arg3 harg3 arg4 harg4 arg5 harg5 arg6 harg6 arg7 harg7 maskA onesR X1 X2 X3 k f5 = AV (arg1.view.read (Elt F) X1) (arg2.view.read (Elt F) X2) (arg3.view.read (Elt F) X3) k.val 2 (2 * k.val) := by
  refine (Store.skip _ _ _ _ _ _ (by decide +kernel)).trans ?_
  refine (Store.skip _ _ _ _ _ _ (by decide +kernel)).trans ?_
  exact base7 𝒱 c bd i harg1 harg2 harg3 harg4 harg5 harg6 harg7 k X1 X2 X3 f5 h5 _ _ _ 2
theorem ehm2 (h5 : ∀ h, row5 arg5.view f5 h = SV (arg1.view.read (Elt F) X1) (arg2.view.read (Elt F) X2) k.val h 0) : tile.sl.v384 𝒱 c bd i arg1 harg1 arg2 harg2 arg3 harg3 arg4 harg4 arg5 harg5 arg6 harg6 arg7 harg7 maskA maskB onesR X1 X2 X3 k f5 = halfM (DM (arg1.view.read (Elt F) X1) (arg2.view.read (Elt F) X2) k.val 2) := by
  refine (Store.skip _ _ _ _ _ _ (by decide +kernel)).trans ?_
  refine (Store.skip _ _ _ _ _ _ (by decide +kernel)).trans ?_
  refine (Store.skip _ _ _ _ _ _ (by decide +kernel)).trans ?_
  refine (Store.part_unit (d := ![0, 0, 256]) _ _ _ _ (by decide) _ _ (by decide +kernel)).trans ?_
  unfold halfM DM
  rw [← em2 𝒱 c bd i harg1 harg2 harg3 harg4 harg5 harg6 harg7 k X1 X2 X3 f5 h5, ← esc2 𝒱 c bd i harg1 harg2 harg3 harg4 harg5 harg6 harg7 k X1 X2 X3 f5 h5]
  rfl
theorem eha2 (h5 : ∀ h, row5 arg5.view f5 h = SV (arg1.view.read (Elt F) X1) (arg2.view.read (Elt F) X2) k.val h 0) : tile.sl.v409 𝒱 c bd i arg1 harg1 arg2 harg2 arg3 harg3 arg4 harg4 arg5 harg5 arg6 harg6 arg7 harg7 maskA maskB onesR X1 X2 X3 k f5 = halfA (DA (arg1.view.read (Elt F) X1) (arg2.view.read (Elt F) X2) (arg3.view.read (Elt F) X3) k.val 2) := by
  refine (Store.skip _ _ _ _ _ _ (by decide +kernel)).trans ?_
  refine (Store.skip _ _ _ _ _ _ (by decide +kernel)).trans ?_
  refine (Store.skip _ _ _ _ _ _ (by decide +kernel)).trans ?_
  refine (Store.part_unit (d := ![0, 0, 256]) _ _ _ _ (by decide) _ _ (by decide +kernel)).trans ?_
  unfold halfA DA
  rw [← em2 𝒱 c bd i harg1 harg2 harg3 harg4 harg5 harg6 harg7 k X1 X2 X3 f5 h5, ← esc2 𝒱 c bd i harg1 harg2 harg3 harg4 harg5 harg6 harg7 k X1 X2 X3 f5 h5, ← ea2 𝒱 c bd i harg1 harg2 harg3 harg4 harg5 harg6 harg7 k X1 X2 X3 f5 h5, ← ev2 k X3 (k0_off41_inb k)]
  rfl
theorem esh2 : tile.sl.v387 𝒱 c bd i arg1 harg1 arg2 harg2 arg3 harg3 arg4 harg4 arg5 harg5 arg6 harg6 arg7 harg7 onesR X1 X2 X3 k f5 = SH (arg1.view.read (Elt F) X1) (arg2.view.read (Elt F) X2) k.val 2 := by
  refine (Store.skip _ _ _ _ _ _ (by decide +kernel)).trans ?_
  refine (Store.hit _ _ _ _ _).trans ?_
  unfold SH
  rw [← ek2 k X2 (k0_off39_inb k), ← eq2 k X1 (k0_off40_inb k)]; rfl
theorem elo2 (h5 : ∀ h, row5 arg5.view f5 h = SV (arg1.view.read (Elt F) X1) (arg2.view.read (Elt F) X2) k.val h 0) : arg7.view.readAt (Elt F) (Rect.unit (s := S4x80x512) ![2, 0, 0] S1x80x256.size (by decide)).toLoadRect
    (arg7.view.writes (Elt F) arg7.view.junk (tile.sl.HW7_8 𝒱 c bd i arg1 harg1 arg2 harg2 arg3 harg3 arg4 harg4 arg5 harg5 arg6 harg6 arg7 harg7 maskA maskB onesR X1 X2 X3 k f5)) = lowA (DA (arg1.view.read (Elt F) X1) (arg2.view.read (Elt F) X2) (arg3.view.read (Elt F) X3) k.val 2) := by
  refine (Store.skip _ _ _ _ _ _ (by decide +kernel)).trans ?_
  refine (Store.skip _ _ _ _ _ _ (by decide +kernel)).trans ?_
  refine (Store.skip _ _ _ _ _ _ (by decide +kernel)).trans ?_
  refine (Store.skip _ _ _ _ _ _ (by decide +kernel)).trans ?_
  refine (Store.skip _ _ _ _ _ _ (by decide +kernel)).trans ?_
  refine (Store.part_unit (d := ![0, 0, 0]) _ _ _ _ (by decide) _ _ (by decide +kernel)).trans ?_
  unfold lowA DA
  rw [← em2 𝒱 c bd i harg1 harg2 harg3 harg4 harg5 harg6 harg7 k X1 X2 X3 f5 h5, ← esc2 𝒱 c bd i harg1 harg2 harg3 harg4 harg5 harg6 harg7 k X1 X2 X3 f5 h5, ← ea2 𝒱 c bd i harg1 harg2 harg3 harg4 harg5 harg6 harg7 k X1 X2 X3 f5 h5, ← ev2 k X3 (k0_off41_inb k)]
  rfl
theorem ehi2 (h5 : ∀ h, row5 arg5.view f5 h = SV (arg1.view.read (Elt F) X1) (arg2.view.read (Elt F) X2) k.val h 0) : arg7.view.readAt (Elt F) (Rect.unit (s := S4x80x512) ![2, 0, 256] S1x80x256.size (by decide)).toLoadRect
    (arg7.view.writes (Elt F) arg7.view.junk (tile.sl.HW7_8 𝒱 c bd i arg1 harg1 arg2 harg2 arg3 harg3 arg4 harg4 arg5 harg5 arg6 harg6 arg7 harg7 maskA maskB onesR X1 X2 X3 k f5)) = UA (arg1.view.read (Elt F) X1) (arg2.view.read (Elt F) X2) (arg3.view.read (Elt F) X3) k.val 2 := by
  refine (Store.skip _ _ _ _ _ _ (by decide +kernel)).trans ?_
  refine (Store.hit _ _ _ _ _).trans ?_
  unfold UA
  rw [← ehm2 𝒱 c bd i harg1 harg2 harg3 harg4 harg5 harg6 harg7 k X1 X2 X3 f5 h5, ← eha2 𝒱 c bd i harg1 harg2 harg3 harg4 harg5 harg6 harg7 k X1 X2 X3 f5 h5, ← esh2 𝒱 c bd i harg1 harg2 harg3 harg4 harg5 harg6 harg7 k X1 X2 X3 f5, ← ew2 k X3 (k0_off47_inb k)]
  rfl
theorem efa2 (h5 : ∀ h, row5 arg5.view f5 h = SV (arg1.view.read (Elt F) X1) (arg2.view.read (Elt F) X2) k.val h 0) : row7 arg7.view (arg7.view.writes (Elt F) arg7.view.junk (tile.sl.HW7_8 𝒱 c bd i arg1 harg1 arg2 harg2 arg3 harg3 arg4 harg4 arg5 harg5 arg6 harg6 arg7 harg7 maskA maskB onesR X1 X2 X3 k f5)) 2 = FA (arg1.view.read (Elt F) X1) (arg2.view.read (Elt F) X2) (arg3.view.read (Elt F) X3) k.val 2 :=
  split7 _ _ _ _ _ (elo2 𝒱 c bd i harg1 harg2 harg3 harg4 harg5 harg6 harg7 k X1 X2 X3 f5 h5) (ehi2 𝒱 c bd i harg1 harg2 harg3 harg4 harg5 harg6 harg7 k X1 X2 X3 f5 h5)
theorem etop2 (h5 : ∀ h, row5 arg5.view f5 h = SV (arg1.view.read (Elt F) X1) (arg2.view.read (Elt F) X2) k.val h 0) : tile.sl.v513 𝒱 c bd i arg1 harg1 arg2 harg2 arg3 harg3 arg4 harg4 arg5 harg5 arg6 harg6 arg7 harg7 maskA maskB onesR X1 X2 X3 k f5 = topA (FA (arg1.view.read (Elt F) X1) (arg2.view.read (Elt F) X2) (arg3.view.read (Elt F) X3) k.val 2) :=
  (top7 _ _ 2).trans (congrArg topA (efa2 𝒱 c bd i harg1 harg2 harg3 harg4 harg5 harg6 harg7 k X1 X2 X3 f5 h5))
theorem ebot2 (h5 : ∀ h, row5 arg5.view f5 h = SV (arg1.view.read (Elt F) X1) (arg2.view.read (Elt F) X2) k.val h 0) : tile.sl.v515 𝒱 c bd i arg1 harg1 arg2 harg2 arg3 harg3 arg4 harg4 arg5 harg5 arg6 harg6 arg7 harg7 maskA maskB onesR X1 X2 X3 k f5 = botA (FA (arg1.view.read (Elt F) X1) (arg2.view.read (Elt F) X2) (arg3.view.read (Elt F) X3) k.val 2) :=
  (bot7 _ _ 2).trans (congrArg botA (efa2 𝒱 c bd i harg1 harg2 harg3 harg4 harg5 harg6 harg7 k X1 X2 X3 f5 h5))

theorem esc3 (h5 : ∀ h, row5 arg5.view f5 h = SV (arg1.view.read (Elt F) X1) (arg2.view.read (Elt F) X2) k.val h 0) : row5 arg5.view (arg5.view.writes (Elt F) f5 (tile.sl.HW5_4 𝒱 c bd i arg1 harg1 arg2 harg2 arg3 harg3 arg4 harg4 arg5 harg5 arg6 harg6 arg7 harg7 onesR X1 X2 X3 k f5)) 3 = SV (arg1.view.read (Elt F) X1) (arg2.view.read (Elt F) X2) k.val 3 (2 * k.val) := by
  refine (Store.skip _ _ _ _ _ _ (by decide +kernel)).trans ?_
  refine (Store.skip _ _ _ _ _ _ (by decide +kernel)).trans ?_
  refine (Store.skip _ _ _ _ _ _ (by decide +kernel)).trans ?_
  refine (Store.skip _ _ _ _ _ _ (by decide +kernel)).trans ?_
  exact base5 𝒱 c bd i harg1 harg2 harg3 harg4 harg5 harg6 harg7 k X1 X2 X3 f5 h5 _ _ _ 3
theorem em3 (h5 : ∀ h, row5 arg5.view f5 h = SV (arg1.view.read (Elt F) X1) (arg2.view.read (Elt F) X2) k.val h 0) : tile.sl.v273 𝒱 c bd i arg1 harg1 arg2 harg2 arg3 harg3 arg4 harg4 arg5 harg5 arg6 harg6 arg7 harg7 maskA onesR X1 X2 X3 k f5 = MV (arg1.view.read (Elt F) X1) (arg2.view.read (Elt F) X2) k.val 3 (2 * k.val) := by
  refine (Store.skip _ _ _ _ _ _ (by decide +kernel)).trans ?_
  refine (Store.skip _ _ _ _ _ _ (by decide +kernel)).trans ?_
  refine (Store.skip _ _ _ _ _ _ (by decide +kernel)).trans ?_
  exact base6 𝒱 c bd i harg1 harg2 harg3 harg4 harg5 harg6 harg7 k X1 X2 X3 f5 h5 _ _ _ 3
theorem ea3 (h5 : ∀ h, row5 arg5.view f5 h = SV (arg1.view.read (Elt F) X1) (arg2.view.read (Elt F) X2) k.val h 0) : tile.sl.v296 𝒱 c bd i arg1 harg1 arg2 harg2 arg3 harg3 arg4 harg4 arg5 harg5 arg6 harg6 arg7 harg7 maskA onesR X1 X2 X3 k f5 = AV (arg1.view.read (Elt F) X1) (arg2.view.read (Elt F) X2) (arg3.view.read (Elt F) X3) k.val 3 (2 * k.val) := by
  refine (Store.skip _ _ _ _ _ _ (by decide +kernel)).trans ?_
  refine (Store.skip _ _ _ _ _ _ (by decide +kernel)).trans ?_
  refine (Store.skip _ _ _ _ _ _ (by decide +kernel)).trans ?_
  exact base7 𝒱 c bd i harg1 harg2 harg3 harg4 harg5 harg6 harg7 k X1 X2 X3 f5 h5 _ _ _ 3
theorem ehm3 (h5 : ∀ h, row5 arg5.view f5 h = SV (arg1.view.read (Elt F) X1) (arg2.view.read (Elt F) X2) k.val h 0) : tile.sl.v421 𝒱 c bd i arg1 harg1 arg2 harg2 arg3 harg3 arg4 harg4 arg5 harg5 arg6 harg6 arg7 harg7 maskA maskB onesR X1 X2 X3 k f5 = halfM (DM (arg1.view.read (Elt F) X1) (arg2.view.read (Elt F) X2) k.val 3) := by
  refine (Store.skip _ _ _ _ _ _ (by decide +kernel)).trans ?_
  refine (Store.skip _ _ _ _ _ _ (by decide +kernel)).trans ?_
  refine (Store.skip _ _ _ _ _ _ (by decide +kernel)).trans ?_
  refine (Store.part_unit (d := ![0, 0, 256]) _ _ _ _ (by decide) _ _ (by decide +kernel)).trans ?_
  unfold halfM DM
  rw [← em3 𝒱 c bd i harg1 harg2 harg3 harg4 harg5 harg6 harg7 k X1 X2 X3 f5 h5, ← esc3 𝒱 c bd i harg1 harg2 harg3 harg4 harg5 harg6 harg7 k X1 X2 X3 f5 h5]
  rfl
theorem eha3 (h5 : ∀ h, row5 arg5.view f5 h = SV (arg1.view.read (Elt F) X1) (arg2.view.read (Elt F) X2) k.val h 0) : tile.sl.v446 𝒱 c bd i arg1 harg1 arg2 harg2 arg3 harg3 arg4 harg4 arg5 harg5 arg6 harg6 arg7 harg7 maskA maskB onesR X1 X2 X3 k f5 = halfA (DA (arg1.view.read (Elt F) X1) (arg2.view.read (Elt F) X2) (arg3.view.read (Elt F) X3) k.val 3) := by
  refine (Store.skip _ _ _ _ _ _ (by decide +kernel)).trans ?_
  refine (Store.skip _ _ _ _ _ _ (by decide +kernel)).trans ?_
  refine (Store.skip _ _ _ _ _ _ (by decide +kernel)).trans ?_
  refine (Store.part_unit (d := ![0, 0, 256]) _ _ _ _ (by decide) _ _ (by decide +kernel)).trans ?_
  unfold halfA DA
  rw [← em3 𝒱 c bd i harg1 harg2 harg3 harg4 harg5 harg6 harg7 k X1 X2 X3 f5 h5, ← esc3 𝒱 c bd i harg1 harg2 harg3 harg4 harg5 harg6 harg7 k X1 X2 X3 f5 h5, ← ea3 𝒱 c bd i harg1 harg2 harg3 harg4 harg5 harg6 harg7 k X1 X2 X3 f5 h5, ← ev3 k X3 (k0_off44_inb k)]
  rfl
theorem esh3 : tile.sl.v424 𝒱 c bd i arg1 harg1 arg2 harg2 arg3 harg3 arg4 harg4 arg5 harg5 arg6 harg6 arg7 harg7 onesR X1 X2 X3 k f5 = SH (arg1.view.read (Elt F) X1) (arg2.view.read (Elt F) X2) k.val 3 := by
  refine (Store.hit _ _ _ _ _).trans ?_
  unfold SH
  rw [← ek3 k X2 (k0_off42_inb k), ← eq3 k X1 (k0_off43_inb k)]; rfl
theorem elo3 (h5 : ∀ h, row5 arg5.view f5 h = SV (arg1.view.read (Elt F) X1) (arg2.view.read (Elt F) X2) k.val h 0) : arg7.view.readAt (Elt F) (Rect.unit (s := S4x80x512) ![3, 0, 0] S1x80x256.size (by decide)).toLoadRect
    (arg7.view.writes (Elt F) arg7.view.junk (tile.sl.HW7_8 𝒱 c bd i arg1 harg1 arg2 harg2 arg3 harg3 arg4 harg4 arg5 harg5 arg6 harg6 arg7 harg7 maskA maskB onesR X1 X2 X3 k f5)) = lowA (DA (arg1.view.read (Elt F) X1) (arg2.view.read (Elt F) X2) (arg3.view.read (Elt F) X3) k.val 3) := by
  refine (Store.skip _ _ _ _ _ _ (by decide +kernel)).trans ?_
  refine (Store.skip _ _ _ _ _ _ (by decide +kernel)).trans ?_
  refine (Store.skip _ _ _ _ _ _ (by decide +kernel)).trans ?_
  refine (Store.skip _ _ _ _ _ _ (by decide +kernel)).trans ?_
  refine (Store.part_unit (d := ![0, 0, 0]) _ _ _ _ (by decide) _ _ (by decide +kernel)).trans ?_
  unfold lowA DA
  rw [← em3 𝒱 c bd i harg1 harg2 harg3 harg4 harg5 harg6 harg7 k X1 X2 X3 f5 h5, ← esc3 𝒱 c bd i harg1 harg2 harg3 harg4 harg5 harg6 harg7 k X1 X2 X3 f5 h5, ← ea3 𝒱 c bd i harg1 harg2 harg3 harg4 harg5 harg6 harg7 k X1 X2 X3 f5 h5, ← ev3 k X3 (k0_off44_inb k)]
  rfl
theorem ehi3 (h5 : ∀ h, row5 arg5.view f5 h = SV (arg1.view.read (Elt F) X1) (arg2.view.read (Elt F) X2) k.val h 0) : arg7.view.readAt (Elt F) (Rect.unit (s := S4x80x512) ![3, 0, 256] S1x80x256.size (by decide)).toLoadRect
    (arg7.view.writes (Elt F) arg7.view.junk (tile.sl.HW7_8 𝒱 c bd i arg1 harg1 arg2 harg2 arg3 harg3 arg4 harg4 arg5 harg5 arg6 harg6 arg7 harg7 maskA maskB onesR X1 X2 X3 k f5)) = UA (arg1.view.read (Elt F) X1) (arg2.view.read (Elt F) X2) (arg3.view.read (Elt F) X3) k.val 3 := by
  refine (Store.hit _ _ _ _ _).trans ?_
  unfold UA
  rw [← ehm3 𝒱 c bd i harg1 harg2 harg3 harg4 harg5 harg6 harg7 k X1 X2 X3 f5 h5, ← eha3 𝒱 c bd i harg1 harg2 harg3 harg4 harg5 harg6 harg7 k X1 X2 X3 f5 h5, ← esh3 𝒱 c bd i harg1 harg2 harg3 harg4 harg5 harg6 harg7 k X1 X2 X3 f5, ← ew3 k X3 (k0_off48_inb k)]
  rfl
theorem efa3 (h5 : ∀ h, row5 arg5.view f5 h = SV (arg1.view.read (Elt F) X1) (arg2.view.read (Elt F) X2) k.val h 0) : row7 arg7.view (arg7.view.writes (Elt F) arg7.view.junk (tile.sl.HW7_8 𝒱 c bd i arg1 harg1 arg2 harg2 arg3 harg3 arg4 harg4 arg5 harg5 arg6 harg6 arg7 harg7 maskA maskB onesR X1 X2 X3 k f5)) 3 = FA (arg1.view.read (Elt F) X1) (arg2.view.read (Elt F) X2) (arg3.view.read (Elt F) X3) k.val 3 :=
  split7 _ _ _ _ _ (elo3 𝒱 c bd i harg1 harg2 harg3 harg4 harg5 harg6 harg7 k X1 X2 X3 f5 h5) (ehi3 𝒱 c bd i harg1 harg2 harg3 harg4 harg5 harg6 harg7 k X1 X2 X3 f5 h5)
theorem etop3 (h5 : ∀ h, row5 arg5.view f5 h = SV (arg1.view.read (Elt F) X1) (arg2.view.read (Elt F) X2) k.val h 0) : tile.sl.v519 𝒱 c bd i arg1 harg1 arg2 harg2 arg3 harg3 arg4 harg4 arg5 harg5 arg6 harg6 arg7 harg7 maskA maskB onesR X1 X2 X3 k f5 = topA (FA (arg1.view.read (Elt F) X1) (arg2.view.read (Elt F) X2) (arg3.view.read (Elt F) X3) k.val 3) :=
  (top7 _ _ 3).trans (congrArg topA (efa3 𝒱 c bd i harg1 harg2 harg3 harg4 harg5 harg6 harg7 k X1 X2 X3 f5 h5))
theorem ebot3 (h5 : ∀ h, row5 arg5.view f5 h = SV (arg1.view.read (Elt F) X1) (arg2.view.read (Elt F) X2) k.val h 0) : tile.sl.v521 𝒱 c bd i arg1 harg1 arg2 harg2 arg3 harg3 arg4 harg4 arg5 harg5 arg6 harg6 arg7 harg7 maskA maskB onesR X1 X2 X3 k f5 = botA (FA (arg1.view.read (Elt F) X1) (arg2.view.read (Elt F) X2) (arg3.view.read (Elt F) X3) k.val 3) :=
  (bot7 _ _ 3).trans (congrArg botA (efa3 𝒱 c bd i harg1 harg2 harg3 harg4 harg5 harg6 harg7 k X1 X2 X3 f5 h5))

/-- What is kept before query tile `k`: the scores of its first key block, and the output of the tiles before it. -/
def Before (arg4 : Memref sig .tc .vmem S1x4096x256 .bf16) (arg5 : Memref sig .tc .vmem S2x4x256x512 .f32) (B1 : Vec F S1x8x512x512 .bf16) (B2 : Vec F S1x4096x512 .bf16) (B3 : Vec F S1x16x256x256 .bf16) (n : ℕ)
    (f4 : BufTy.Contents (Elt F) arg4.view.ty) (f5 : BufTy.Contents (Elt F) arg5.view.ty) : Prop :=
  (∀ h, row5 arg5.view f5 h = SV B1 B2 n h 0) ∧ ∀ y : S1x4096x256.Idx, (y 1).val < 512 * n → arg4.view.read (Elt F) f4 y = outBlock B1 B2 B3 y

theorem tile5 (h5 : ∀ h, row5 arg5.view f5 h = SV (arg1.view.read (Elt F) X1) (arg2.view.read (Elt F) X2) k.val h 0) (h : Fin 4) :
    row5 arg5.view (arg5.view.writes (Elt F) f5 ((tile (F := F) 𝒱 c bd i arg1 harg1 arg2 harg2 arg3 harg3 arg4 harg4 arg5 harg5 arg6 harg6 arg7 harg7 maskA maskB onesR X1 X2 X3 k).2.1 f4 f5 f6 f7)) h = SV (arg1.view.read (Elt F) X1) (arg2.view.read (Elt F) X2) (k.val + 1) h 0 := by
  unfold tile
  fin_cases h
  · refine (Store.skip _ _ _ _ _ _ (by decide +kernel)).trans ?_
    refine (Store.skip _ _ _ _ _ _ (by decide +kernel)).trans ?_
    refine (Store.skip _ _ _ _ _ _ (by decide +kernel)).trans ?_
    exact (Store.hit _ _ _ _ _).trans (congrArg₂ k0_pay4 (e00 X2 _) (en0 k X1 _))
  · refine (Store.skip _ _ _ _ _ _ (by decide +kernel)).trans ?_
    refine (Store.skip _ _ _ _ _ _ (by decide +kernel)).trans ?_
    exact (Store.hit _ _ _ _ _).trans (congrArg₂ k0_pay4 (e01 X2 _) (en1 k X1 _))
  · refine (Store.skip _ _ _ _ _ _ (by decide +kernel)).trans ?_
    exact (Store.hit _ _ _ _ _).trans (congrArg₂ k0_pay4 (e02 X2 _) (en2 k X1 _))
  · exact (Store.hit _ _ _ _ _).trans (congrArg₂ k0_pay4 (e03 X2 _) (en3 k X1 _))

theorem tile4 (h5 : ∀ h, row5 arg5.view f5 h = SV (arg1.view.read (Elt F) X1) (arg2.view.read (Elt F) X2) k.val h 0) :
    (tile (F := F) 𝒱 c bd i arg1 harg1 arg2 harg2 arg3 harg3 arg4 harg4 arg5 harg5 arg6 harg6 arg7 harg7 maskA maskB onesR X1 X2 X3 k).1 f4 f5 f6 f7
      = [⟨Rect.unit (s := S1x4096x256) (k0_off53 k) S1x512x256.size (k0_off53_inb k), outTile (arg1.view.read (Elt F) X1) (arg2.view.read (Elt F) X2) (arg3.view.read (Elt F) X3) k.val⟩] := by
  unfold tile outTile
  rw [← etop0 𝒱 c bd i harg1 harg2 harg3 harg4 harg5 harg6 harg7 k X1 X2 X3 f5 h5, ← ebot0 𝒱 c bd i harg1 harg2 harg3 harg4 harg5 harg6 harg7 k X1 X2 X3 f5 h5, ← etop1 𝒱 c bd i harg1 harg2 harg3 harg4 harg5 harg6 harg7 k X1 X2 X3 f5 h5, ← ebot1 𝒱 c bd i harg1 harg2 harg3 harg4 harg5 harg6 harg7 k X1 X2 X3 f5 h5, ← etop2 𝒱 c bd i harg1 harg2 harg3 harg4 harg5 harg6 harg7 k X1 X2 X3 f5 h5, ← ebot2 𝒱 c bd i harg1 harg2 harg3 harg4 harg5 harg6 harg7 k X1 X2 X3 f5 h5, ← etop3 𝒱 c bd i harg1 harg2 harg3 harg4 harg5 harg6 harg7 k X1 X2 X3 f5 h5, ← ebot3 𝒱 c bd i harg1 harg2 harg3 harg4 harg5 harg6 harg7 k X1 X2 X3 f5 h5]
  rfl

/-- Every query tile keeps it. -/
theorem keeps : TileStep (F := F) i arg1 harg1 arg2 harg2 arg3 harg3 arg4 harg4 arg5 harg5 arg6 harg6 arg7 harg7 X1 X2 X3 k c
    (fun f4 f5 _ _ => Before arg4 arg5 (arg1.view.read (Elt F) X1) (arg2.view.read (Elt F) X2) (arg3.view.read (Elt F) X3) k.val f4 f5) (fun f4 f5 _ _ => Before arg4 arg5 (arg1.view.read (Elt F) X1) (arg2.view.read (Elt F) X2) (arg3.view.read (Elt F) X3) (k.val + 1) f4 f5) := by
  intro f4 f5 f6 f7 hI
  refine ⟨tile5 Variants.none c none i harg1 harg2 harg3 harg4 harg5 harg6 harg7 k X1 X2 X3 f4 f5 f6 f7 hI.1, fun y hy => ?_⟩
  dsimp only
  rw [tile4 Variants.none c none i harg1 harg2 harg3 harg4 harg5 harg6 harg7 k X1 X2 X3 f4 f5 f6 f7 hI.1]
  by_cases hlt : (y 1).val < 512 * k.val
  · rw [View.read_writes_cons_unit_of_not_mem _ _ _ _ _ y (k0_off53_eq k) 1 (.inl hlt)]
    exact hI.2 y hlt
  · have h0 : (y 0).val = 0 := by have := (y 0).isLt; simp [Shape.size] at this; omega
    rw [View.read_writes_cons_unit_of_mem _ _ _ _ _ y (fun a => ⟨![0, (y 1).val % 512, (y 2).val] a, by
      have := (y 2).isLt; fin_cases a <;> simp_all [Shape.size] <;> omega⟩) (k0_off53_eq k) (by
        intro a; fin_cases a
        · exact h0
        · show (y 1).val = 512 * k.val + (y 1).val % 512; omega
        · exact (Nat.zero_add _).symm)]
    rw [outBlock, show (y 1).val / 512 = k.val by omega]

/-- The first stores: the first tile's first scores. -/
theorem first5 (h : Fin 4) :
    row5 arg5.view (arg5.view.writes (Elt F) f5 (body (F := F) c i arg1 harg1 arg2 harg2 arg3 harg3 arg4 harg4 arg5 harg5 arg6 harg6 arg7 harg7 X1 X2 X3).1) h = SV (arg1.view.read (Elt F) X1) (arg2.view.read (Elt F) X2) 0 h 0 := by
  unfold body
  fin_cases h
  · refine (Store.skip _ _ _ _ _ _ (by decide +kernel)).trans ?_
    refine (Store.skip _ _ _ _ _ _ (by decide +kernel)).trans ?_
    refine (Store.skip _ _ _ _ _ _ (by decide +kernel)).trans ?_
    exact (Store.hit _ _ _ _ _).trans (congrArg₂ k0_pay4 (e00 X2 _) (q_read arg1 X1 _ 0 0 rfl))
  · refine (Store.skip _ _ _ _ _ _ (by decide +kernel)).trans ?_
    refine (Store.skip _ _ _ _ _ _ (by decide +kernel)).trans ?_
    exact (Store.hit _ _ _ _ _).trans (congrArg₂ k0_pay4 (e01 X2 _) (q_read arg1 X1 _ 0 1 rfl))
  · refine (Store.skip _ _ _ _ _ _ (by decide +kernel)).trans ?_
    exact (Store.hit _ _ _ _ _).trans (congrArg₂ k0_pay4 (e02 X2 _) (q_read arg1 X1 _ 0 2 rfl))
  · exact (Store.hit _ _ _ _ _).trans (congrArg₂ k0_pay4 (e03 X2 _) (q_read arg1 X1 _ 0 3 rfl))

end

end Cert.Proof.KernelIdeal

end

end
-- ==== Proof.Attn.PayIdeal.lean ====
/- The attention's stored vectors read at an index, over the extended reals: scores, running maxima and running sums. -/
module

public import proofs.«01_k».proof.Proof.Gen.KernelIdeal.Skeleton
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

theorem negInf : Ideal.ofBits FTy.f32 0xFF800000#32 = ⊥ := by simp [Ideal.ofBits, Ideal.ieee]

theorem pay4_apply (k : FVec Ideal S1x256x128 .bf16) (q : FVec Ideal S1x1x128x512 .bf16) (i : Fin 256) (r : Fin 512) :
    k0_pay4 (F := Ideal) k q (ix4 0 0 i r) = ∑ d : Fin 128, k (ix3 0 i d) * q (ix4 0 0 d r) := by
  pointwise [k0_pay4]

theorem pay106_apply (k : FVec Ideal S1x256x128 .bf16) (q : FVec Ideal S1x1x128x256 .bf16) (i : Fin 256) (r : Fin 256) :
    k0_pay106 (F := Ideal) k q (ix4 0 0 i r) = ∑ d : Fin 128, k (ix3 0 i d) * q (ix4 0 0 d r) := by
  pointwise [k0_pay106]

/-- The running maximum after a block of keys. -/
def upto (m : EReal) (s : Fin 256 → EReal) : EReal := max m (Finset.univ.sup s)

/-- The running sum after a block of keys. -/
def plus (m : EReal) (s v : Fin 256 → EReal) (a : EReal) : EReal :=
  Ideal.exp2 (m - upto m s) * a + ∑ i, v i * Ideal.exp2 (s i - upto m s)

theorem pay14_apply (m : FVec Ideal S1x1x512 .f32) (s : FVec Ideal S1x1x256x512 .f32) (r : Fin 512) :
    k0_pay14 (F := Ideal) m s (ix3 0 0 r) = upto (m (ix3 0 0 r)) (fun i => s (ix4 0 0 i r)) := by
  pointwise [k0_pay14, k0_pay12, k0_pay11]
  rw [negInf]; rfl

/-- The values' rows, and below them the ones. -/
def col (v : FVec Ideal S1x1x64x256 .bf16) (e : Fin 80) (i : Fin 256) : EReal := if h : e.val < 64 then v (ix4 0 0 ⟨e.val, h⟩ i) else 1

theorem pay13_apply (m : FVec Ideal S1x1x512 .f32) (s : FVec Ideal S1x1x256x512 .f32) (v : FVec Ideal S1x1x64x256 .bf16) (a : FVec Ideal S1x80x512 .f32)
    (e : Fin 80) (r : Fin 512) :
    k0_pay13 (F := Ideal) k0_pay163 m s s v a (ix3 0 e r) = plus (m (ix3 0 0 r)) (fun i => s (ix4 0 0 i r)) (col v e) (a (ix3 0 e r)) := by
  pointwise [k0_pay13, k0_pay163, k0_pay12, k0_pay11]
  rw [negInf]; rfl

theorem pay110_apply (w : IVec S256x512 1) (m : FVec Ideal S1x1x512 .f32) (s : FVec Ideal S1x1x256x512 .f32) (r : Fin 512) :
    k0_pay110 (F := Ideal) (k0_pay108 w m s) (ix3 0 0 r) = upto (m (ix3 0 0 r)) (fun i => Scalar.select (w (ix2 i r)) (s (ix4 0 0 i r)) ⊥) := by
  pointwise [k0_pay110, k0_pay108, k0_pay107]
  rw [negInf]; rfl

theorem pay109_apply (w : IVec S256x512 1) (m : FVec Ideal S1x1x512 .f32) (s : FVec Ideal S1x1x256x512 .f32) (v : FVec Ideal S1x1x64x256 .bf16) (a : FVec Ideal S1x80x512 .f32)
    (e : Fin 80) (r : Fin 512) :
    k0_pay109 (F := Ideal) w k0_pay163 m s s v a (ix3 0 e r)
      = plus (m (ix3 0 0 r)) (fun i => Scalar.select (w (ix2 i r)) (s (ix4 0 0 i r)) ⊥) (col v e) (a (ix3 0 e r)) := by
  pointwise [k0_pay109, k0_pay163, k0_pay108, k0_pay107]
  rw [negInf]; rfl

theorem pay133_apply (w : IVec S256x512 1) (m : FVec Ideal S1x1x256 .f32) (s : FVec Ideal S1x1x256x256 .f32) (v : FVec Ideal S1x1x64x256 .bf16) (a : FVec Ideal S1x80x256 .f32)
    (e : Fin 80) (r : Fin 256) :
    k0_pay133 (F := Ideal) w k0_pay163 (k0_pay130 m) (k0_pay131 w) s s v a (ix3 0 e r)
      = plus (m (ix3 0 0 r)) (fun i => Scalar.select (w (ix2 i ⟨256 + r.val, by omega⟩)) (s (ix4 0 0 i r)) ⊥) (col v e) (a (ix3 0 e r)) := by
  pointwise [k0_pay133, k0_pay163, k0_pay130, k0_pay131, k0_pay132]
  rw [negInf]; rfl

theorem pay3_apply (t0 t1 t2 t3 : FVec Ideal S1x64x512 .f32) (b0 b1 b2 b3 : FVec Ideal S1x1x512 .f32) (r : Fin 512) (h : Fin 4) (e : Fin 64) :
    k0_pay3 (F := Ideal) (k0_pay155 t0 b0) t1 b1 t2 b2 t3 b3 (ix3 0 r ⟨64 * h.val + e.val, by omega⟩)
      = Ideal.div (![t0, t1, t2, t3] h (ix3 0 e r)) (![b0, b1, b2, b3] h (ix3 0 0 r)) := by
  fin_cases h <;> pointwise [k0_pay3, k0_pay155]
  · rw [dif_neg (by omega), dif_neg (by omega), dif_pos (by omega)]
    congr 3
    exact Fin.ext (by show 128 + e.val - 64 - 64 = e.val; omega)
  · rw [dif_neg (by omega), dif_neg (by omega), dif_neg (by omega)]
    congr 3
    exact Fin.ext (by show 192 + e.val - 64 - 64 - 64 = e.val; omega)

/-- The floor of a word by 64, as the kernel computes it. -/
def chunk (x : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

theorem chunk_eq : ∀ i : Fin 512, chunk (BitVec.ofNat 32 i.val) = BitVec.ofNat 32 (i.val / 64) := by decide +kernel

theorem sle_eq : ∀ (c : Fin 5) (a b : Fin 8), IntOp.cmpi .sle (IntOp.addi (BitVec.ofNat 32 a.val) (BitVec.ofNat 32 c.val)) (BitVec.ofNat 32 b.val)
    = if a.val + c.val ≤ b.val then 1#1 else 0#1 := by decide +kernel

theorem maskA_apply (i : Fin 256) (r : Fin 512) :
    k0_pay161 k0_pay156 k0_pay157 k0_pay158 k0_pay159 (ix2 i r) = if i.val / 64 ≤ r.val / 64 then 1#1 else 0#1 := by
  pointwise [k0_pay161, k0_pay156, k0_pay157, k0_pay158, k0_pay159, k0_pay160]
  refine (congrArg₂ (fun x y => IntOp.cmpi .sle (IntOp.addi x (BitVec.ofNat 32 (0 : Fin 5).val)) y) (chunk_eq ⟨i.val, by omega⟩) (chunk_eq r)).trans ?_
  exact sle_eq 0 ⟨i.val / 64, by omega⟩ ⟨r.val / 64, by omega⟩

theorem maskB_apply (i : Fin 256) (r : Fin 512) :
    k0_pay162 k0_pay156 k0_pay157 k0_pay158 k0_pay159 (ix2 i r) = if i.val / 64 + 4 ≤ r.val / 64 then 1#1 else 0#1 := by
  pointwise [k0_pay162, k0_pay156, k0_pay157, k0_pay158, k0_pay159, k0_pay160]
  refine (congrArg₂ (fun x y => IntOp.cmpi .sle (IntOp.addi x (BitVec.ofNat 32 (4 : Fin 5).val)) y) (chunk_eq ⟨i.val, by omega⟩) (chunk_eq r)).trans ?_
  exact sle_eq 4 ⟨i.val / 64, by omega⟩ ⟨r.val / 64, by omega⟩

end Cert.Proof.KernelIdeal

end

end
-- ==== Proof.Attn.Online.lean ====
/- The softmax of the attention over a growing set of keys, in the extended reals: the running maximum and the sums it
   scales, the step by a block of keys, and the normalised sum as the softmax that takes the whole row at once. -/
module

public import Idealize.ShloMosaic.PureOps.Ideal

@[expose] public section

noncomputable section

namespace Cert.Proof.Online

open Idealize.ShloMosaic

/-- A nonnegative finite factor distributes over a finite sum. -/
theorem mul_sum {ι : Type} (t : Finset ι) (c : EReal) (h0 : 0 ≤ c) (ht : c ≠ ⊤) (f : ι → EReal) :
    c * ∑ j ∈ t, f j = ∑ j ∈ t, c * f j := by
  classical
  induction t using Finset.induction_on with
  | empty => simp
  | insert a t ha ih => rw [Finset.sum_insert ha, Finset.sum_insert ha, EReal.left_distrib_of_nonneg_of_ne_top h0 ht, ih]

/-- A power of two is nonnegative. -/
theorem exp2_nonneg (x : EReal) : 0 ≤ Ideal.exp2 x := by
  induction x using EReal.rec with
  | bot => simp
  | top => simp
  | coe r => rw [Ideal.exp2_coe]; exact EReal.coe_nonneg.mpr (Real.rpow_nonneg (by norm_num) r)

/-- A power of two is finite below an infinite exponent. -/
theorem exp2_ne_top {x : EReal} (h : x ≠ ⊤) : Ideal.exp2 x ≠ ⊤ := by
  induction x using EReal.rec with
  | bot => simp
  | top => exact absurd rfl h
  | coe r => rw [Ideal.exp2_coe]; exact EReal.coe_ne_top _

/-- Rescaling a power of two from one finite maximum to another. -/
theorem exp2_rescale (a b : ℝ) {x : EReal} (h : x ≠ ⊤) :
    Ideal.exp2 ((a : EReal) - b) * Ideal.exp2 (x - a) = Ideal.exp2 (x - b) := by
  induction x using EReal.rec with
  | bot => simp
  | top => exact absurd rfl h
  | coe r =>
    rw [← EReal.coe_sub, ← EReal.coe_sub, ← EReal.coe_sub, Ideal.exp2_coe, Ideal.exp2_coe, Ideal.exp2_coe, ← EReal.coe_mul]
    congr 1
    show (2 : ℝ) ^ (a - b) * (2 : ℝ) ^ (r - a) = (2 : ℝ) ^ (r - b)
    rw [← Real.rpow_add (by norm_num)]
    congr 1; ring

/-- The largest of the first `n` scores. -/
def top (s : ℕ → EReal) (n : ℕ) : EReal := (Finset.range n).sup s

/-- The sum over the first `n` keys of their values, weighted by the powers of two of the scores below the largest. -/
def acc (s v : ℕ → EReal) (n : ℕ) : EReal := ∑ j ∈ Finset.range n, v j * Ideal.exp2 (s j - top s n)

theorem top_zero (s : ℕ → EReal) : top s 0 = ⊥ := rfl
theorem acc_zero (s v : ℕ → EReal) : acc s v 0 = 0 := rfl

theorem top_ne_top {s : ℕ → EReal} (hs : ∀ j, s j ≠ ⊤) (n : ℕ) : top s n ≠ ⊤ := by
  refine ne_of_lt ?_
  rw [top, Finset.sup_lt_iff (by simp : (⊥ : EReal) < ⊤)]
  exact fun j _ => lt_top_iff_ne_top.mpr (hs j)

/-- The largest score after a block of `B` further keys. -/
theorem top_step (s : ℕ → EReal) (n B : ℕ) :
    top s (n + B) = max (top s n) (Finset.univ.sup fun i : Fin B => s (n + i.val)) := by
  refine le_antisymm ?_ (max_le ?_ ?_)
  · refine Finset.sup_le fun j hj => ?_
    rw [Finset.mem_range] at hj
    by_cases h : j < n
    · exact le_max_of_le_left (Finset.le_sup (f := s) (Finset.mem_range.mpr h))
    · refine le_max_of_le_right ?_
      have := Finset.le_sup (f := fun i : Fin B => s (n + i.val)) (Finset.mem_univ ⟨j - n, by omega⟩)
      simpa [Nat.add_sub_cancel' (not_lt.mp h)] using this
  · exact Finset.sup_mono (Finset.range_mono (Nat.le_add_right n B))
  · exact Finset.sup_le fun i _ => Finset.le_sup (f := s) (Finset.mem_range.mpr (by have := i.isLt; omega))

/-- The weighted sum after a block of `B` further keys: the earlier one rescaled, and the block's own. -/
theorem acc_step {s : ℕ → EReal} (hs : ∀ j, s j ≠ ⊤) (v : ℕ → EReal) (n B : ℕ) (hb : top s (n + B) ≠ ⊥) :
    acc s v (n + B) = Ideal.exp2 (top s n - top s (n + B)) * acc s v n
      + ∑ i : Fin B, v (n + i.val) * Ideal.exp2 (s (n + i.val) - top s (n + B)) := by
  have htB := top_ne_top hs (n + B)
  have htn := top_ne_top hs n
  rw [acc, Finset.sum_range_add]
  congr 1
  · generalize hM : top s (n + B) = M at *
    induction M using EReal.rec with
    | bot => exact absurd rfl hb
    | top => exact absurd rfl htB
    | coe b =>
      rw [acc]
      generalize hm : top s n = m at *
      induction m using EReal.rec with
      | top => exact absurd rfl htn
      | bot =>
        have h0 : ∀ j ∈ Finset.range n, s j = ⊥ := fun j hj => by
          have := Finset.le_sup (f := s) hj
          rw [show (Finset.range n).sup s = ⊥ from hm] at this
          exact le_bot_iff.mp this
        rw [EReal.bot_sub, Ideal.exp2_bot, zero_mul]
        exact Finset.sum_eq_zero fun j hj => by rw [h0 j hj, EReal.bot_sub, Ideal.exp2_bot, mul_zero]
      | coe a =>
        rw [mul_sum _ _ (exp2_nonneg _) (exp2_ne_top (by rw [← EReal.coe_sub]; exact EReal.coe_ne_top _))]
        exact Finset.sum_congr rfl fun j _ => by
          rw [mul_left_comm, exp2_rescale a b (hs j)]
  · exact Finset.sum_range _

/-- Keys that are masked (their scores `⊥`) leave the largest score. -/
theorem top_masked {s : ℕ → EReal} {n N : ℕ} (h : n ≤ N) (hm : ∀ j, n ≤ j → j < N → s j = ⊥) : top s N = top s n := by
  refine le_antisymm (Finset.sup_le fun j hj => ?_) (Finset.sup_mono (Finset.range_mono h))
  rw [Finset.mem_range] at hj
  by_cases hn : j < n
  · exact Finset.le_sup (f := s) (Finset.mem_range.mpr hn)
  · rw [hm j (not_lt.mp hn) hj]; exact bot_le

/-- Keys that are masked leave the weighted sum. -/
theorem acc_masked {s : ℕ → EReal} (v : ℕ → EReal) {n N : ℕ} (h : n ≤ N) (hm : ∀ j, n ≤ j → j < N → s j = ⊥) :
    acc s v N = acc s v n := by
  rw [acc, acc, top_masked h hm]
  symm
  refine Finset.sum_subset (Finset.range_mono h) fun j hj hn => ?_
  rw [Finset.mem_range] at hj hn
  rw [hm j (not_lt.mp hn) hj, EReal.bot_sub, Ideal.exp2_bot, mul_zero]

/-- `2 ^ x` as an exponential. -/
theorem exp2_eq_exp {x : EReal} : Ideal.exp2 x = Ideal.exp (x * ((Real.log 2 : ℝ) : EReal)) := by
  have hl : (0 : ℝ) < Real.log 2 := Real.log_pos (by norm_num)
  induction x using EReal.rec with
  | bot => rw [EReal.bot_mul_coe_of_pos hl]; simp
  | top => rw [EReal.top_mul_coe_of_pos hl]; simp
  | coe r =>
    rw [← EReal.coe_mul, Ideal.exp2_coe, Ideal.exp_coe]
    congr 1
    show (2 : ℝ) ^ r = _
    rw [Real.rpow_def_of_pos (by norm_num), mul_comm]

/-- The natural logarithm of two, the factor from a base-two exponent to a natural one. -/
abbrev ln2 : EReal := ((Real.log 2 : ℝ) : EReal)

theorem ln2_pos : (0 : ℝ) < Real.log 2 := Real.log_pos (by norm_num)

/-- Scaling by `ln 2` is monotone. -/
theorem mul_ln2_mono : Monotone fun x : EReal => x * ln2 := fun _ _ h =>
  mul_le_mul_of_nonneg_right h (EReal.coe_nonneg.mpr ln2_pos.le)

theorem bot_mul_ln2 : (⊥ : EReal) * ln2 = ⊥ := EReal.bot_mul_coe_of_pos ln2_pos

/-- The largest scaled score is the scaled largest score. -/
theorem sup_mul_ln2 (s : ℕ → EReal) (n : ℕ) :
    (Finset.univ.sup fun j : Fin n => s j.val * ln2) = top s n * ln2 := by
  refine le_antisymm (Finset.sup_le fun j _ => mul_ln2_mono (Finset.le_sup (f := s) (Finset.mem_range.mpr j.isLt))) ?_
  rcases Nat.eq_zero_or_pos n with rfl | hn
  · rw [top_zero, bot_mul_ln2]; exact bot_le
  · obtain ⟨j, hj, hmax⟩ := Finset.exists_mem_eq_sup (Finset.range n) ⟨0, Finset.mem_range.mpr hn⟩ s
    rw [top, hmax]
    exact Finset.le_sup (f := fun j : Fin n => s j.val * ln2) (Finset.mem_univ ⟨j, Finset.mem_range.mp hj⟩)

/-- The softmax's exponential, of scores scaled by `ln 2`, is the power of two. -/
theorem exp_scaled {s : ℕ → EReal} (hs : ∀ j, s j ≠ ⊤) {n : ℕ} (hb : top s n ≠ ⊥) (j : ℕ) :
    Ideal.exp (s j * ln2 - top s n * ln2) = Ideal.exp2 (s j - top s n) := by
  have ht := top_ne_top hs n
  rw [exp2_eq_exp]
  congr 1
  generalize top s n = M at *
  have hj := hs j
  generalize s j = x at *
  induction M using EReal.rec with
  | bot => exact absurd rfl hb
  | top => exact absurd rfl ht
  | coe b =>
    induction x using EReal.rec with
    | bot => rw [EReal.bot_sub, bot_mul_ln2, EReal.bot_sub]
    | top => exact absurd rfl hj
    | coe r => rw [← EReal.coe_mul, ← EReal.coe_mul, ← EReal.coe_sub, ← EReal.coe_sub, ← EReal.coe_mul]; congr 1; ring

/-- The sum of the weights is a positive real. -/
theorem weights_pos {s : ℕ → EReal} (hs : ∀ j, s j ≠ ⊤) {n : ℕ} (hb : top s n ≠ ⊥) :
    ∃ d : ℝ, 0 < d ∧ ∑ j ∈ Finset.range n, Ideal.exp2 (s j - top s n) = (d : EReal) := by
  have ht := top_ne_top hs n
  have hn : (Finset.range n).Nonempty := by
    rcases Nat.eq_zero_or_pos n with rfl | hn
    · exact absurd (top_zero s) hb
    · exact ⟨0, Finset.mem_range.mpr hn⟩
  obtain ⟨j, hj, hmax⟩ := Finset.exists_mem_eq_sup (Finset.range n) hn s
  change top s n = s j at hmax
  have hsub : ∀ k, s k - top s n ≠ ⊤ := fun k => by
    have hk := hs k
    generalize s k = x at *
    generalize top s n = M at *
    induction M using EReal.rec with
    | bot => exact absurd rfl hb
    | top => exact absurd rfl ht
    | coe b =>
      induction x using EReal.rec with
      | bot => simp
      | top => exact absurd rfl hk
      | coe r => rw [← EReal.coe_sub]; exact EReal.coe_ne_top _
  have he : ∀ k, Ideal.exp2 (s k - top s n) = ((Ideal.exp2 (s k - top s n)).toReal : EReal) := fun k =>
    (EReal.coe_toReal (exp2_ne_top (hsub k)) (ne_of_gt (lt_of_lt_of_le (by simp) (exp2_nonneg _)))).symm
  refine ⟨∑ k ∈ Finset.range n, (Ideal.exp2 (s k - top s n)).toReal, ?_, ?_⟩
  · refine Finset.sum_pos' (fun k _ => EReal.toReal_nonneg (exp2_nonneg _)) ⟨j, hj, ?_⟩
    rw [← hmax]
    generalize top s n = M at *
    induction M using EReal.rec with
    | bot => exact absurd rfl hb
    | top => exact absurd rfl ht
    | coe b => rw [← EReal.coe_sub, Ideal.exp2_coe]; simp
  · rw [Finset.sum_congr rfl fun k _ => he k]
    induction Finset.range n using Finset.induction_on with
    | empty => simp
    | insert a t ha ih => rw [Finset.sum_insert ha, Finset.sum_insert ha, ih, EReal.coe_add]

/-- The two sums' quotient is the softmax of the scaled scores, applied to the values. -/
theorem acc_div {s : ℕ → EReal} (hs : ∀ j, s j ≠ ⊤) (v : ℕ → EReal) {n : ℕ} (hb : top s n ≠ ⊥) :
    Ideal.div (acc s v n) (acc s (fun _ => 1) n)
      = ∑ j : Fin n, Ideal.div (Ideal.exp (s j.val * ln2 - Finset.univ.sup fun j : Fin n => s j.val * ln2))
          (∑ k : Fin n, Ideal.exp (s k.val * ln2 - Finset.univ.sup fun j : Fin n => s j.val * ln2)) * v j.val := by
  obtain ⟨d, hd, hsum⟩ := weights_pos hs hb
  rw [sup_mul_ln2]
  simp only [exp_scaled hs hb]
  rw [← Finset.sum_range (fun k => Ideal.exp2 (s k - top s n)), hsum,
    ← Finset.sum_range (fun j => Ideal.div (Ideal.exp2 (s j - top s n)) (d : EReal) * v j), acc, acc]
  simp only [one_mul]
  rw [hsum]
  simp only [Ideal.div_coe (ne_of_gt hd)]
  rw [mul_comm, mul_sum _ _ (EReal.coe_nonneg.mpr (by positivity)) (EReal.coe_ne_top _)]
  exact Finset.sum_congr rfl fun j _ => by rw [mul_comm, mul_comm (v j), mul_right_comm]

end Cert.Proof.Online

end

end
-- ==== Proof.Attn.SeqIdeal.lean ====
/- The attention's running maxima and sums as those of one growing set of keys: what the output's block holds, over the
   extended reals, as the quotient of two sums over all keys. -/
module

public import proofs.«01_k».proof.Proof.Attn.EndIdeal
public import proofs.«01_k».proof.Proof.Attn.PayIdeal
public import proofs.«01_k».proof.Proof.Attn.Online

@[expose] public section

set_option maxRecDepth 16384

noncomputable section

namespace Cert.Proof.KernelIdeal

open Cert.KernelIdeal Cert.KernelIdeal.Gen Cert.Proof.Online
open Idealize.ShloMosaic Idealize.ShloMosaic.TcCoe

/-- The element at natural coordinates, nothing outside. -/
def get {s : Shape} (B : s.Idx → EReal) (o : Fin s.rank → ℕ) : EReal :=
  if h : ∀ a, o a < s.size a then B (fun a => ⟨o a, h a⟩) else 0

theorem get_eq {s : Shape} (B : s.Idx → EReal) (x : s.Idx) (o : Fin s.rank → ℕ) (h : ∀ a, (x a).val = o a) : B x = get B o := by
  obtain rfl : (fun a => (x a).val) = o := funext h
  rw [get, dif_pos fun a => (x a).isLt]

theorem get_finite {s : Shape} (B : s.Idx → EReal) (hB : ∀ x, B x ≠ ⊥ ∧ B x ≠ ⊤) (o : Fin s.rank → ℕ) : get B o ≠ ⊥ ∧ get B o ≠ ⊤ := by
  unfold get
  split
  · exact hB _
  · exact ⟨EReal.zero_ne_bot, EReal.zero_ne_top⟩

variable (B1 : Vec Ideal S1x8x512x512 .bf16) (B2 : Vec Ideal S1x4096x512 .bf16) (B3 : Vec Ideal S1x16x256x256 .bf16)

/-- The score of query `q` against key `j`. -/
def qk (h q j : ℕ) : EReal :=
  ∑ d : Fin 128, get (s := S1x4096x512) B2 ![0, j, 128 * h + d.val] * get (s := S1x8x512x512) B1 ![0, q / 512, 128 * h + d.val, q % 512]

/-- The score, of the keys in the query's chunk and before only. -/
def sc (h q j : ℕ) : EReal := if j / 64 ≤ q / 64 then qk B1 B2 h q j else ⊥

/-- The value of key `j` in column `e`; ones from column 64 on. -/
def vv (h e j : ℕ) : EReal := if e < 64 then get (s := S1x16x256x256) B3 ![0, j / 256, 64 * h + e, j % 256] else 1

theorem qRow_apply (t : ℕ) (ht : t < 8) (h : Fin 4) (d : Fin 128) (r : Fin 512) :
    qRow (F := Ideal) B1 t h (ix4 0 0 d r) = get (s := S1x8x512x512) B1 ![0, (512 * t + r.val) / 512, 128 * h.val + d.val, (512 * t + r.val) % 512] :=
  get_eq (s := S1x8x512x512) B1 _ _ fun a => by
    fin_cases a
    · rfl
    · show min t 7 + 1 * 0 = (512 * t + r.val) / 512; omega
    · show 128 * h.val + 1 * d.val = _; simp
    · show 0 + 1 * r.val = (512 * t + r.val) % 512; omega

theorem qHalf_apply (t : ℕ) (ht : t < 8) (h : Fin 4) (d : Fin 128) (r : Fin 256) :
    qHalf (F := Ideal) B1 t h (ix4 0 0 d r) = get (s := S1x8x512x512) B1 ![0, (512 * t + (256 + r.val)) / 512, 128 * h.val + d.val, (512 * t + (256 + r.val)) % 512] :=
  get_eq (s := S1x8x512x512) B1 _ _ fun a => by
    fin_cases a
    · rfl
    · show min t 7 + 1 * 0 = (512 * t + (256 + r.val)) / 512; omega
    · show 128 * h.val + 1 * d.val = _; simp
    · show 256 + 1 * r.val = (512 * t + (256 + r.val)) % 512; omega

theorem kRow_apply (n : ℕ) (hn : n < 16) (h : Fin 4) (i : Fin 256) (d : Fin 128) :
    kRow (F := Ideal) B2 n h (ix3 0 i d) = get (s := S1x4096x512) B2 ![0, 256 * n + i.val, 128 * h.val + d.val] :=
  get_eq (s := S1x4096x512) B2 _ _ fun a => by
    fin_cases a
    · rfl
    · show 256 * min n 15 + 1 * i.val = 256 * n + i.val; omega
    · show 128 * h.val + 1 * d.val = _; simp

theorem col_apply (n : ℕ) (hn : n < 16) (h : Fin 4) (e : Fin 80) (i : Fin 256) :
    col (vRow (F := Ideal) B3 n h) e i = vv B3 h.val e.val (256 * n + i.val) := by
  unfold col vv
  split
  · exact get_eq (s := S1x16x256x256) B3 _ _ fun a => by
      fin_cases a
      · rfl
      · show min n 15 + 1 * 0 = (256 * n + i.val) / 256; omega
      · show 64 * h.val + 1 * e.val = _; simp
      · show 0 + 1 * i.val = (256 * n + i.val) % 256; omega
  · rfl

theorem SV_apply (t n : ℕ) (ht : t < 8) (hn : n < 16) (h : Fin 4) (i : Fin 256) (r : Fin 512) :
    SV (F := Ideal) B1 B2 t h n (ix4 0 0 i r) = qk B1 B2 h.val (512 * t + r.val) (256 * n + i.val) := by
  rw [SV, pay4_apply]
  exact Finset.sum_congr rfl fun d _ => congrArg₂ (· * ·) (kRow_apply B2 n hn h i d) (qRow_apply B1 t ht h d r)

theorem SH_apply (t : ℕ) (ht : t < 8) (h : Fin 4) (i : Fin 256) (r : Fin 256) :
    SH (F := Ideal) B1 B2 t h (ix4 0 0 i r) = qk B1 B2 h.val (512 * t + (256 + r.val)) (256 * (2 * t + 1) + i.val) := by
  rw [SH, pay106_apply]
  exact Finset.sum_congr rfl fun d _ => congrArg₂ (· * ·) (kRow_apply B2 _ (by omega) h i d) (qHalf_apply B1 t ht h d r)

/-! ## One block more -/

theorem upto_top (s : ℕ → EReal) (n : ℕ) : upto (top s n) (fun i => s (n + i.val)) = top s (n + 256) := (top_step s n 256).symm

theorem plus_acc (s v : ℕ → EReal) (hs : ∀ j, s j ≠ ⊤) (n : ℕ) (hb : top s (n + 256) ≠ ⊥) :
    plus (top s n) (fun i => s (n + i.val)) (fun i => v (n + i.val)) (acc s v n) = acc s v (n + 256) := by
  rw [acc_step hs v n 256 hb, plus, upto_top]

variable (hB1 : ∀ x, B1 x ≠ (⊥ : EReal) ∧ B1 x ≠ (⊤ : EReal)) (hB2 : ∀ x, B2 x ≠ (⊥ : EReal) ∧ B2 x ≠ (⊤ : EReal))

include hB1 hB2

theorem qk_finite (h q j : ℕ) : qk B1 B2 h q j ≠ ⊥ ∧ qk B1 B2 h q j ≠ ⊤ := by
  have key : ∀ d : Fin 128, ∃ x : ℝ, get (s := S1x4096x512) B2 ![0, j, 128 * h + d.val] * get (s := S1x8x512x512) B1 ![0, q / 512, 128 * h + d.val, q % 512] = (x : EReal) := fun d => by
    have a := get_finite (s := S1x4096x512) B2 hB2 ![0, j, 128 * h + d.val]
    have b := get_finite (s := S1x8x512x512) B1 hB1 ![0, q / 512, 128 * h + d.val, q % 512]
    lift get (s := S1x4096x512) B2 ![0, j, 128 * h + d.val] to ℝ using ⟨a.2, a.1⟩ with x
    lift get (s := S1x8x512x512) B1 ![0, q / 512, 128 * h + d.val, q % 512] to ℝ using ⟨b.2, b.1⟩ with y
    exact ⟨x * y, (EReal.coe_mul x y).symm⟩
  choose f hf using key
  unfold qk
  rw [Finset.sum_congr rfl fun d _ => hf d]
  have e : ∑ d : Fin 128, ((f d : ℝ) : EReal) = ((∑ d, f d : ℝ) : EReal) := by
    induction (Finset.univ : Finset (Fin 128)) using Finset.induction_on with
    | empty => simp
    | insert a t ha ih => rw [Finset.sum_insert ha, Finset.sum_insert ha, EReal.coe_add, ih]
  rw [e]
  exact ⟨EReal.coe_ne_bot _, EReal.coe_ne_top _⟩

theorem sc_ne_top (h q j : ℕ) : sc B1 B2 h q j ≠ ⊤ := by
  unfold sc
  split
  · exact (qk_finite B1 B2 hB1 hB2 h q j).2
  · exact bot_ne_top

theorem top_ne_bot (h q n : ℕ) (hn : 0 < n) : top (sc B1 B2 h q) n ≠ ⊥ := fun e => by
  have l : sc B1 B2 h q 0 ≤ top (sc B1 B2 h q) n := Finset.le_sup (f := sc B1 B2 h q) (Finset.mem_range.2 hn)
  rw [e, le_bot_iff, sc, if_pos (by simp)] at l
  exact (qk_finite B1 B2 hB1 hB2 h q 0).1 l

omit hB1 hB2 in
theorem SV_sc (t n : ℕ) (ht : t < 8) (hn : n < 2 * t) (h : Fin 4) (r : Fin 512) :
    (fun i : Fin 256 => SV (F := Ideal) B1 B2 t h n (ix4 0 0 i r)) = fun i => sc B1 B2 h.val (512 * t + r.val) (256 * n + i.val) := funext fun i => by
  rw [SV_apply B1 B2 t n ht (by omega), sc, if_pos (by omega)]

omit hB1 hB2 in
theorem SA_sc (t : ℕ) (ht : t < 8) (h : Fin 4) (r : Fin 512) :
    (fun i : Fin 256 => Scalar.select (maskA (ix2 i r)) (SV (F := Ideal) B1 B2 t h (2 * t) (ix4 0 0 i r)) (⊥ : EReal))
      = fun i => sc B1 B2 h.val (512 * t + r.val) (256 * (2 * t) + i.val) := funext fun i => by
  rw [SV_apply B1 B2 t _ ht (by omega), sc, maskA, maskA_apply]
  by_cases hc : i.val / 64 ≤ r.val / 64
  · rw [if_pos hc, if_pos (by omega)]; rfl
  · rw [if_neg hc, if_neg (by omega)]; rfl

omit hB1 hB2 in
theorem SB_sc (t : ℕ) (ht : t < 8) (h : Fin 4) (r : Fin 256) :
    (fun i : Fin 256 => Scalar.select (maskB (ix2 i ⟨256 + r.val, by omega⟩)) (SH (F := Ideal) B1 B2 t h (ix4 0 0 i r)) (⊥ : EReal))
      = fun i => sc B1 B2 h.val (512 * t + (256 + r.val)) (256 * (2 * t + 1) + i.val) := funext fun i => by
  rw [SH_apply B1 B2 t ht, sc, maskB, maskB_apply]
  by_cases hc : i.val / 64 + 4 ≤ (256 + r.val) / 64
  · rw [if_pos hc, if_pos (by omega)]; rfl
  · rw [if_neg hc, if_neg (by omega)]; rfl

omit hB1 hB2 in
theorem MV_apply (t : ℕ) (ht : t < 8) (h : Fin 4) (r : Fin 512) : ∀ n ≤ 2 * t,
    MV (F := Ideal) B1 B2 t h n (ix3 0 0 r) = top (sc B1 B2 h.val (512 * t + r.val)) (256 * n)
  | 0, _ => by
    show Ideal.ofBits FTy.f32 0xFF800000#32 = _
    rw [negInf, Nat.mul_zero, top_zero]
  | n + 1, hn => by
    rw [MV, pay14_apply, MV_apply t ht h r n (by omega), SV_sc B1 B2 t n ht hn, upto_top, Nat.mul_succ]

theorem AV_apply (t : ℕ) (ht : t < 8) (h : Fin 4) (e : Fin 80) (r : Fin 512) : ∀ n ≤ 2 * t,
    AV (F := Ideal) B1 B2 B3 t h n (ix3 0 e r) = acc (sc B1 B2 h.val (512 * t + r.val)) (vv B3 h.val e.val) (256 * n)
  | 0, _ => by
    show Ideal.ofBits FTy.f32 0#32 = _
    rw [Nat.mul_zero, acc_zero]
    simp [Ideal.ofBits, Ideal.ieee]
  | n + 1, hn => by
    rw [AV, onesR, pay13_apply, AV_apply t ht h e r n (by omega), SV_sc B1 B2 t n ht hn, MV_apply B1 B2 t ht h r n (by omega),
      show col (vRow (F := Ideal) B3 n h) e = _ from funext (col_apply B3 n (by omega) h e)]
    exact plus_acc _ _ (sc_ne_top B1 B2 hB1 hB2 _ _) _ (top_ne_bot B1 B2 hB1 hB2 _ _ _ (by omega))

omit hB1 hB2 in
theorem DM_apply (t : ℕ) (ht : t < 8) (h : Fin 4) (r : Fin 512) :
    DM (F := Ideal) B1 B2 t h (ix3 0 0 r) = top (sc B1 B2 h.val (512 * t + r.val)) (256 * (2 * t + 1)) := by
  rw [DM, pay110_apply, SA_sc B1 B2 t ht, MV_apply B1 B2 t ht h r _ le_rfl, upto_top, Nat.mul_succ 256 (2 * t)]

theorem DA_apply (t : ℕ) (ht : t < 8) (h : Fin 4) (e : Fin 80) (r : Fin 512) :
    DA (F := Ideal) B1 B2 B3 t h (ix3 0 e r) = acc (sc B1 B2 h.val (512 * t + r.val)) (vv B3 h.val e.val) (256 * (2 * t + 1)) := by
  rw [DA, onesR, pay109_apply, SA_sc B1 B2 t ht, MV_apply B1 B2 t ht h r _ le_rfl, AV_apply B1 B2 B3 hB1 hB2 t ht h e r _ le_rfl,
      show col (vRow (F := Ideal) B3 (2 * t) h) e = _ from funext (col_apply B3 _ (by omega) h e)]
  exact plus_acc _ _ (sc_ne_top B1 B2 hB1 hB2 _ _) _ (top_ne_bot B1 B2 hB1 hB2 _ _ _ (by omega))

omit hB1 hB2 in
theorem halfM_apply (m : FVec Ideal S1x1x512 .f32) (r : Fin 256) : halfM (F := Ideal) m (ix3 0 0 r) = m (ix3 0 0 ⟨256 + r.val, by omega⟩) :=
  congrArg m (funext fun a => Fin.ext (by fin_cases a <;> first | rfl | (show 256 + 1 * r.val = 256 + r.val; omega)))

omit hB1 hB2 in
theorem halfA_apply (a : FVec Ideal S1x80x512 .f32) (e : Fin 80) (r : Fin 256) : halfA (F := Ideal) a (ix3 0 e r) = a (ix3 0 e ⟨256 + r.val, by omega⟩) :=
  congrArg a (funext fun a => Fin.ext (by fin_cases a <;> first | rfl | (show 0 + 1 * e.val = e.val; omega) | (show 256 + 1 * r.val = 256 + r.val; omega)))

theorem UA_apply (t : ℕ) (ht : t < 8) (h : Fin 4) (e : Fin 80) (r : Fin 256) :
    UA (F := Ideal) B1 B2 B3 t h (ix3 0 e r) = acc (sc B1 B2 h.val (512 * t + (256 + r.val))) (vv B3 h.val e.val) (256 * (2 * t + 2)) := by
  rw [UA, onesR, pay133_apply, SB_sc B1 B2 t ht, halfM_apply, halfA_apply, DM_apply B1 B2 t ht, DA_apply B1 B2 B3 hB1 hB2 t ht,
      show col (vRow (F := Ideal) B3 (2 * t + 1) h) e = _ from funext (col_apply B3 _ (by omega) h e)]
  exact plus_acc _ _ (sc_ne_top B1 B2 hB1 hB2 _ _) _ (top_ne_bot B1 B2 hB1 hB2 _ _ _ (by omega))

theorem FA_apply (t : ℕ) (ht : t < 8) (h : Fin 4) (e : Fin 80) (r : Fin 512) :
    FA (F := Ideal) B1 B2 B3 t h (ix3 0 e r) = acc (sc B1 B2 h.val (512 * t + r.val)) (vv B3 h.val e.val) 4096 := by
  unfold FA
  by_cases hr : r.val < 256
  · refine (dif_pos hr).trans ?_
    refine Eq.trans ?_ ((DA_apply B1 B2 B3 hB1 hB2 t ht h e r).trans (acc_masked _ (by omega) fun j hj _ => ?_).symm)
    · exact congrArg (DA (F := Ideal) B1 B2 B3 t h) (funext fun a => Fin.ext (by fin_cases a <;> first | rfl | (show 0 + 1 * e.val = e.val; omega) | (show 0 + 1 * r.val = r.val; omega)))
    · rw [sc, if_neg (by omega)]
  · refine (dif_neg hr).trans ?_
    refine Eq.trans ?_ ((UA_apply B1 B2 B3 hB1 hB2 t ht h e ⟨r.val - 256, by omega⟩).trans ?_)
    · exact congrArg _ (funext fun a => Fin.ext (by fin_cases a <;> rfl))
    · rw [show 256 + (r.val - 256) = r.val by omega]
      refine (acc_masked _ (by omega) fun j hj _ => ?_).symm
      rw [sc, if_neg (by omega)]

theorem outTile_apply (t : ℕ) (ht : t < 8) (h : Fin 4) (e : Fin 64) (r : Fin 512) :
    outTile (F := Ideal) B1 B2 B3 t (ix3 0 r ⟨64 * h.val + e.val, by omega⟩)
      = Ideal.div (acc (sc B1 B2 h.val (512 * t + r.val)) (vv B3 h.val e.val) 4096) (acc (sc B1 B2 h.val (512 * t + r.val)) (fun _ => 1) 4096) := by
  rw [outTile, pay3_apply]
  refine congrArg₂ Ideal.div ((Eq.trans ?_ (FA_apply B1 B2 B3 hB1 hB2 t ht h ⟨e.val, by omega⟩ r))) (Eq.trans ?_ (FA_apply B1 B2 B3 hB1 hB2 t ht h 64 r))
  · have k : ∀ g : Fin 4, topA (FA (F := Ideal) B1 B2 B3 t g) (ix3 0 e r) = FA (F := Ideal) B1 B2 B3 t g (ix3 0 ⟨e.val, by omega⟩ r) := fun g =>
      congrArg (FA (F := Ideal) B1 B2 B3 t g) (funext fun a => Fin.ext (by fin_cases a <;> first | rfl | (show 0 + 1 * e.val = e.val; omega) | (show 0 + 1 * r.val = r.val; omega)))
    fin_cases h <;> exact k _
  · have k : ∀ g : Fin 4, botA (FA (F := Ideal) B1 B2 B3 t g) (ix3 0 0 r) = FA (F := Ideal) B1 B2 B3 t g (ix3 0 64 r) := fun g =>
      congrArg (FA (F := Ideal) B1 B2 B3 t g) (funext fun a => Fin.ext (by fin_cases a <;> first | rfl | (show 0 + 1 * r.val = r.val; omega)))
    fin_cases h <;> exact k _

/-- The output's block: of query `q`, head `h` and column `e`, the softmax's weighted mean of the values. -/
theorem outBlock_apply (q : Fin 4096) (h : Fin 4) (e : Fin 64) :
    outBlock (F := Ideal) B1 B2 B3 (ix3 0 q ⟨64 * h.val + e.val, by omega⟩)
      = ∑ j : Fin 4096, Ideal.div (Ideal.exp (sc B1 B2 h.val q.val j.val * ln2 - Finset.univ.sup fun i : Fin 4096 => sc B1 B2 h.val q.val i.val * ln2))
          (∑ k : Fin 4096, Ideal.exp (sc B1 B2 h.val q.val k.val * ln2 - Finset.univ.sup fun i : Fin 4096 => sc B1 B2 h.val q.val i.val * ln2))
        * get (s := S1x16x256x256) B3 ![0, j.val / 256, 64 * h.val + e.val, j.val % 256] := by
  rw [outBlock]
  refine Eq.trans (congrArg _ (show _ = ix3 0 ⟨q.val % 512, by omega⟩ ⟨64 * h.val + e.val, by omega⟩ from funext fun a => Fin.ext (by fin_cases a <;> rfl))) ?_
  refine (outTile_apply B1 B2 B3 hB1 hB2 (q.val / 512) (by omega) h e ⟨q.val % 512, by omega⟩).trans ?_
  rw [show 512 * (q.val / 512) + q.val % 512 = q.val by omega, acc_div (sc_ne_top B1 B2 hB1 hB2 _ _) _ (top_ne_bot B1 B2 hB1 hB2 _ _ _ (by omega))]
  refine Finset.sum_congr rfl fun j _ => ?_
  rw [vv, if_pos e.isLt]

end Cert.Proof.KernelIdeal

end

end
-- ==== Proof.Attn.RefIdeal.lean ====
/- The attention's reference read at an index, over the extended reals. -/
module

public import proofs.«01_k».proof.Proof.Gen.ReferenceIdeal.Run
public import Idealize.ShloMosaic.Lib.Pointwise

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe

/-- Each position's chunk, as the reference computes it. -/
def refChunks : IVec S4096 32 :=
  (select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32)))))
/-- The keys a query sees. -/
def refMask : IVec S4096x4096 1 :=
  (cmpi .sle (broadcastInDim S4096x4096 ![0, 1] bcast_S1x4096_S4096x4096_0_1 (broadcastInDim S1x4096 ![1] bcast_S4096_S1x4096_1 refChunks)) (broadcastInDim S4096x4096 ![0, 1] bcast_S4096x1_S4096x4096_0_1 (broadcastInDim S4096x1 ![0] bcast_S4096_S4096x1_0 refChunks)))

variable (A0 : FVec Ideal S4x8x512x512 .bf16) (A1 : FVec Ideal S4x4096x512 .bf16) (A2 : FVec Ideal S4x16x256x256 .bf16)

/-- The masked scores, scaled. -/
def refScores : FVec Ideal S4x4x4096x4096 .f32 :=
  (mulf (select (broadcastInDim S4x4x4096x4096 ![2, 3] bcast_S4096x4096_S4x4x4096x4096_2_3 refMask) (Host.dotGeneral dot_S4x4096x4x128_S4x4096x4x128_S4x4x4096x4096_3_3_1_1_02_02 none (shapeCast _ (transpose S4x8x512x512 [0, 1, 3, 2] (extf .f32 A0 bitsLt_bf16_f32) transposes_S4x8x512x512_S4x8x512x512_0_1_3_2) shapeCasts_S4x8x512x512_S4x4096x4x128) (shapeCast _ (extf .f32 A1 bitsLt_bf16_f32) shapeCasts_S4x4096x512_S4x4096x4x128)) (broadcastInDim S4x4x4096x4096 ![] bcast_S_S4x4x4096x4096 (id (constant S_ .f32 0xFF800000#32)))) (broadcastInDim S4x4x4096x4096 ![] bcast_S_S4x4x4096x4096 (id (Host.log (constant S_ .f32 0x40000000#32)))))
/-- Each query's largest. -/
def refMax : FVec Ideal S4x4x4096 .f32 :=
  Host.reduce FloatOps.maximumf (refScores A0 A1) (constant S_ .f32 0xFF800000#32) reducesTo_S4x4x4096x4096_S4x4x4096_d3 h_S_
/-- Their exponentials below the largest. -/
def refWeights : FVec Ideal S4x4x4096x4096 .f32 :=
  (Host.exp (subf (refScores A0 A1) (broadcastInDim S4x4x4096x4096 ![0, 1, 2, 3] bcast_S4x4x4096x1_S4x4x4096x4096_0_1_2_3 (broadcastInDim S4x4x4096x1 ![0, 1, 2] bcast_S4x4x4096_S4x4x4096x1_0_1_2 (maximumf (broadcastInDim S4x4x4096 ![] bcast_S_S4x4x4096 (constant S_ .f32 0xFF800000#32)) (refMax A0 A1))))))
/-- The whole of the reference. -/
def refOut : FVec Ideal S4x4096x256 .bf16 :=
  truncf .bf16 (shapeCast _ (transpose S4x4096x4x64 [0, 3, 1, 2] (Host.dotGeneral dot_S4x4096x4x64_S4x4x4096x4096_S4x4x64x4096_1_3_3_2_02_01 none (shapeCast _ (transpose S4x16x256x256 [0, 1, 3, 2] (extf .f32 A2 bitsLt_bf16_f32) transposes_S4x16x256x256_S4x16x256x256_0_1_3_2) shapeCasts_S4x16x256x256_S4x4096x4x64) (Host.divf (refWeights A0 A1) (broadcastInDim S4x4x4096x4096 ![0, 1, 2, 3] bcast_S4x4x4096x1_S4x4x4096x4096_0_1_2_3 (broadcastInDim S4x4x4096x1 ![0, 1, 2] bcast_S4x4x4096_S4x4x4096x1_0_1_2 (Host.reduceAdd (refWeights A0 A1) (constant S_ .f32 0x00000000#32) reducesTo_S4x4x4096x4096_S4x4x4096_d3 h_S_))))) transposes_S4x4x64x4096_S4x4096x4x64_0_3_1_2) shapeCasts_S4x4096x4x64_S4x4096x256) bitsLt_bf16_f32

theorem res_eq (m : (ℓ : Loc nD τ sig) → Buf (Elt Ideal) ℓ) (c : Dev nD) :
    res_main_v35 (F := Ideal) m c = refOut (m ((c.tc : Thread nD τ).loc main_arg0)) (m ((c.tc : Thread nD τ).loc main_arg1)) (m ((c.tc : Thread nD τ).loc main_arg2)) := rfl

/-- A fold of maxima from the bottom is the supremum. -/
theorem fold_sup {n : ℕ} (f : Fin n → EReal) : Finset.fold (FloatOps.maximumf (F := Ideal) (φ := .f32)) ⊥ f Finset.univ = Finset.univ.sup f := rfl

theorem negInf : Ideal.ofBits FTy.f32 0xFF800000#32 = ⊥ := by simp [Ideal.ofBits, Ideal.ieee]

/-- The floor of a word by 64, as the reference computes it. -/
def chunk (x : BitVec 32) : BitVec 32 :=
  Scalar.select
    (IntOp.andi
      (IntOp.cmpi CmpIPredicate.ne (if x = 0 then (0 : BitVec 32) else if x.msb = true then -1 else 1)
        (if (64#32 : BitVec 32) = 0 then (0 : BitVec 32) else if (64#32 : BitVec 32).msb = true then -1 else 1))
      (IntOp.cmpi CmpIPredicate.ne (IntOp.remsi ArithUnit.host x 64#32) 0#32))
    (IntOp.subi (IntOp.divsi ArithUnit.host x 64#32) 1#32)
    (IntOp.divsi ArithUnit.host x 64#32)

theorem chunk_eq : ∀ i : Fin 4096, chunk (BitVec.ofNat 32 i.val) = BitVec.ofNat 32 (i.val / 64) := by decide +kernel

theorem sle_eq : ∀ a b : Fin 64, IntOp.cmpi .sle (BitVec.ofNat 32 a.val) (BitVec.ofNat 32 b.val)
    = if a.val ≤ b.val then 1#1 else 0#1 := by decide +kernel

theorem refChunks_apply (i : Fin 4096) : refChunks (ix1 i) = BitVec.ofNat 32 (i.val / 64) := by
  rw [← chunk_eq i]
  pointwise [refChunks]
  rfl

theorem refMask_apply (q j : Fin 4096) : refMask (ix2 q j) = if j.val / 64 ≤ q.val / 64 then 1#1 else 0#1 := by
  pointwise [refMask]
  rw [refChunks_apply, refChunks_apply]
  exact sle_eq ⟨j.val / 64, by omega⟩ ⟨q.val / 64, by omega⟩

theorem refScores_apply (b h : Fin 4) (q j : Fin 4096) :
    refScores A0 A1 (ix4 b h q j) = (if j.val / 64 ≤ q.val / 64 then
      ∑ d : Fin 128, A0 (ix4 b ⟨q.val / 512, by omega⟩ ⟨h.val * 128 + d.val, by omega⟩ ⟨q.val % 512, by omega⟩)
        * A1 (ix3 b j ⟨h.val * 128 + d.val, by omega⟩) else ⊥) * ((Real.log 2 : ℝ) : EReal) := by
  pointwise [refScores]
  rw [refMask_apply]
  have hl : id (Host.log (F := Ideal) (constant S_ FTy.f32 0x40000000#32)) ix0 = ((Real.log 2 : ℝ) : EReal) := by
    show Ideal.log (Ideal.ofBits FTy.f32 0x40000000#32) = _
    rw [show Ideal.ofBits FTy.f32 0x40000000#32 = ((2 : ℝ) : EReal) by simp [Ideal.ofBits, Ideal.ieee, -EReal.coe_mul]; norm_num, Ideal.log_coe]
    simp
  refine congrArg₂ (fun x y : EReal => x * y) ?_ hl
  by_cases hc : j.val / 64 ≤ q.val / 64
  · rw [if_pos hc, if_pos hc]; rfl
  · rw [if_neg hc, if_neg hc]; exact negInf

theorem reduce_max {s t : Shape} {a : Fin s.rank} (x : FVec Ideal s .f32) (h' : s.ReducesTo [a] t) (h : s.Reduces [a] t) (j : t.Idx) :
    Host.reduce (FloatOps.maximumf (F := Ideal) (φ := .f32)) x (constant (F := Ideal) S_ .f32 0xFF800000#32) h' h_S_ j
      = Finset.univ.sup fun k : Fin (s.size a) => x (h.lift j k) := by
  refine (Host.reduce_eq_fold_single FloatOps.maximumf x _ h' h h_S_ j).trans ?_
  rw [show constant (F := Ideal) S_ FTy.f32 0xFF800000#32 (Shape.Idx.first h_S_) = (⊥ : EReal) from negInf]
  exact fold_sup _

theorem redH : S4x4x4096x4096.Reduces [3] S4x4x4096 := by decide

theorem lift_eq (H : S4x4x4096x4096.Reduces [3] S4x4x4096) (b h : Fin 4) (q : Fin 4096) (k : Fin 4096) :
    H.lift (ix3 b h q) k = ix4 b h q k := funext fun a => Fin.ext (by fin_cases a <;> rfl)

theorem refMax_apply (b h : Fin 4) (q : Fin 4096) :
    refMax A0 A1 (ix3 b h q) = Finset.univ.sup fun k : Fin 4096 => refScores A0 A1 (ix4 b h q k) := by
  unfold refMax
  rw [reduce_max (refScores A0 A1) _ redH]
  refine le_antisymm (Finset.sup_le fun k _ => ?_) (Finset.sup_le fun k _ => ?_)
  · rw [lift_eq redH b h q k]
    exact Finset.le_sup (f := fun k : Fin 4096 => refScores A0 A1 (ix4 b h q k)) (Finset.mem_univ _)
  · rw [← lift_eq redH b h q k]
    exact Finset.le_sup (f := fun k : Fin (S4x4x4096x4096.size 3) => refScores A0 A1 (redH.lift (ix3 b h q) k)) (Finset.mem_univ _)

/-- A row's exponentials below a given height. -/
theorem exp_below (X : FVec Ideal S4x4x4096x4096 .f32) (Y : FVec Ideal S4x4x4096 .f32) (b h : Fin 4) (q j : Fin 4096) :
    Host.exp (subf X (broadcastInDim S4x4x4096x4096 ![0, 1, 2, 3] bcast_S4x4x4096x1_S4x4x4096x4096_0_1_2_3 (broadcastInDim S4x4x4096x1 ![0, 1, 2] bcast_S4x4x4096_S4x4x4096x1_0_1_2 (maximumf (broadcastInDim S4x4x4096 ![] bcast_S_S4x4x4096 (constant S_ .f32 0xFF800000#32)) Y)))) (ix4 b h q j)
      = Ideal.exp (X (ix4 b h q j) - Y (ix3 b h q)) := by
  pointwise []
  rw [negInf, max_eq_right bot_le]

theorem refWeights_apply (b h : Fin 4) (q j : Fin 4096) :
    refWeights A0 A1 (ix4 b h q j) = Ideal.exp (refScores A0 A1 (ix4 b h q j) - refMax A0 A1 (ix3 b h q)) :=
  exp_below (refScores A0 A1) (refMax A0 A1) b h q j

theorem refOut_apply (b h : Fin 4) (q : Fin 4096) (e : Fin 64) :
    refOut A0 A1 A2 (ix3 b q ⟨h.val * 64 + e.val, by omega⟩)
      = ∑ j : Fin 4096, A2 (ix4 b ⟨j.val / 256, by omega⟩ ⟨h.val * 64 + e.val, by omega⟩ ⟨j.val % 256, by omega⟩)
        * Ideal.div (refWeights A0 A1 (ix4 b h q j)) (∑ k : Fin 4096, refWeights A0 A1 (ix4 b h q k)) := by
  pointwise [refOut]

end Cert.Proof.ReferenceIdeal

end

end
-- ==== Proof.Attn.Value.lean ====
/- The attention's value claim: the run's output array is the reference's, element by element, over the extended reals. -/
module

public import proofs.«01_k».proof.Defs
public import proofs.«01_k».proof.Proof.Attn.RunIdeal
public import proofs.«01_k».proof.Proof.Attn.SeqIdeal
public import proofs.«01_k».proof.Proof.Attn.RefIdeal
public import proofs.«01_k».proof.Proof.Gen.Pre_finite_scores
public import Idealize.ShloMosaic.Lib.Claim
public import Idealize.ShloMosaic.Lib.Pipeline.ValueKit.Geometry

@[expose] public section

set_option maxRecDepth 16384

noncomputable section

namespace Cert.Proof.KernelIdeal

open Cert.KernelIdeal Cert.KernelIdeal.Gen
open Idealize.ShloMosaic Idealize.ShloMosaic.TcCoe

section
variable {F : FTy → Type} [FloatOps F]

/-- The body leaves `outBlock` of its inputs' blocks. -/
theorem establishes (c : Dev nD) (i : grid0.Coords) (B1 : Vec F S1x8x512x512 .bf16) (B2 : Vec F S1x4096x512 .bf16) (B3 : Vec F S1x16x256x256 .bf16) :
    Establishes (F := F) c i B1 B2 B3 (fun X => X = outBlock B1 B2 B3) := by
  intro arg1 harg1 arg2 harg2 arg3 harg3 arg4 harg4 arg5 harg5 arg6 harg6 arg7 harg7 X1 X2 X3 e1 e2 e3 f4 f5 f6 f7
  subst e1 e2 e3
  refine ⟨fun n f4 f5 _ _ => Before arg4 arg5 (arg1.view.read (Elt F) X1) (arg2.view.read (Elt F) X2) (arg3.view.read (Elt F) X3) n f4 f5,
    fun k => keeps (c := c) (i := i) (harg1 := harg1) (harg2 := harg2) (harg3 := harg3) (harg4 := harg4) (harg5 := harg5) (harg6 := harg6) (harg7 := harg7) (k := k) (X1 := X1) (X2 := X2) (X3 := X3),
    ⟨fun h => first5 (c := c) (i := i) (harg1 := harg1) (harg2 := harg2) (harg3 := harg3) (harg4 := harg4) (harg5 := harg5) (harg6 := harg6) (harg7 := harg7) (X1 := X1) (X2 := X2) (X3 := X3) (f5 := f5) (h := h), fun y hy => by simp at hy⟩, fun g4 g5 g6 g7 h => funext fun y => h.2 y (y 1).isLt⟩

theorem idx : ∀ t : Fin cfg0.N, win0_0.index t = ![(grid0.coords t 0).val, 0, 0, 0] ∧ win0_1.index t = ![(grid0.coords t 0).val, 0, 0]
    ∧ win0_2.index t = ![(grid0.coords t 0).val, 0, 0, 0] ∧ win0_3.index t = ![(grid0.coords t 0).val, 0, 0] ∧ (grid0.coords t 0).val < 4 :=
  (by decide +kernel : ∀ t : Fin grid0.N, _)

variable (m : (ℓ : Loc nD τ sig) → Buf (Elt F) ℓ)

/-- The batch element of a grid point. -/
def batch (t : Fin cfg0.N) : Fin 4 := ⟨(grid0.coords t 0).val, (idx t).2.2.2.2⟩

theorem iblk0 (c : Dev nD) (t : Fin cfg0.N) (x : S1x8x512x512.Idx) :
    iblk m c 0 t x = m ((c.tc : Thread nD τ).loc main_arg0) (ix4 (batch t) (x 1) (x 2) (x 3)) := by
  have h0 := (x 0).isLt
  blk_ext [iblk, V, (idx t).1, batch]
theorem iblk1 (c : Dev nD) (t : Fin cfg0.N) (x : S1x4096x512.Idx) :
    iblk m c 1 t x = m ((c.tc : Thread nD τ).loc main_arg1) (ix3 (batch t) (x 1) (x 2)) := by
  blk_ext [iblk, V, (idx t).2.1, batch]
theorem iblk2 (c : Dev nD) (t : Fin cfg0.N) (x : S1x16x256x256.Idx) :
    iblk m c 2 t x = m ((c.tc : Thread nD τ).loc main_arg2) (ix4 (batch t) (x 1) (x 2) (x 3)) := by
  blk_ext [iblk, V, (idx t).2.2.1, batch]
end

/-- The precondition's comparison at one element. -/
theorem finite_of {x : EReal} (h : Ideal.cmp .olt (max x (-x)) (FloatOps.ofBits (F := Ideal) .bf16 0x7F80#16) = 1#1) : x ≠ ⊥ ∧ x ≠ ⊤ := by
  have e : FloatOps.ofBits (F := Ideal) .bf16 0x7F80#16 = (⊤ : EReal) := by simp [FloatOps.ofBits, Ideal.ofBits, Ideal.ieee]
  rw [e] at h
  constructor
  · rintro rfl; revert h; simp [Ideal.cmp]
  · rintro rfl; revert h; simp [Ideal.cmp]

/-- The queries and keys are finite. -/
theorem finite_args (m : (ℓ : Loc nD τ sig) → Buf (Elt Ideal) ℓ) (h : Cert.Pre_KernelIdeal_finite_scores m) (c : Dev nD) :
    (∀ x : S4x8x512x512.Idx, (show EReal from m ((c.tc : Thread nD τ).loc main_arg0) x) ≠ ⊥ ∧ (show EReal from m ((c.tc : Thread nD τ).loc main_arg0) x) ≠ ⊤)
    ∧ (∀ x : S4x4096x512.Idx, (show EReal from m ((c.tc : Thread nD τ).loc main_arg1) x) ≠ ⊥ ∧ (show EReal from m ((c.tc : Thread nD τ).loc main_arg1) x) ≠ ⊤) :=
  ⟨fun x => finite_of (congrFun (h c).1 x), fun x => finite_of (congrFun (h c).2 x)⟩

end Cert.Proof.KernelIdeal

namespace Cert.Proof.Attn

open Cert.KernelIdeal Cert.KernelIdeal.Gen Cert.Proof.Online Cert.Proof.KernelIdeal Cert.Proof.ReferenceIdeal
open Idealize.ShloMosaic Idealize.ShloMosaic.TcCoe Idealize.SL.Sem
open Idealize.ShloMosaic.Pipeline (Dat RDat)

section
variable (A0 : FVec Ideal S4x8x512x512 .bf16) (A1 : FVec Ideal S4x4096x512 .bf16) (A2 : FVec Ideal S4x16x256x256 .bf16)
  (B1 : Vec Ideal S1x8x512x512 .bf16) (B2 : Vec Ideal S1x4096x512 .bf16) (B3 : Vec Ideal S1x16x256x256 .bf16) (b : Fin 4)

/-- A score of the kernel is the reference's. -/
theorem score_eq (e1 : ∀ x, B1 x = A0 (ix4 b (x 1) (x 2) (x 3))) (e2 : ∀ x, B2 x = A1 (ix3 b (x 1) (x 2)))
    (h : Fin 4) (q j : Fin 4096) : sc B1 B2 h.val q.val j.val * ln2 = refScores A0 A1 (ix4 b h q j) := by
  rw [refScores_apply]
  refine congrArg (· * ln2) ?_
  unfold sc qk
  refine if_congr Iff.rfl (Finset.sum_congr rfl fun d _ => ?_) rfl
  rw [mul_comm]
  refine congrArg₂ (· * ·) ?_ ?_
  · rw [← get_eq (s := S1x8x512x512) B1 (ix4 0 ⟨q.val / 512, by omega⟩ ⟨128 * h.val + d.val, by omega⟩ ⟨q.val % 512, by omega⟩) _ (by
      intro a; fin_cases a <;> rfl), e1]
    refine congrArg A0 (funext fun a => ?_)
    fin_cases a <;> first | rfl | exact Fin.ext (show 128 * h.val + d.val = h.val * 128 + d.val by omega)
  · rw [← get_eq (s := S1x4096x512) B2 (ix3 0 j ⟨128 * h.val + d.val, by omega⟩) _ (by
      intro a; fin_cases a <;> rfl), e2]
    refine congrArg A1 (funext fun a => ?_)
    fin_cases a <;> first | rfl | exact Fin.ext (show 128 * h.val + d.val = h.val * 128 + d.val by omega)

/-- A value of the kernel is the reference's. -/
theorem value_eq (e3 : ∀ x, B3 x = A2 (ix4 b (x 1) (x 2) (x 3))) (h : Fin 4) (e : Fin 64) (j : Fin 4096) :
    get (s := S1x16x256x256) B3 ![0, j.val / 256, 64 * h.val + e.val, j.val % 256] = A2 (ix4 b ⟨j.val / 256, by omega⟩ ⟨h.val * 64 + e.val, by omega⟩ ⟨j.val % 256, by omega⟩) := by
  rw [← get_eq (s := S1x16x256x256) B3 (ix4 0 ⟨j.val / 256, by omega⟩ ⟨64 * h.val + e.val, by omega⟩ ⟨j.val % 256, by omega⟩) _ (by
      intro a; fin_cases a <;> rfl), e3]
  refine congrArg A2 (funext fun a => ?_)
  fin_cases a <;> first | rfl | exact Fin.ext (show 64 * h.val + e.val = h.val * 64 + e.val by omega)

/-- The output's block is the reference's output of its batch element. -/
theorem block_eq (hB1 : ∀ x, B1 x ≠ ⊥ ∧ B1 x ≠ ⊤) (hB2 : ∀ x, B2 x ≠ ⊥ ∧ B2 x ≠ ⊤)
    (e1 : ∀ x, B1 x = A0 (ix4 b (x 1) (x 2) (x 3))) (e2 : ∀ x, B2 x = A1 (ix3 b (x 1) (x 2))) (e3 : ∀ x, B3 x = A2 (ix4 b (x 1) (x 2) (x 3)))
    (q : Fin 4096) (h : Fin 4) (e : Fin 64) :
    outBlock (F := Ideal) B1 B2 B3 (ix3 0 q ⟨64 * h.val + e.val, by omega⟩) = refOut A0 A1 A2 (ix3 b q ⟨h.val * 64 + e.val, by omega⟩) := by
  rw [outBlock_apply B1 B2 B3 hB1 hB2 q h e, refOut_apply]
  have hw : ∀ j : Fin 4096, Ideal.exp (sc B1 B2 h.val q.val j.val * ln2 - Finset.univ.sup fun i : Fin 4096 => sc B1 B2 h.val q.val i.val * ln2)
      = refWeights A0 A1 (ix4 b h q j) := fun j => by
    rw [refWeights_apply, refMax_apply, score_eq A0 A1 B1 B2 b e1 e2,
      show (fun i : Fin 4096 => sc B1 B2 h.val q.val i.val * ln2) = fun i => refScores A0 A1 (ix4 b h q i) from funext fun i => score_eq A0 A1 B1 B2 b e1 e2 h q i]
  refine Finset.sum_congr rfl fun j _ => ?_
  rw [hw j, value_eq A2 B3 b e3, Finset.sum_congr rfl fun k _ => hw k, mul_comm]

end

/-- The reference's output of the kernel's arguments on core `c`. -/
abbrev goal (m : (ℓ : Loc nD τ sig) → Buf (Elt Ideal) ℓ) (c : Dev nD) : FVec Ideal S4x4096x256 .bf16 :=
  refOut (m ((c.tc : Thread nD τ).loc main_arg0)) (m ((c.tc : Thread nD τ).loc main_arg1)) (m ((c.tc : Thread nD τ).loc main_arg2))

variable (m : (ℓ : Loc nD τ sig) → Buf (Elt Ideal) ℓ)

/-- A grid point's block of the output, at a place of the block. -/
theorem point (hpre : Cert.Pre_KernelIdeal_finite_scores m) (c : Dev nD) (t : Fin cfg0.N) (y : S1x4096x256.Idx) :
    outBlock (F := Ideal) (iblk m c 0 t) (iblk m c 1 t) (iblk m c 2 t) y = goal m c (ix3 (batch t) (y 1) (y 2)) := by
  have h0 : (y 0).val < 1 := (y 0).isLt
  have h2 : (y 2).val < 256 := (y 2).isLt
  have e := block_eq (m ((c.tc : Thread nD τ).loc main_arg0)) (m ((c.tc : Thread nD τ).loc main_arg1)) (m ((c.tc : Thread nD τ).loc main_arg2))
    (iblk m c 0 t) (iblk m c 1 t) (iblk m c 2 t) (batch t)
    (fun x => by rw [iblk0]; exact (finite_args m hpre c).1 _) (fun x => by rw [iblk1]; exact (finite_args m hpre c).2 _)
    (iblk0 m c t) (iblk1 m c t) (iblk2 m c t) (y 1) ⟨(y 2).val / 64, by omega⟩ ⟨(y 2).val % 64, by omega⟩
  refine (congrArg _ (funext fun a => ?_)).trans (e.trans (congrArg _ (funext fun a => ?_)))
  · fin_cases a
    · exact Fin.ext (show (y 0).val = 0 by omega)
    · rfl
    · exact Fin.ext (show (y 2).val = 64 * ((y 2).val / 64) + (y 2).val % 64 by omega)
  · fin_cases a
    · rfl
    · rfl
    · exact Fin.ext (show (y 2).val / 64 * 64 + (y 2).val % 64 = (y 2).val by omega)

/-- What every grid point's output block holds. -/
abbrev leaves (c : Dev nD) (t : Fin cfg0.N) (X : S1x4096x256.Idx → Elt Ideal .bf16) : Prop :=
  X = outBlock (F := Ideal) (iblk m c 0 t) (iblk m c 1 t) (iblk m c 2 t)

/-- The output array after the run. -/
theorem final (hpre : Cert.Pre_KernelIdeal_finite_scores m) (c : Dev nD)
    (after : (w' : Fin cfg0.W) → Fin cfg0.N → (cfg0.win w').block.Idx → Elt Ideal (cfg0.win w').elt)
    (h : ∀ t, leaves m c t (after 3 t)) : ((rdat m (leaves m) c).withAfter after).arrAt 3 cfg0.N = goal m c := by
  refine ((rdat m (leaves m) c).withAfter after).arrAt_eq_of_covers 3 _ (by decide +kernel) fun t _ y => ?_
  blk_simp
  rw [RDat.withAfter_after, h t]
  refine (point m hpre c t y).trans (congrArg (goal m c) ?_)
  blk_ext [(idx t).2.2.2.1, batch]

/-- The run, with the output the reference's of the same arguments. -/
theorem run (hpre : Cert.Pre_KernelIdeal_finite_scores m) (ρ : Dev nD → PrngReg) :
    θ_run defs (onTc (τ := τ) (main (F := Ideal))) ⟨m, fun _ => 0, ρ⟩ (fun r => ∀ c : Dev nD,
        r.2.mem ((c.tc : Thread nD τ).loc main_v0) = goal m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun r hr c => by
    obtain ⟨after, hL, hv, ha⟩ := hr.1 c
    exact ⟨hv.trans (final m hpre c after hL), ha⟩)
    (run_kept m ρ (leaves m) fun c t => establishes c _ _ _ _)

/-- The attention computes what its reference computes. -/
theorem algebraic : Cert.algebraic_KernelIdeal_ReferenceIdeal_pre_finite_scores := by
  intro m g m' g' hpre hagree
  refine ⟨goal m, run m hpre g, (θ_run _ _ _).mono (fun r hr c => ⟨(hr c).1.trans ?_, (hr c).2⟩) (Cert.ReferenceIdeal.Value.run (F := Ideal) m' g')⟩
  rw [res_eq, (hagree c).1, (hagree c).2.1, (hagree c).2.2]

end Cert.Proof.Attn

end

end
-- ==== Proof.Rows.Row.lean ====
/- The row-wise calls' arithmetic on one row, over the extended reals, named for the kernels and the references to share. -/
module

public import Idealize.ShloMosaic.Lib.Pointwise

@[expose] public section

noncomputable section

namespace Cert.Proof.Row

open Idealize.ShloMosaic

/-- A row's mean. -/
def mean (r : Fin 1024 → EReal) : EReal := Ideal.div (∑ k, r k) (Ideal.ofBits FTy.f32 0x44800000#32)

/-- The row normalised, at column `n`, with gain `g` and offset `b`. -/
def norm (r : Fin 1024 → EReal) (n : Fin 1024) (g b : EReal) : EReal :=
  (r n - mean r) * Ideal.rsqrt (mean (fun k => (r k - mean r) * (r k - mean r)) + Ideal.ofBits FTy.f32 0x3727C5AC#32) * g + b

/-- A row times a matrix's column. -/
def dot {K : ℕ} (x w : Fin K → EReal) : EReal := ∑ k, x k * w k

/-- The gated hidden layer at unit `d`. -/
def hidden (x u v : Fin 1024 → EReal) : EReal := dot x u * Ideal.logistic (dot x u) * dot x v

/-- The feed-forward's residual, at one place of a row. -/
def ffn (x : Fin 1024 → EReal) (u v : Fin 2816 → Fin 1024 → EReal) (d : Fin 2816 → EReal) (xn : EReal) : EReal :=
  Ideal.ofBits FTy.f32 0x3FB504F3#32 * xn + Ideal.ofBits FTy.f32 0x3F000000#32 * (∑ k, hidden x (u k) (v k) * d k)

/-- The feed-forward's residual with the embedding's gate, at one place of a row. -/
def ffnPle (x : Fin 1024 → EReal) (u v : Fin 2816 → Fin 1024 → EReal) (d : Fin 2816 → EReal) (w : Fin 1024 → EReal) (p q : Fin 256 → EReal) (xn : EReal) : EReal :=
  Ideal.ofBits FTy.f32 0x3FB504F3#32 * xn + Ideal.ofBits FTy.f32 0x3F000000#32 * (∑ k, hidden x (u k) (v k) * d k) + Ideal.logistic (dot x w) * dot p q

/-- A branch's gated term at one place: the row's gate times the branch's row projected. -/
def gated {K L : ℕ} (x w : Fin K → EReal) (y u : Fin L → EReal) : EReal := Ideal.logistic (dot x w) * dot y u

/-- The merge of the four branches at one place of a row. -/
def merged (x w0 w1 w2 w3 : Fin 1024 → EReal) (y0 u0 y1 u1 y2 u2 y3 u3 : Fin 256 → EReal) : EReal :=
  gated x w0 y0 u0 + gated x w1 y1 u1 + gated x w2 y2 u2 + gated x w3 y3 u3

/-- The merge's residual at one place of a row. -/
def merge (h o : Fin 1024 → EReal) (xn : EReal) : EReal := Ideal.ofBits FTy.f32 0x3FB504F3#32 * xn + dot h o

end Cert.Proof.Row

end

end
-- ==== Proof.FfnPle.KernelIdeal.lean ====
/- The second feed-forward's stored values, read at an index over the extended reals. -/
module

public import proofs.«01_k».proof.Proof.Gen.FfnPleIdeal.Value
public import proofs.«01_k».proof.Proof.Rows.Row
public import Idealize.ShloMosaic.Lib.Pointwise

@[expose] public section

set_option maxRecDepth 16384

noncomputable section

namespace Cert.Proof.FfnPleIdeal

open Cert.FfnPleIdeal Cert.FfnPleIdeal.Gen
open Idealize.ShloMosaic Idealize.ShloMosaic.TcCoe

theorem norm_apply (r : FVec Ideal S256x1024 .f32) (g b : Vec Ideal S1x1x1024 .f32) (i : Fin 256) (n : Fin 1024) :
    k0_pay13 r g b (ix2 i n) = Row.norm (fun k => r (ix2 i k)) n (g (ix3 0 0 n)) (b (ix3 0 0 n)) := by
  pointwise [k0_pay13]
  rfl

theorem residual_apply (v0 : Vec Ideal S256x1024 .f32) (v2 v4 : Vec Ideal S1024x2816 .bf16) (v10 : Vec Ideal S2816x1024 .bf16) (v12 : Vec Ideal S1024x1024 .bf16)
    (v15 : Vec Ideal S1x256x256 .f32) (v18 : Vec Ideal S1x256x1024 .bf16) (i : Fin 256) (n : Fin 1024) :
    k0_pay1 v0 v2 v4 v10 v12 v15 v18 (ix2 i n)
      = Row.ffnPle (fun k => v0 (ix2 i k)) (fun d k => v2 (ix2 k d)) (fun d k => v4 (ix2 k d)) (fun d => v10 (ix2 d n)) (fun k => v12 (ix2 k n))
        (fun k => v15 (ix3 0 i k)) (fun k => v18 (ix3 0 k n)) (v0 (ix2 i n)) := by
  pointwise [k0_pay1]
  rfl

variable (v27 v0 : Vec Ideal S256x1024 .f32) (g b : Vec Ideal S1x1x1024 .f32) (v2 v4 : Vec Ideal S1024x2816 .bf16) (v10 : Vec Ideal S2816x1024 .bf16) (v12 : Vec Ideal S1024x1024 .bf16)
    (v15 : Vec Ideal S1x256x256 .f32) (v18 : Vec Ideal S1x256x1024 .bf16)

/-! The four row tiles store the same function of their rows. -/

theorem norm0 : k0_pay7 (F := Ideal) v27 (k0_pay4 g) (k0_pay5 b) (k0_pay6 v27) = k0_pay13 v27 g b := rfl
theorem norm2 : k0_pay19 (F := Ideal) v27 (k0_pay16 g) (k0_pay17 b) (k0_pay18 v27) = k0_pay13 v27 g b := rfl
theorem norm3 : k0_pay20 (F := Ideal) v27 g b = k0_pay13 v27 g b := rfl
theorem residual1 : k0_pay3 (F := Ideal) v0 (k0_pay2 v0) v2 (constant S256x2816 .f32 0x00000000#32) v4 v10 v12 v15 v18 = k0_pay1 v0 v2 v4 v10 v12 v15 v18 := rfl
theorem residual3 : k0_pay15 (F := Ideal) v0 (k0_pay14 v0) v2 (constant S256x2816 .f32 0x00000000#32) v4 v10 v12 v15 v18 = k0_pay1 v0 v2 v4 v10 v12 v15 v18 := rfl
theorem residual2 : k0_pay12 (F := Ideal) v0 (k0_pay9 v0 v2 v4 v10) (k0_pay10 v0 v12) (k0_pay11 v15) v18 = k0_pay1 v0 v2 v4 v10 v12 v15 v18 := rfl

/-- A tile's rows stored, from its parts of the arguments. -/
def stored : FVec Ideal S256x1024 .f32 := k0_pay13 (k0_pay1 v0 v2 v4 v10 v12 v15 v18) g b

theorem stored_apply (i : Fin 256) (n : Fin 1024) :
    stored v0 g b v2 v4 v10 v12 v15 v18 (ix2 i n)
      = Row.norm (fun j => Row.ffnPle (fun k => v0 (ix2 i k)) (fun d k => v2 (ix2 k d)) (fun d k => v4 (ix2 k d)) (fun d => v10 (ix2 d j)) (fun k => v12 (ix2 k j))
        (fun k => v15 (ix3 0 i k)) (fun k => v18 (ix3 0 k j)) (v0 (ix2 i j))) n (g (ix3 0 0 n)) (b (ix3 0 0 n)) := by
  rw [stored, norm_apply]
  refine congrArg (fun r => Row.norm r n (g (ix3 0 0 n)) (b (ix3 0 0 n))) (funext fun j => residual_apply v0 v2 v4 v10 v12 v15 v18 i j)

/-- What the body stores: its four row tiles. -/
theorem out_eq (x0 : Vec Ideal S1024x1024 .f32) (x1 : Vec Ideal S1x1024x256 .f32) (x2 : Vec Ideal S1024x5632 .bf16) (x3 : Vec Ideal S2816x1024 .bf16) (x4 : Vec Ideal S1024x1024 .bf16) (x5 : Vec Ideal S1x256x1024 .bf16) (x6 x7 : Vec Ideal S1x1x1024 .f32) :
    out0_8 x0 x1 x2 x3 x4 x5 x6 x7 = View.canon [
      ⟨r0_12, stored (View.ld x0 r0_12) (View.ld x6 r0_9) (View.ld x7 r0_9) (View.ld x2 r0_1) (View.ld x2 r0_2) (View.ld x3 r0_3) (View.ld x4 r0_4) (View.ld x1 r0_13) (View.ld x5 r0_6)⟩,
      ⟨r0_10, stored (View.ld x0 r0_10) (View.ld x6 r0_9) (View.ld x7 r0_9) (View.ld x2 r0_1) (View.ld x2 r0_2) (View.ld x3 r0_3) (View.ld x4 r0_4) (View.ld x1 r0_11) (View.ld x5 r0_6)⟩,
      ⟨r0_7, stored (View.ld x0 r0_7) (View.ld x6 r0_9) (View.ld x7 r0_9) (View.ld x2 r0_1) (View.ld x2 r0_2) (View.ld x3 r0_3) (View.ld x4 r0_4) (View.ld x1 r0_8) (View.ld x5 r0_6)⟩,
      ⟨r0_0, stored (View.ld x0 r0_0) (View.ld x6 r0_9) (View.ld x7 r0_9) (View.ld x2 r0_1) (View.ld x2 r0_2) (View.ld x3 r0_3) (View.ld x4 r0_4) (View.ld x1 r0_5) (View.ld x5 r0_6)⟩] := rfl

end Cert.Proof.FfnPleIdeal

end

end
-- ==== Proof.FfnPle.RefIdeal.lean ====
/- The second feed-forward's reference, read at an index over the extended reals. -/
module

public import proofs.«01_k».proof.Proof.Gen.FfnPleRefIdeal.Run
public import proofs.«01_k».proof.Proof.Rows.Row
public import Idealize.ShloMosaic.Lib.Pointwise

@[expose] public section

set_option maxRecDepth 16384

noncomputable section

namespace Cert.Proof.FfnPleRefIdeal

open Cert.FfnPleRefIdeal Cert.FfnPleRefIdeal.Gen Cert.FfnPleRefIdeal.Value
open Idealize.ShloMosaic Idealize.ShloMosaic.TcCoe

/-- The gated hidden layer, from the product with both halves of its weights. -/
def refHidden (H : FVec Ideal S16384x5632 .f32) : FVec Ideal S16384x2816 .f32 :=
  (mulf (mulf (extractStridedSlice S16384x2816 ![0, 0] H slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] H slices_S16384x5632_S16384x2816_0_0)))))) (extractStridedSlice S16384x2816 ![0, 2816] H slices_S16384x5632_S16384x2816_0_2816))

theorem refHidden_apply (H : FVec Ideal S16384x5632 .f32) (i : Fin 16384) (d : Fin 2816) :
    refHidden H (ix2 i d) = H (ix2 i ⟨d.val, by omega⟩) * Ideal.logistic (H (ix2 i ⟨d.val, by omega⟩)) * H (ix2 i ⟨2816 + d.val, by omega⟩) := by
  pointwise [refHidden]
  rfl

/-- The rows' means. -/
def refMean (R : FVec Ideal S16384x1024 .f32) : FVec Ideal S16384x1 .f32 :=
  (Host.divf (broadcastInDim S16384x1 ![0] bcast_S16384_S16384x1_0 (Host.reduceAdd R (constant S_ .f32 0x00000000#32) reducesTo_S16384x1024_S16384_d1 h_S_)) (broadcastInDim S16384x1 ![] bcast_S_S16384x1 (constant S_ .f32 0x44800000#32)))

/-- The rows normalised. -/
def refNorm (R : FVec Ideal S16384x1024 .f32) (A6 A7 : FVec Ideal S2x1x1024 .f32) : FVec Ideal S16384x1024 .f32 :=
  addf (mulf (mulf (subf R (broadcastInDim S16384x1024 ![0, 1] bcast_S16384x1_S16384x1024_0_1 (refMean R))) (broadcastInDim S16384x1024 ![0, 1] bcast_S16384x1_S16384x1024_0_1 (Host.rsqrt (addf (Host.divf (broadcastInDim S16384x1 ![0] bcast_S16384_S16384x1_0 (Host.reduceAdd (mulf (subf R (broadcastInDim S16384x1024 ![0, 1] bcast_S16384x1_S16384x1024_0_1 (refMean R))) (subf R (broadcastInDim S16384x1024 ![0, 1] bcast_S16384x1_S16384x1024_0_1 (refMean R)))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (shapeCast _ (extractStridedSlice S1x1x1024 ![0, 0, 0] A6 slices_S2x1x1024_S1x1x1024_0_0_0) shapeCasts_S1x1x1024_S1x1024))) (broadcastInDim S16384x1024 ![0, 1] bcast_S1x1024_S16384x1024_0_1 (shapeCast _ (extractStridedSlice S1x1x1024 ![0, 0, 0] A7 slices_S2x1x1024_S1x1x1024_0_0_0) shapeCasts_S1x1x1024_S1x1024))

variable (A0 : FVec Ideal S16384x1024 .f32) (A1 : FVec Ideal S2x16384x256 .f32) (A2 : FVec Ideal S1024x5632 .bf16) (A3 : FVec Ideal S2816x1024 .bf16) (A4 : FVec Ideal S1024x1024 .bf16) (A5 : FVec Ideal S2x256x1024 .bf16)
  (A6 A7 : FVec Ideal S2x1x1024 .f32)

/-- The residual. -/
def refResidual : FVec Ideal S16384x1024 .f32 :=
  (addf (addf (mulf (broadcastInDim S16384x1024 ![] bcast_S_S16384x1024 (constant S_ .f32 0x3FB504F3#32)) A0) (mulf (broadcastInDim S16384x1024 ![] bcast_S_S16384x1024 (constant S_ .f32 0x3F000000#32)) (Host.dotGeneral dot_S16384x2816_S2816x1024_S16384x1024_1_0_0_1_n_n none (refHidden (Host.dotGeneral dot_S16384x1024_S1024x5632_S16384x5632_1_0_0_1_n_n none A0 (extf .f32 A2 bitsLt_bf16_f32))) (extf .f32 A3 bitsLt_bf16_f32)))) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (Host.dotGeneral dot_S16384x1024_S1024x1024_S16384x1024_1_0_0_1_n_n none A0 (extf .f32 A4 bitsLt_bf16_f32)))))) (Host.dotGeneral dot_S16384x256_S256x1024_S16384x1024_1_0_0_1_n_n none (shapeCast _ (extractStridedSlice S1x16384x256 ![0, 0, 0] A1 slices_S2x16384x256_S1x16384x256_0_0_0) shapeCasts_S1x16384x256_S16384x256) (shapeCast _ (extractStridedSlice S1x256x1024 ![0, 0, 0] (extf .f32 A5 bitsLt_bf16_f32) slices_S2x256x1024_S1x256x1024_0_0_0) shapeCasts_S1x256x1024_S256x1024))))

theorem res_eq (m : (ℓ : Loc nD τ sig) → Buf (Elt Ideal) ℓ) (c : Dev nD) :
    res_main_v54 m c = refNorm (refResidual (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      (m ((c.tc : Thread nD τ).loc main_arg6)) (m ((c.tc : Thread nD τ).loc main_arg7)) := rfl

theorem refMean_apply (R : FVec Ideal S16384x1024 .f32) (i : Fin 16384) : refMean R (ix2 i 0) = Row.mean (fun k => R (ix2 i k)) := by
  pointwise [refMean]
  rfl

theorem refNorm_apply (R : FVec Ideal S16384x1024 .f32) (i : Fin 16384) (n : Fin 1024) :
    refNorm R A6 A7 (ix2 i n) = Row.norm (fun k => R (ix2 i k)) n (A6 (ix3 0 0 n)) (A7 (ix3 0 0 n)) := by
  pointwise [refNorm, refMean]
  rfl

theorem refResidual_apply (i : Fin 16384) (n : Fin 1024) :
    refResidual A0 A1 A2 A3 A4 A5 (ix2 i n)
      = Row.ffnPle (fun k => A0 (ix2 i k)) (fun d k => A2 (ix2 k ⟨d.val, by omega⟩)) (fun d k => A2 (ix2 k ⟨2816 + d.val, by omega⟩)) (fun d => A3 (ix2 d n)) (fun k => A4 (ix2 k n))
        (fun k => A1 (ix3 0 i k)) (fun k => A5 (ix3 0 k n)) (A0 (ix2 i n)) := by
  pointwise [refResidual, refHidden_apply]
  rfl

end Cert.Proof.FfnPleRefIdeal

end

end
-- ==== Proof.FfnPle.Value.lean ====
/- The second feed-forward's value claim: the run's output array is the reference's, over the extended reals. -/
module

public import proofs.«01_k».proof.Defs
public import proofs.«01_k».proof.Proof.Gen.FfnPleIdeal.Value
public import proofs.«01_k».proof.Proof.Gen.FfnPleRefIdeal.Run
public import proofs.«01_k».proof.Proof.FfnPle.KernelIdeal
public import proofs.«01_k».proof.Proof.FfnPle.RefIdeal
public import Idealize.ShloMosaic.Lib.Claim
public import Idealize.ShloMosaic.Lib.Pipeline.ValueKit

@[expose] public section

set_option maxRecDepth 16384

noncomputable section

namespace Cert.Proof.FfnPle

open Cert.FfnPleIdeal Cert.FfnPleIdeal.Gen Cert.Proof.FfnPleIdeal Cert.Proof.FfnPleRefIdeal
open Idealize.ShloMosaic Idealize.ShloMosaic.TcCoe Idealize.SL.Sem
open Idealize.ShloMosaic.Pipeline (Dat)

theorem idx : ∀ t : Fin cfg0.N, win0_0.index t = ![t.val, 0] ∧ win0_1.index t = ![0, t.val, 0] ∧ win0_2.index t = ![0, 0] ∧ win0_3.index t = ![0, 0]
    ∧ win0_4.index t = ![0, 0] ∧ win0_5.index t = ![0, 0, 0] ∧ win0_6.index t = ![0, 0, 0] ∧ win0_7.index t = ![0, 0, 0] ∧ win0_8.index t = ![t.val, 0] ∧ t.val < 16 :=
  (by decide +kernel : ∀ t : Fin grid0.N, _)

variable (m : (ℓ : Loc nD τ sig) → Buf (Elt Ideal) ℓ) (c : Dev nD)

/-- The reference's result of the kernel's arguments on core `c`. -/
abbrev goal : FVec Ideal S16384x1024 .f32 :=
  refNorm (refResidual (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
    (m ((c.tc : Thread nD τ).loc main_arg6)) (m ((c.tc : Thread nD τ).loc main_arg7))

variable (t : Fin cfg0.N)

theorem gain (n : Fin 1024) : View.ld (iblk m c 6 t) r0_9 (ix3 0 0 n) = m ((c.tc : Thread nD τ).loc main_arg6) (ix3 0 0 n) := by
  pointwise [r0_9]
  blk_ext [iblk, V, idx t]
theorem offset (n : Fin 1024) : View.ld (iblk m c 7 t) r0_9 (ix3 0 0 n) = m ((c.tc : Thread nD τ).loc main_arg7) (ix3 0 0 n) := by
  pointwise [r0_9]
  blk_ext [iblk, V, idx t]
theorem up (k : Fin 1024) (d : Fin 2816) : View.ld (iblk m c 2 t) r0_1 (ix2 k d) = m ((c.tc : Thread nD τ).loc main_arg2) (ix2 k ⟨d.val, by omega⟩) := by
  pointwise [r0_1]
  blk_ext [iblk, V, idx t]
theorem gate (k : Fin 1024) (d : Fin 2816) : View.ld (iblk m c 2 t) r0_2 (ix2 k d) = m ((c.tc : Thread nD τ).loc main_arg2) (ix2 k ⟨2816 + d.val, by omega⟩) := by
  pointwise [r0_2]
  blk_ext [iblk, V, idx t]
theorem down (d : Fin 2816) (n : Fin 1024) : View.ld (iblk m c 3 t) r0_3 (ix2 d n) = m ((c.tc : Thread nD τ).loc main_arg3) (ix2 d n) := by
  pointwise [r0_3]
  blk_ext [iblk, V, idx t]
theorem gatePle (k n : Fin 1024) : View.ld (iblk m c 4 t) r0_4 (ix2 k n) = m ((c.tc : Thread nD τ).loc main_arg4) (ix2 k n) := by
  pointwise [r0_4]
  blk_ext [iblk, V, idx t]
theorem ple (k : Fin 256) (n : Fin 1024) : View.ld (iblk m c 5 t) r0_6 (ix3 0 k n) = m ((c.tc : Thread nD τ).loc main_arg5) (ix3 0 k n) := by
  pointwise [r0_6]
  blk_ext [iblk, V, idx t]

/-- A row tile stored is the reference's rows. -/
theorem tile (v0 : Vec Ideal S256x1024 .f32) (v15 : Vec Ideal S1x256x256 .f32) (i : Fin 256) (j : Fin 16384)
    (h0 : ∀ k, v0 (ix2 i k) = m ((c.tc : Thread nD τ).loc main_arg0) (ix2 j k)) (h1 : ∀ k, v15 (ix3 0 i k) = m ((c.tc : Thread nD τ).loc main_arg1) (ix3 0 j k)) (n : Fin 1024) :
    stored v0 (View.ld (iblk m c 6 t) r0_9) (View.ld (iblk m c 7 t) r0_9) (View.ld (iblk m c 2 t) r0_1) (View.ld (iblk m c 2 t) r0_2) (View.ld (iblk m c 3 t) r0_3) (View.ld (iblk m c 4 t) r0_4) v15 (View.ld (iblk m c 5 t) r0_6) (ix2 i n)
      = goal m c (ix2 j n) := by
  rw [stored_apply, goal, refNorm_apply]
  simp only [gain, offset, up, gate, down, gatePle, ple, h0, h1, refResidual_apply]

/-- A grid point's rows. -/
theorem point (y : S1024x1024.Idx) :
    out0_8 (iblk m c 0 t) (iblk m c 1 t) (iblk m c 2 t) (iblk m c 3 t) (iblk m c 4 t) (iblk m c 5 t) (iblk m c 6 t) (iblk m c 7 t) y
      = goal m c (ix2 ⟨1024 * t.val + (y 0).val, by have := (idx t).2.2.2.2.2.2.2.2.2; have : (y 0).val < 1024 := (y 0).isLt; omega⟩ (y 1)) := by
  have ht := (idx t).2.2.2.2.2.2.2.2.2
  rw [out_eq]
  canon_tiles x h
  all_goals
    obtain ⟨i, n, rfl⟩ : ∃ (i : Fin 256) (n : Fin 1024), x = ix2 i n := ⟨x 0, x 1, by funext a; fin_cases a <;> rfl⟩
    have h1' : (y 1).val = n.val := h1
  · have h0' : (y 0).val = 768 + i.val := by simpa using h0
    refine (tile m c t _ _ i ⟨1024 * t.val + 768 + i.val, by omega⟩ (fun k => ?_) (fun k => ?_) n).trans ?_
    · pointwise [r0_12]
      blk_ext [iblk, V, idx t]
    · pointwise [r0_13]
      blk_ext [iblk, V, idx t]
    · blk_ext
  · have h0' : (y 0).val = 512 + i.val := by simpa using h0
    refine (tile m c t _ _ i ⟨1024 * t.val + 512 + i.val, by omega⟩ (fun k => ?_) (fun k => ?_) n).trans ?_
    · pointwise [r0_10]
      blk_ext [iblk, V, idx t]
    · pointwise [r0_11]
      blk_ext [iblk, V, idx t]
    · blk_ext
  · have h0' : (y 0).val = 256 + i.val := by simpa using h0
    refine (tile m c t _ _ i ⟨1024 * t.val + 256 + i.val, by omega⟩ (fun k => ?_) (fun k => ?_) n).trans ?_
    · pointwise [r0_7]
      blk_ext [iblk, V, idx t]
    · pointwise [r0_8]
      blk_ext [iblk, V, idx t]
    · blk_ext
  · have h0' : (y 0).val = i.val := by simpa using h0
    refine (tile m c t _ _ i ⟨1024 * t.val + 0 + i.val, by omega⟩ (fun k => ?_) (fun k => ?_) n).trans ?_
    · pointwise [r0_0]
      blk_ext [iblk, V, idx t]
    · pointwise [r0_5]
      blk_ext [iblk, V, idx t]
    · blk_ext

/-- The run's output array is the reference's result. -/
theorem final : (dats m 0 c).arrAt 8 cfg0.N = goal m c := by
  refine (dats m 0 c).arrAt_eq_of_covers 8 _ (by decide +kernel) fun t _ y => ?_
  blk_simp
  rw [after0_8, point]
  blk_ext [idx t]

/-- Over the extended reals the kernel's result is the reference's. -/
theorem algebraic : Cert.algebraic_FfnPleIdeal_FfnPleRefIdeal := by
  intro m g m' g' _ hagree
  refine ⟨goal m, (θ_run _ _ _).mono (fun r hr c => ⟨(hr c).1.trans (final m c), (hr c).2⟩) (Cert.FfnPleIdeal.Value.run_blocks m g),
    (θ_run _ _ _).mono (fun r hr c => ⟨(hr c).1.trans ?_, (hr c).2⟩) (Cert.FfnPleRefIdeal.Value.run (F := Ideal) m' g')⟩
  obtain ⟨h0, h1, h2, h3, h4, h5, h6, h7⟩ := hagree c
  rw [res_eq, h0, h1, h2, h3, h4, h5, h6, h7]

end Cert.Proof.FfnPle

end

end
-- ==== Proof.Ffn.RunIdeal.lean ====
module

public import proofs.«01_k».proof.Proof.Gen.FfnIdeal.Frame
public import proofs.«01_k».proof.Proof.Gen.FfnIdeal.Skeleton
public import Idealize.ShloMosaic.Lib.Claim

/-! The first feed-forward call's run over the reals.  Three of its windows are of a size that does not divide the input
    projection's rows, two of them never cut and one overhanging the array at the last grid point; the body reads
    no row that overhangs, so what it leaves does not depend on what such rows of the buffer hold. -/

@[expose] public section

set_option maxRecDepth 16384

noncomputable section

namespace Cert.Proof.FfnIdeal

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- The four tiles of the row window. -/
abbrev rTile0 : Rect S1024x1024 := Rect.unit (s := S1024x1024) ![0, 0] S256x1024.size inb_S1024x1024_S256x1024_0_0
abbrev rTile1 : Rect S1024x1024 := Rect.unit (s := S1024x1024) ![256, 0] S256x1024.size inb_S1024x1024_S256x1024_256_0
abbrev rTile2 : Rect S1024x1024 := Rect.unit (s := S1024x1024) ![512, 0] S256x1024.size inb_S1024x1024_S256x1024_512_0
abbrev rTile3 : Rect S1024x1024 := Rect.unit (s := S1024x1024) ![768, 0] S256x1024.size inb_S1024x1024_S256x1024_768_0
/-- The up projection's two halves, the down projection, and a normalisation's row. -/
abbrev rGate : Rect S1024x5632 := Rect.unit (s := S1024x5632) ![0, 0] S1024x2816.size inb_S1024x5632_S1024x2816_0_0
abbrev rUp : Rect S1024x5632 := Rect.unit (s := S1024x5632) ![0, 2816] S1024x2816.size inb_S1024x5632_S1024x2816_0_2816
abbrev rDown : Rect S2816x1024 := Rect.unit (s := S2816x1024) ![0, 0] S2816x1024.size inb_S2816x1024_S2816x1024_0_0
abbrev rNorm : Rect S1x1x1024 := Rect.unit (s := S1x1x1024) ![0, 0, 0] S1x1x1024.size inb_S1x1x1024_S1x1x1024_0_0_0
/-- The weights that are cast: the blocks read and the blocks written. -/
abbrev rMix : Rect S1x144x1024 := Rect.unit (s := S1x144x1024) ![0, 0, 0] S1x144x1024.size inb_S1x144x1024_S1x144x1024_0_0_0
abbrev rLo : Rect S1x256x1024 := Rect.unit (s := S1x256x1024) ![0, 160, 0] S1x96x1024.size inb_S1x256x1024_S1x96x1024_0_160_0
abbrev rHi : Rect S1x256x1024 := Rect.unit (s := S1x256x1024) ![0, 0, 0] S1x160x1024.size inb_S1x256x1024_S1x160x1024_0_0_0
abbrev rSlab : Rect S1x64x1024 := Rect.unit (s := S1x64x1024) ![0, 0, 0] S1x64x1024.size inb_S1x64x1024_S1x64x1024_0_0_0
abbrev rMixOut : Rect S144x1024 := Rect.unit (s := S144x1024) ![0, 0] S144x1024.size inb_S144x1024_S144x1024_0_0
abbrev rGateOut : Rect S1024x256 := Rect.unit (s := S1024x256) ![0, 0] S1024x256.size inb_S1024x256_S1024x256_0_0
abbrev rSlabOut : Rect S64x1024 := Rect.unit (s := S64x1024) ![0, 0] S64x1024.size inb_S64x1024_S64x1024_0_0

/-! ## What the body leaves in each output window -/

/-- The row window's four tiles. -/
def left10 (x0 : Vec F S1024x1024 .f32) (x1 : Vec F S1024x5632 .bf16) (x2 : Vec F S2816x1024 .bf16) (x3 : Vec F S1x1x1024 .f32) (x4 : Vec F S1x1x1024 .f32) : Vec F S1024x1024 .f32 :=
  View.canon [⟨rTile3, k0_pay15 (k0_pay13 (View.ld x0 rTile3) (k0_pay11 (View.ld x0 rTile3)) (k0_pay12 (View.ld x0 rTile3) (View.ld x1 rGate)) (View.ld x1 rUp) (View.ld x2 rDown)) (View.ld x3 rNorm) (View.ld x4 rNorm)⟩,
    ⟨rTile2, k0_pay14 (k0_pay9 (View.ld x0 rTile2) (k0_pay8 (View.ld x0 rTile2) (View.ld x1 rGate) (View.ld x1 rUp)) (View.ld x2 rDown)) (View.ld x3 rNorm) (View.ld x4 rNorm)⟩,
    ⟨rTile1, k0_pay10 (k0_pay6 (k0_pay4 (View.ld x0 rTile1)) (k0_pay5 (View.ld x0 rTile1) (View.ld x1 rGate) (View.ld x1 rUp) (View.ld x2 rDown))) (View.ld x3 rNorm) (View.ld x4 rNorm)⟩,
    ⟨rTile0, k0_pay7 (k0_pay3 (View.ld x0 rTile0) (View.ld x1 rGate) (View.ld x1 rUp) (View.ld x2 rDown)) (View.ld x3 rNorm) (View.ld x4 rNorm)⟩]

/-- The mixing columns' cast block. -/
def left11 (x5 : Vec F S1x144x1024 .f32) : Vec F S144x1024 .bf16 := View.canon [⟨rMixOut, k0_pay16 (View.ld x5 rMix)⟩]

/-- The gate columns' cast block, joined from two neighbouring blocks of rows and transposed. -/
def left12 (x6 x7 : Vec F S1x256x1024 .f32) : Vec F S1024x256 .bf16 := View.canon [⟨rGateOut, k0_pay17 (View.ld x6 rLo) (View.ld x7 rHi)⟩]

/-- The branches' cast block, and the output projection's. -/
def left13 (x8 : Vec F S1x64x1024 .f32) : Vec F S64x1024 .bf16 := View.canon [⟨rSlabOut, k0_pay1 (View.ld x8 rSlab)⟩]
def left14 (x9 : Vec F S1x64x1024 .f32) : Vec F S64x1024 .bf16 := View.canon [⟨rSlabOut, k0_pay2 (View.ld x9 rSlab)⟩]

/-- Each output's stores cover its buffer. -/
theorem cover10 (p0 p1 p2 p3 : Vec F S256x1024 .f32) (y : S1024x1024.Idx) :
    ∃ pc ∈ ([⟨rTile3, p0⟩, ⟨rTile2, p1⟩, ⟨rTile1, p2⟩, ⟨rTile0, p3⟩] : List (View.Piece (Elt F) S1024x1024 .f32)), y ∈ pc.1.set :=
  View.cover_of_tiled [⟨rTile3, p0⟩, ⟨rTile2, p1⟩, ⟨rTile1, p2⟩, ⟨rTile0, p3⟩] S256x1024.size (by rfl) y
theorem cover11 (p0 : Vec F S144x1024 .bf16) (y : S144x1024.Idx) :
    ∃ pc ∈ ([⟨rMixOut, p0⟩] : List (View.Piece (Elt F) S144x1024 .bf16)), y ∈ pc.1.set :=
  View.cover_of_tiled [⟨rMixOut, p0⟩] S144x1024.size (by rfl) y
theorem cover12 (p0 : Vec F S1024x256 .bf16) (y : S1024x256.Idx) :
    ∃ pc ∈ ([⟨rGateOut, p0⟩] : List (View.Piece (Elt F) S1024x256 .bf16)), y ∈ pc.1.set :=
  View.cover_of_tiled [⟨rGateOut, p0⟩] S1024x256.size (by rfl) y
theorem cover13 (p0 : Vec F S64x1024 .bf16) (y : S64x1024.Idx) :
    ∃ pc ∈ ([⟨rSlabOut, p0⟩] : List (View.Piece (Elt F) S64x1024 .bf16)), y ∈ pc.1.set :=
  View.cover_of_tiled [⟨rSlabOut, p0⟩] S64x1024.size (by rfl) y

/-! ## The body's triple -/

set_option maxHeartbeats 1000000 in
/-- The body on whole staging buffers, the inputs' read and left as they were, ends with each output at what `leftW`
    makes of the inputs. -/
theorem body_triple (c : Dev nD) (E : Set ℕ) (i : grid0.Coords) (arg1 : Memref sig .tc .vmem S1024x1024 .f32) (harg1 : arg1.IsWhole) (arg2 : Memref sig .tc .vmem S1024x5632 .bf16) (harg2 : arg2.IsWhole) (arg3 : Memref sig .tc .vmem S2816x1024 .bf16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x144x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x64x1024 .f32) (harg9 : arg9.IsWhole) (arg10 : Memref sig .tc .vmem S1x64x1024 .f32) (harg10 : arg10.IsWhole) (arg11 : Memref sig .tc .vmem S1024x1024 .f32) (harg11 : arg11.IsWhole) (arg12 : Memref sig .tc .vmem S144x1024 .bf16) (harg12 : arg12.IsWhole) (arg13 : Memref sig .tc .vmem S1024x256 .bf16) (harg13 : arg13.IsWhole) (arg14 : Memref sig .tc .vmem S64x1024 .bf16) (harg14 : arg14.IsWhole) (arg15 : Memref sig .tc .vmem S64x1024 .bf16) (harg15 : arg15.IsWhole)
    (x0 : Vec F S1024x1024 .f32) (x1 : Vec F S1024x5632 .bf16) (x2 : Vec F S2816x1024 .bf16) (x3 : Vec F S1x1x1024 .f32) (x4 : Vec F S1x1x1024 .f32) (x5 : Vec F S1x144x1024 .f32) (x6 : Vec F S1x256x1024 .f32) (x7 : Vec F S1x256x1024 .f32) (x8 : Vec F S1x64x1024 .f32) (x9 : Vec F S1x64x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (left10 x0 x1 x2 x3 x4) ∗ owns (c : Thread nD τ) arg12 fullShare (left11 x5) ∗ owns (c : Thread nD τ) arg13 fullShare (left12 x6 x7) ∗ owns (c : Thread nD τ) arg14 fullShare (left13 x8) ∗ owns (c : Thread nD τ) arg15 fullShare (left14 x9)) -∗ K ⟨⟩))
      ⊢ wp frame (wpE (defs₀ (F := F)) Variants.none c none) E (cc0_ffn_ln i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_ln_eq_skeleton]; unfold cc0_ffn_ln_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover10 _ _ _ _)).trans ?_
    rfl
  isplitl [H11]
  · iexists _; isplitr
    swap; · iexact H11
    ipureintro
    refine (View.read_writes_eq_canon _ _ _ (cover11 _)).trans ?_
    rfl
  isplitl [H12]
  · iexists _; isplitr
    swap; · iexact H12
    ipureintro
    refine (View.read_writes_eq_canon _ _ _ (cover12 _)).trans ?_
    rfl
  isplitl [H13]
  · iexists _; isplitr
    swap; · iexact H13
    ipureintro
    refine (View.read_writes_eq_canon _ _ _ (cover13 _)).trans ?_
    rfl
  iexists _; isplitr
  swap; · iexact H14
  ipureintro
  refine (View.read_writes_eq_canon _ _ _ (cover13 _)).trans ?_
  rfl

/-! ## The overhanging window -/

/-- What the overhanging window's buffer is held at: its block over a default on the rows that overhang. -/
def spare : (cfg0.win 7).block.Idx → Elt F (cfg0.win 7).elt := fun _ => Classical.choice inferInstance
def held (c : Dev nD) (t : Fin cfg0.N) : (cfg0.win 7).block.Idx → Elt F (cfg0.win 7).elt :=
  (cfg0.win 7).fill (cfg0.grid.coords t) spare (iblk m c 7 t)

/-- The rows of that window that the body reads lie in the array at every point. -/
theorem hi_room : ∀ t : Fin cfg0.N, ∀ a : Fin 3, (rHi.off a) + (rHi.size a) ≤ (cfg0.win 7).xsize (cfg0.grid.coords t) a := by decide +kernel
theorem hi_moved (t : Fin cfg0.N) (j : rHi.shape.Idx) : (cfg0.win 7).moved (cfg0.grid.coords t) (rHi.idx j) = true :=
  ((cfg0.win 7).moved_iff _ _).mpr fun a => by
    refine lt_of_lt_of_le ?_ (hi_room t a)
    show rHi.off a + 1 * (j a).val < rHi.off a + rHi.size a
    rw [one_mul]
    exact Nat.add_lt_add_left (j a).isLt _

/-- So what it reads does not depend on the overhang. -/
theorem hi_same (t : Fin cfg0.N) (d d' : (cfg0.win 7).block.Idx → Elt F (cfg0.win 7).elt) (g) :
    View.ld ((cfg0.win 7).fill (cfg0.grid.coords t) d g : Vec F S1x256x1024 .f32) rHi
      = View.ld ((cfg0.win 7).fill (cfg0.grid.coords t) d' g : Vec F S1x256x1024 .f32) rHi := by
  funext j
  show (cfg0.win 7).fill (cfg0.grid.coords t) d g (rHi.idx j) = (cfg0.win 7).fill (cfg0.grid.coords t) d' g (rHi.idx j)
  unfold Pipeline.Window.fill
  rw [dif_pos (hi_moved t j), dif_pos (hi_moved t j)]

theorem left12_same (t : Fin cfg0.N) (x6 : Vec F S1x256x1024 .f32) (d d' : (cfg0.win 7).block.Idx → Elt F (cfg0.win 7).elt) (g) :
    left12 x6 ((cfg0.win 7).fill (cfg0.grid.coords t) d g) = left12 x6 ((cfg0.win 7).fill (cfg0.grid.coords t) d' g) := by
  exact congrArg (fun v => (View.canon [⟨rGateOut, k0_pay17 (View.ld x6 rLo) v⟩] : Vec F S1024x256 .bf16)) (hi_same t d d' g)

/-! ## The proof data -/

/-- The arrays as launched; each input's buffer left as the body found it, each output's at `leftW`; the array that
    three windows read is dealt among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => X0_5 m c t
    | ⟨6, _⟩ => X0_6 m c t
    | ⟨7, _⟩ => held m c t
    | ⟨8, _⟩ => iblk m c 8 t
    | ⟨9, _⟩ => iblk m c 9 t
    | ⟨10, _⟩ => left10 (iblk m c 0 t) (iblk m c 1 t) (iblk m c 2 t) (iblk m c 3 t) (iblk m c 4 t)
    | ⟨11, _⟩ => left11 (X0_5 m c t)
    | ⟨12, _⟩ => left12 (X0_6 m c t) (held m c t)
    | ⟨13, _⟩ => left13 (iblk m c 8 t)
    | ⟨14, _⟩ => left14 (iblk m c 9 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = X0_5 m c t := by dsimp only [dats]
theorem after_6 (c : Dev nD) (t : Fin cfg0.N) : (dats m 0 c).after 6 t = X0_6 m c t := by dsimp only [dats]
theorem after_7 (c : Dev nD) (t : Fin cfg0.N) : (dats m 0 c).after 7 t = held m c t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = left10 (iblk m c 0 t) (iblk m c 1 t) (iblk m c 2 t) (iblk m c 3 t) (iblk m c 4 t) := by dsimp only [dats]
theorem after_11 (c : Dev nD) (t : Fin cfg0.N) : (dats m 0 c).after 11 t = left11 (X0_5 m c t) := by dsimp only [dats]
theorem after_12 (c : Dev nD) (t : Fin cfg0.N) : (dats m 0 c).after 12 t = left12 (X0_6 m c t) (held m c t) := by dsimp only [dats]
theorem after_13 (c : Dev nD) (t : Fin cfg0.N) : (dats m 0 c).after 13 t = left13 (iblk m c 8 t) := by dsimp only [dats]
theorem after_14 (c : Dev nD) (t : Fin cfg0.N) : (dats m 0 c).after 14 t = left14 (iblk m c 9 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = X0_5 m c t :=
  before0_5_of m (dats m 0 c) (A_eq m c 5) (after_5 m c) t d
theorem before_6 (c : Dev nD) (t : Fin cfg0.N) (d) : (dats m 0 c).before 6 t d = X0_6 m c t :=
  before0_6_of m (dats m 0 c) (A_eq m c 6) (after_6 m c) t d
/-- The overhanging window holds its block over whatever its buffer held. -/
theorem before_7 (c : Dev nD) (t : Fin cfg0.N) (d) : (dats m 0 c).before 7 t d = (cfg0.win 7).fill (cfg0.grid.coords t) d (iblk m c 7 t) :=
  ((dats m 0 c).before_in_eq_fetched 7 rfl (fun _ => rfl)
      (fun t t' h => funext fun a => congrArg (fun n => Pipeline.Clip.of n ((cfg0.win 7).size a) (S2x6304x1024.size a)) (congrFun h a))
      (fun t => by rw [after_7]; unfold held; rw [Pipeline.Window.cut_fill]; unfold Dat.blockOf iblk; rw [A_eq]; try rfl) t d).trans
    (by unfold Dat.fetched; unfold Dat.blockOf iblk; rw [A_eq]; try rfl)
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-! ## The body obligation -/

/-- What the body is given at a point, window by window, and what it must return: the windows that may be cut only on
    the part the transfers move. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare ((cfg0.win 5).fill (cfg0.grid.coords t) d ((cfg0.win 5).cut (cfg0.grid.coords t) ((dats m 0 c).after 5 t))))
    ∗ (∃ d, owns (c : Thread nD τ) (st0_6 t) fullShare ((cfg0.win 6).fill (cfg0.grid.coords t) d ((cfg0.win 6).cut (cfg0.grid.coords t) ((dats m 0 c).after 6 t))))
    ∗ (∃ d, owns (c : Thread nD τ) (st0_7 t) fullShare ((cfg0.win 7).fill (cfg0.grid.coords t) d ((cfg0.win 7).cut (cfg0.grid.coords t) ((dats m 0 c).after 7 t))))
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

/-- The body at any point: the inputs' buffers hold their blocks, so its triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14]
  rw [show (cfg0.win 5).cut (cfg0.grid.coords t) (X0_5 m c t) = iblk m c 5 t from Pipeline.Window.cut_fill _ _ _ _,
    show (cfg0.win 6).cut (cfg0.grid.coords t) (X0_6 m c t) = iblk m c 6 t from Pipeline.Window.cut_fill _ _ _ _,
    show (cfg0.win 7).cut (cfg0.grid.coords t) (held m c t) = iblk m c 7 t from Pipeline.Window.cut_fill _ _ _ _]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  rw [show left12 (X0_6 m c t) (held m c t) = left12 (X0_6 m c t) ((cfg0.win 7).fill (cfg0.grid.coords t) d7 (iblk m c 7 t)) from
    left12_same t _ _ _ _]
  iapply (body_triple c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (X0_5 m c t) (X0_6 m c t) ((cfg0.win 7).fill (cfg0.grid.coords t) d7 (iblk m c 7 t)) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexists dflt0_5; iexact H5
  isplitl [H6]; · iexists dflt0_6; iexact H6
  isplitl [H7]; · iexists d7; iexact H7
  isplitl [H8]; · iexact H8
  isplitl [H9]; · iexact H9
  isplitl [H10]; · iexact H10
  isplitl [H11]; · iexact H11
  isplitl [H12]; · iexact H12
  isplitl [H13]; · iexact H13
  iexact H14

/-- The body table's row at a point is the body on that point's buffers. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every run ends with the arrays at what the proof data say and every semaphore at zero. -/
theorem run : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := body_obligation m) (hq := fun _ _ _ => rfl)
    (howed := fun _ _ => rfl) (V := V m) (hmain := hmain m Variants.none) (hA := A_eq m) (hΦ := fun _ _ => rfl)

/-- The arguments end as they were and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Proof.FfnIdeal

end
-- ==== Proof.Ffn.KernelIdeal.lean ====
/- The first feed-forward's stored values, read at an index over the extended reals. -/
module

public import proofs.«01_k».proof.Proof.Ffn.RunIdeal
public import proofs.«01_k».proof.Proof.Rows.Row
public import Idealize.ShloMosaic.Lib.Pointwise

@[expose] public section

set_option maxRecDepth 16384

noncomputable section

namespace Cert.Proof.FfnIdeal

open Cert.FfnIdeal Cert.FfnIdeal.Gen
open Idealize.ShloMosaic Idealize.ShloMosaic.TcCoe

theorem norm_apply (r : FVec Ideal S256x1024 .f32) (g b : Vec Ideal S1x1x1024 .f32) (i : Fin 256) (n : Fin 1024) :
    k0_pay7 r g b (ix2 i n) = Row.norm (fun k => r (ix2 i k)) n (g (ix3 0 0 n)) (b (ix3 0 0 n)) := by
  pointwise [k0_pay7]
  rfl

variable (v0 : Vec Ideal S256x1024 .f32) (v2 v4 : Vec Ideal S1024x2816 .bf16) (v10 : Vec Ideal S2816x1024 .bf16) (g b : Vec Ideal S1x1x1024 .f32)

theorem residual_apply (i : Fin 256) (n : Fin 1024) :
    k0_pay3 v0 v2 v4 v10 (ix2 i n)
      = Row.ffn (fun k => v0 (ix2 i k)) (fun d k => v2 (ix2 k d)) (fun d k => v4 (ix2 k d)) (fun d => v10 (ix2 d n)) (v0 (ix2 i n)) := by
  pointwise [k0_pay3]
  rfl

/-- A tile's rows stored, from its parts of the arguments. -/
def stored : FVec Ideal S256x1024 .f32 := k0_pay7 (k0_pay3 v0 v2 v4 v10) g b

theorem stored_apply (i : Fin 256) (n : Fin 1024) :
    stored v0 v2 v4 v10 g b (ix2 i n)
      = Row.norm (fun j => Row.ffn (fun k => v0 (ix2 i k)) (fun d k => v2 (ix2 k d)) (fun d k => v4 (ix2 k d)) (fun d => v10 (ix2 d j)) (v0 (ix2 i j)))
        n (g (ix3 0 0 n)) (b (ix3 0 0 n)) := by
  rw [stored, norm_apply]
  refine congrArg (fun r => Row.norm r n (g (ix3 0 0 n)) (b (ix3 0 0 n))) (funext fun j => residual_apply v0 v2 v4 v10 i j)

/-- What the body stores: its four row tiles, each the same function of its rows. -/
theorem rows_eq (x0 : Vec Ideal S1024x1024 .f32) (x1 : Vec Ideal S1024x5632 .bf16) (x2 : Vec Ideal S2816x1024 .bf16) (x3 x4 : Vec Ideal S1x1x1024 .f32) :
    left10 x0 x1 x2 x3 x4 = View.canon [
      ⟨rTile3, stored (View.ld x0 rTile3) (View.ld x1 rGate) (View.ld x1 rUp) (View.ld x2 rDown) (View.ld x3 rNorm) (View.ld x4 rNorm)⟩,
      ⟨rTile2, stored (View.ld x0 rTile2) (View.ld x1 rGate) (View.ld x1 rUp) (View.ld x2 rDown) (View.ld x3 rNorm) (View.ld x4 rNorm)⟩,
      ⟨rTile1, stored (View.ld x0 rTile1) (View.ld x1 rGate) (View.ld x1 rUp) (View.ld x2 rDown) (View.ld x3 rNorm) (View.ld x4 rNorm)⟩,
      ⟨rTile0, stored (View.ld x0 rTile0) (View.ld x1 rGate) (View.ld x1 rUp) (View.ld x2 rDown) (View.ld x3 rNorm) (View.ld x4 rNorm)⟩] := rfl

/-- The cast blocks at an index. -/
theorem mix_apply (v : Vec Ideal S1x144x1024 .f32) (i : Fin 144) (n : Fin 1024) : k0_pay16 v (ix2 i n) = v (ix3 0 i n) := by
  pointwise [k0_pay16]
theorem slab_apply (v : Vec Ideal S1x64x1024 .f32) (i : Fin 64) (n : Fin 1024) : k0_pay1 v (ix2 i n) = v (ix3 0 i n) := by
  pointwise [k0_pay1]
theorem slab'_apply (v : Vec Ideal S1x64x1024 .f32) (i : Fin 64) (n : Fin 1024) : k0_pay2 v (ix2 i n) = v (ix3 0 i n) := by
  pointwise [k0_pay2]
theorem gate_lo (u : Vec Ideal S1x96x1024 .f32) (v : Vec Ideal S1x160x1024 .f32) (k : Fin 1024) (j : Fin 256) (h : j.val < 96) :
    k0_pay17 u v (ix2 k j) = u (ix3 0 ⟨j.val, h⟩ k) := by
  pointwise [k0_pay17]
  rw [dif_pos h]
theorem gate_hi (u : Vec Ideal S1x96x1024 .f32) (v : Vec Ideal S1x160x1024 .f32) (k : Fin 1024) (j : Fin 256) (h : 96 ≤ j.val) :
    k0_pay17 u v (ix2 k j) = v (ix3 0 ⟨j.val - 96, by omega⟩ k) := by
  pointwise [k0_pay17]
  rw [dif_neg (by omega)]

end Cert.Proof.FfnIdeal

end

end
-- ==== Proof.Ffn.RefIdeal.lean ====
/- The first feed-forward's reference, read at an index over the extended reals. -/
module

public import proofs.«01_k».proof.Proof.Gen.FfnRefIdeal.Run
public import proofs.«01_k».proof.Proof.Rows.Row
public import Idealize.ShloMosaic.Lib.Pointwise

@[expose] public section

set_option maxRecDepth 16384

noncomputable section

namespace Cert.Proof.FfnRefIdeal

open Cert.FfnRefIdeal Cert.FfnRefIdeal.Gen Cert.FfnRefIdeal.Value
open Idealize.ShloMosaic Idealize.ShloMosaic.TcCoe

/-- The gated hidden layer, from the product with both halves of its weights. -/
def refHidden (H : FVec Ideal S16384x5632 .f32) : FVec Ideal S16384x2816 .f32 :=
  (mulf (mulf (extractStridedSlice S16384x2816 ![0, 0] H slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] H slices_S16384x5632_S16384x2816_0_0)))))) (extractStridedSlice S16384x2816 ![0, 2816] H slices_S16384x5632_S16384x2816_0_2816))

theorem refHidden_apply (H : FVec Ideal S16384x5632 .f32) (i : Fin 16384) (d : Fin 2816) :
    refHidden H (ix2 i d) = H (ix2 i ⟨d.val, by omega⟩) * Ideal.logistic (H (ix2 i ⟨d.val, by omega⟩)) * H (ix2 i ⟨2816 + d.val, by omega⟩) := by
  pointwise [refHidden]
  rfl

/-- The rows' means. -/
def refMean (R : FVec Ideal S16384x1024 .f32) : FVec Ideal S16384x1 .f32 :=
  (Host.divf (broadcastInDim S16384x1 ![0] bcast_S16384_S16384x1_0 (Host.reduceAdd R (constant S_ .f32 0x00000000#32) reducesTo_S16384x1024_S16384_d1 h_S_)) (broadcastInDim S16384x1 ![] bcast_S_S16384x1 (constant S_ .f32 0x44800000#32)))

/-- The rows normalised. -/
def refNorm (R : FVec Ideal S16384x1024 .f32) (A6 A7 : FVec Ideal S2x1x1024 .f32) : FVec Ideal S16384x1024 .f32 :=
  addf (mulf (mulf (subf R (broadcastInDim S16384x1024 ![0, 1] bcast_S16384x1_S16384x1024_0_1 (refMean R))) (broadcastInDim S16384x1024 ![0, 1] bcast_S16384x1_S16384x1024_0_1 (Host.rsqrt (addf (Host.divf (broadcastInDim S16384x1 ![0] bcast_S16384_S16384x1_0 (Host.reduceAdd (mulf (subf R (broadcastInDim S16384x1024 ![0, 1] bcast_S16384x1_S16384x1024_0_1 (refMean R))) (subf R (broadcastInDim S16384x1024 ![0, 1] bcast_S16384x1_S16384x1024_0_1 (refMean R)))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (shapeCast _ (extractStridedSlice S1x1x1024 ![0, 0, 0] A6 slices_S2x1x1024_S1x1x1024_0_0_0) shapeCasts_S1x1x1024_S1x1024))) (broadcastInDim S16384x1024 ![0, 1] bcast_S1x1024_S16384x1024_0_1 (shapeCast _ (extractStridedSlice S1x1x1024 ![0, 0, 0] A7 slices_S2x1x1024_S1x1x1024_0_0_0) shapeCasts_S1x1x1024_S1x1024))

variable (A0 : FVec Ideal S16384x1024 .f32) (A1 : FVec Ideal S1024x5632 .bf16) (A2 : FVec Ideal S2816x1024 .bf16) (A3 A4 : FVec Ideal S2x1x1024 .f32)

/-- The residual. -/
def refResidual : FVec Ideal S16384x1024 .f32 :=
  addf (mulf (broadcastInDim S16384x1024 ![] bcast_S_S16384x1024 (constant S_ .f32 0x3FB504F3#32)) A0) (mulf (broadcastInDim S16384x1024 ![] bcast_S_S16384x1024 (constant S_ .f32 0x3F000000#32)) (Host.dotGeneral dot_S16384x2816_S2816x1024_S16384x1024_1_0_0_1_n_n none (refHidden (Host.dotGeneral dot_S16384x1024_S1024x5632_S16384x5632_1_0_0_1_n_n none A0 (extf .f32 A1 bitsLt_bf16_f32))) (extf .f32 A2 bitsLt_bf16_f32)))

theorem res_eq (m : (ℓ : Loc nD τ sig) → Buf (Elt Ideal) ℓ) (c : Dev nD) :
    res_main_v39 m c = refNorm (refResidual (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) := rfl

theorem refNorm_apply (R : FVec Ideal S16384x1024 .f32) (i : Fin 16384) (n : Fin 1024) :
    refNorm R A3 A4 (ix2 i n) = Row.norm (fun k => R (ix2 i k)) n (A3 (ix3 0 0 n)) (A4 (ix3 0 0 n)) := by
  pointwise [refNorm, refMean]
  rfl

theorem refResidual_apply (i : Fin 16384) (n : Fin 1024) :
    refResidual A0 A1 A2 (ix2 i n)
      = Row.ffn (fun k => A0 (ix2 i k)) (fun d k => A1 (ix2 k ⟨d.val, by omega⟩)) (fun d k => A1 (ix2 k ⟨2816 + d.val, by omega⟩)) (fun d => A2 (ix2 d n)) (A0 (ix2 i n)) := by
  pointwise [refResidual, refHidden_apply]
  rfl

/-- The layer's weights cast: the input projection's mixing columns, its gate columns, and a square one. -/
def refMix (A : FVec Ideal S2x6304x1024 .f32) : FVec Ideal S2304x1024 .bf16 :=
  truncf .bf16 (shapeCast _ (extractStridedSlice S1x2304x1024 ![0, 0, 0] A slices_S2x6304x1024_S1x2304x1024_0_0_0) shapeCasts_S1x2304x1024_S2304x1024) bitsLt_bf16_f32

def refGates (A : FVec Ideal S2x6304x1024 .f32) : FVec Ideal S1024x4096 .bf16 :=
  truncf .bf16 (shapeCast _ (extractStridedSlice S1x1024x4096 ![0, 0, 2208] (transpose S2x1024x6304 [0, 2, 1] A transposes_S2x6304x1024_S2x1024x6304_0_2_1) slices_S2x1024x6304_S1x1024x4096_0_0_2208) shapeCasts_S1x1024x4096_S1024x4096) bitsLt_bf16_f32

def refSlab (A : FVec Ideal S2x1024x1024 .f32) : FVec Ideal S1024x1024 .bf16 :=
  truncf .bf16 (shapeCast _ (extractStridedSlice S1x1024x1024 ![0, 0, 0] A slices_S2x1024x1024_S1x1024x1024_0_0_0) shapeCasts_S1x1024x1024_S1024x1024) bitsLt_bf16_f32

theorem refMix_apply (A : FVec Ideal S2x6304x1024 .f32) (i : Fin 2304) (n : Fin 1024) : refMix A (ix2 i n) = A (ix3 0 ⟨i.val, by omega⟩ n) := by
  pointwise [refMix]
theorem refGates_apply (A : FVec Ideal S2x6304x1024 .f32) (k : Fin 1024) (j : Fin 4096) : refGates A (ix2 k j) = A (ix3 0 ⟨2208 + j.val, by omega⟩ k) := by
  pointwise [refGates]
theorem refSlab_apply (A : FVec Ideal S2x1024x1024 .f32) (i n : Fin 1024) : refSlab A (ix2 i n) = A (ix3 0 i n) := by
  pointwise [refSlab]

end Cert.Proof.FfnRefIdeal

end

end
-- ==== Proof.Ffn.Value.lean ====
/- The first feed-forward's value claim: the run's output arrays are the reference's, over the extended reals. -/
module

public import proofs.«01_k».proof.Defs
public import proofs.«01_k».proof.Proof.Gen.FfnRefIdeal.Run
public import proofs.«01_k».proof.Proof.Ffn.KernelIdeal
public import proofs.«01_k».proof.Proof.Ffn.RefIdeal
public import Idealize.ShloMosaic.Lib.Claim
public import Idealize.ShloMosaic.Lib.Pipeline.ValueKit

@[expose] public section

set_option maxRecDepth 16384

noncomputable section

namespace Cert.Proof.Ffn

open Cert.FfnIdeal Cert.FfnIdeal.Gen Cert.Proof.FfnIdeal Cert.Proof.FfnRefIdeal
open Idealize.ShloMosaic Idealize.ShloMosaic.TcCoe Idealize.SL.Sem
open Idealize.ShloMosaic.Pipeline (Dat)

theorem idx : ∀ t : Fin cfg0.N, win0_0.index t = ![t.val, 0] ∧ win0_1.index t = ![0, 0] ∧ win0_2.index t = ![0, 0] ∧ win0_3.index t = ![0, 0, 0] ∧ win0_4.index t = ![0, 0, 0] ∧ win0_5.index t = ![0, t.val, 0] ∧ win0_6.index t = ![0, 8 + t.val, 0] ∧ win0_7.index t = ![0, 9 + t.val, 0] ∧ win0_8.index t = ![0, t.val, 0] ∧ win0_9.index t = ![0, t.val, 0] ∧ win0_10.index t = ![t.val, 0] ∧ win0_11.index t = ![t.val, 0] ∧ win0_12.index t = ![0, t.val] ∧ win0_13.index t = ![t.val, 0] ∧ win0_14.index t = ![t.val, 0] ∧ t.val < 16 :=
  (by decide +kernel : ∀ t : Fin grid0.N, _)

theorem lt (t : Fin cfg0.N) : t.val < 16 := (idx t).2.2.2.2.2.2.2.2.2.2.2.2.2.2.2

variable (m : (ℓ : Loc nD τ sig) → Buf (Elt Ideal) ℓ) (c : Dev nD)

/-- The reference's rows of the kernel's arguments on core `c`. -/
abbrev goal : FVec Ideal S16384x1024 .f32 :=
  refNorm (refResidual (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))

variable (t : Fin cfg0.N)

theorem gain (n : Fin 1024) : View.ld (iblk m c 3 t) rNorm (ix3 0 0 n) = m ((c.tc : Thread nD τ).loc main_arg3) (ix3 0 0 n) := by
  pointwise [rNorm]
  blk_ext [iblk, V, idx t]
theorem offset (n : Fin 1024) : View.ld (iblk m c 4 t) rNorm (ix3 0 0 n) = m ((c.tc : Thread nD τ).loc main_arg4) (ix3 0 0 n) := by
  pointwise [rNorm]
  blk_ext [iblk, V, idx t]
theorem gate (k : Fin 1024) (d : Fin 2816) : View.ld (iblk m c 1 t) rGate (ix2 k d) = m ((c.tc : Thread nD τ).loc main_arg1) (ix2 k ⟨d.val, by omega⟩) := by
  pointwise [rGate]
  blk_ext [iblk, V, idx t]
theorem up (k : Fin 1024) (d : Fin 2816) : View.ld (iblk m c 1 t) rUp (ix2 k d) = m ((c.tc : Thread nD τ).loc main_arg1) (ix2 k ⟨2816 + d.val, by omega⟩) := by
  pointwise [rUp]
  blk_ext [iblk, V, idx t]
theorem down (d : Fin 2816) (n : Fin 1024) : View.ld (iblk m c 2 t) rDown (ix2 d n) = m ((c.tc : Thread nD τ).loc main_arg2) (ix2 d n) := by
  pointwise [rDown]
  blk_ext [iblk, V, idx t]

/-- A row tile stored is the reference's rows. -/
theorem tile (v0 : Vec Ideal S256x1024 .f32) (i : Fin 256) (j : Fin 16384) (h0 : ∀ k, v0 (ix2 i k) = m ((c.tc : Thread nD τ).loc main_arg0) (ix2 j k)) (n : Fin 1024) :
    stored v0 (View.ld (iblk m c 1 t) rGate) (View.ld (iblk m c 1 t) rUp) (View.ld (iblk m c 2 t) rDown) (View.ld (iblk m c 3 t) rNorm) (View.ld (iblk m c 4 t) rNorm) (ix2 i n)
      = goal m c (ix2 j n) := by
  rw [stored_apply, goal, refNorm_apply]
  simp only [gain, offset, gate, up, down, h0, refResidual_apply]

set_option maxHeartbeats 2000000 in
/-- A grid point's rows. -/
theorem point (y : S1024x1024.Idx) :
    left10 (iblk m c 0 t) (iblk m c 1 t) (iblk m c 2 t) (iblk m c 3 t) (iblk m c 4 t) y
      = goal m c (ix2 ⟨1024 * t.val + (y 0).val, by have := lt t; have : (y 0).val < 1024 := (y 0).isLt; omega⟩ (y 1)) := by
  have ht := lt t
  rw [rows_eq]
  canon_tiles x h
  all_goals
    obtain ⟨i, n, rfl⟩ : ∃ (i : Fin 256) (n : Fin 1024), x = ix2 i n := ⟨x 0, x 1, by funext a; fin_cases a <;> rfl⟩
    have h1' : (y 1).val = n.val := h1
  · have h0' : (y 0).val = 768 + i.val := by simpa using h0
    refine (tile m c t _ i ⟨1024 * t.val + 768 + i.val, by omega⟩ (fun k => ?_) n).trans ?_
    · pointwise [rTile3]
      blk_ext [iblk, V, idx t]
    · blk_ext
  · have h0' : (y 0).val = 512 + i.val := by simpa using h0
    refine (tile m c t _ i ⟨1024 * t.val + 512 + i.val, by omega⟩ (fun k => ?_) n).trans ?_
    · pointwise [rTile2]
      blk_ext [iblk, V, idx t]
    · blk_ext
  · have h0' : (y 0).val = 256 + i.val := by simpa using h0
    refine (tile m c t _ i ⟨1024 * t.val + 256 + i.val, by omega⟩ (fun k => ?_) n).trans ?_
    · pointwise [rTile1]
      blk_ext [iblk, V, idx t]
    · blk_ext
  · have h0' : (y 0).val = i.val := by simpa using h0
    refine (tile m c t _ i ⟨1024 * t.val + 0 + i.val, by omega⟩ (fun k => ?_) n).trans ?_
    · pointwise [rTile0]
      blk_ext [iblk, V, idx t]
    · blk_ext

/-- The run's rows are the reference's. -/
theorem final : (dats m 0 c).arrAt 10 cfg0.N = goal m c := by
  refine (dats m 0 c).arrAt_eq_of_covers 10 _ (by decide +kernel) fun t _ y => ?_
  blk_simp
  rw [after_10, point]
  blk_ext [idx t]

/-! ## The cast weights -/

theorem mix (i : Fin 144) (n : Fin 1024) : View.ld (X0_5 m c t) rMix (ix3 0 i n) = m ((c.tc : Thread nD τ).loc main_arg5) (ix3 0 ⟨144 * t.val + i.val, by have := lt t; omega⟩ n) := by
  have ht := lt t
  have e1 : (rMix.idx (ix3 0 i n) 1).val = 0 + 1 * i.val := rfl
  have e2 : (rMix.idx (ix3 0 i n) 2).val = 0 + 1 * n.val := rfl
  show X0_5 m c t (rMix.idx (ix3 0 i n)) = _
  unfold X0_5 Pipeline.Window.fill
  rw [dif_pos (moved0_5 t _)]
  blk_ext [iblk, V, idx t] <;> omega
theorem lo (i : Fin 96) (n : Fin 1024) : View.ld (X0_6 m c t) rLo (ix3 0 i n) = m ((c.tc : Thread nD τ).loc main_arg5) (ix3 0 ⟨2208 + 256 * t.val + i.val, by have := lt t; omega⟩ n) := by
  have ht := lt t
  have e1 : (rLo.idx (ix3 0 i n) 1).val = 160 + 1 * i.val := rfl
  have e2 : (rLo.idx (ix3 0 i n) 2).val = 0 + 1 * n.val := rfl
  show X0_6 m c t (rLo.idx (ix3 0 i n)) = _
  unfold X0_6 Pipeline.Window.fill
  rw [dif_pos (moved0_6 t _)]
  blk_ext [iblk, V, idx t] <;> omega
theorem hi (i : Fin 160) (n : Fin 1024) : View.ld (held m c t) rHi (ix3 0 i n) = m ((c.tc : Thread nD τ).loc main_arg5) (ix3 0 ⟨2304 + 256 * t.val + i.val, by have := lt t; omega⟩ n) := by
  have ht := lt t
  have e1 : (rHi.idx (ix3 0 i n) 1).val = 0 + 1 * i.val := rfl
  have e2 : (rHi.idx (ix3 0 i n) 2).val = 0 + 1 * n.val := rfl
  show held m c t (rHi.idx (ix3 0 i n)) = _
  unfold held Pipeline.Window.fill
  rw [dif_pos (hi_moved t _)]
  blk_ext [iblk, V, idx t] <;> omega
theorem slab (i : Fin 64) (n : Fin 1024) : View.ld (iblk m c 8 t) rSlab (ix3 0 i n) = m ((c.tc : Thread nD τ).loc main_arg6) (ix3 0 ⟨64 * t.val + i.val, by have := lt t; omega⟩ n) := by
  have ht := lt t
  pointwise [rSlab]
  blk_ext [iblk, V, idx t]
theorem slab' (i : Fin 64) (n : Fin 1024) : View.ld (iblk m c 9 t) rSlab (ix3 0 i n) = m ((c.tc : Thread nD τ).loc main_arg7) (ix3 0 ⟨64 * t.val + i.val, by have := lt t; omega⟩ n) := by
  have ht := lt t
  pointwise [rSlab]
  blk_ext [iblk, V, idx t]

/-- The mixing columns cast, over a grid point's rows. -/
theorem mix_point (y : S144x1024.Idx) :
    left11 (X0_5 m c t) y = refMix (m ((c.tc : Thread nD τ).loc main_arg5)) (ix2 ⟨144 * t.val + (y 0).val, by have := lt t; have : (y 0).val < 144 := (y 0).isLt; omega⟩ (y 1)) := by
  have ht := lt t
  refine Eq.trans ?_ (refMix_apply (m ((c.tc : Thread nD τ).loc main_arg5)) ⟨144 * t.val + (y 0).val, by have : (y 0).val < 144 := (y 0).isLt; omega⟩ (y 1)).symm
  unfold left11
  canon_tiles x h
  obtain ⟨i, n, rfl⟩ : ∃ (i : Fin 144) (n : Fin 1024), x = ix2 i n := ⟨x 0, x 1, by funext a; fin_cases a <;> rfl⟩
  have h0' : (y 0).val = i.val := by simpa using h0
  have h1' : (y 1).val = n.val := h1
  rw [mix_apply, mix]
  blk_ext

theorem mix_final : (dats m 0 c).arrAt 11 cfg0.N = refMix (m ((c.tc : Thread nD τ).loc main_arg5)) := by
  refine (dats m 0 c).arrAt_eq_of_covers 11 _ (by decide +kernel) fun t _ y => ?_
  blk_simp
  rw [after_11, mix_point]
  blk_ext [idx t]

/-- The branches cast, over a grid point's rows. -/
theorem slab_point (y : S64x1024.Idx) :
    left13 (iblk m c 8 t) y = refSlab (m ((c.tc : Thread nD τ).loc main_arg6)) (ix2 ⟨64 * t.val + (y 0).val, by have := lt t; have : (y 0).val < 64 := (y 0).isLt; omega⟩ (y 1)) := by
  have ht := lt t
  refine Eq.trans ?_ (refSlab_apply (m ((c.tc : Thread nD τ).loc main_arg6)) ⟨64 * t.val + (y 0).val, by have : (y 0).val < 64 := (y 0).isLt; omega⟩ (y 1)).symm
  unfold left13
  canon_tiles x h
  obtain ⟨i, n, rfl⟩ : ∃ (i : Fin 64) (n : Fin 1024), x = ix2 i n := ⟨x 0, x 1, by funext a; fin_cases a <;> rfl⟩
  have h0' : (y 0).val = i.val := by simpa using h0
  have h1' : (y 1).val = n.val := h1
  rw [slab_apply, slab]
  blk_ext

theorem slab_final : (dats m 0 c).arrAt 13 cfg0.N = refSlab (m ((c.tc : Thread nD τ).loc main_arg6)) := by
  refine (dats m 0 c).arrAt_eq_of_covers 13 _ (by decide +kernel) fun t _ y => ?_
  blk_simp
  rw [after_13, slab_point]
  blk_ext [idx t]

/-- The output projection cast, over a grid point's rows. -/
theorem slab'_point (y : S64x1024.Idx) :
    left14 (iblk m c 9 t) y = refSlab (m ((c.tc : Thread nD τ).loc main_arg7)) (ix2 ⟨64 * t.val + (y 0).val, by have := lt t; have : (y 0).val < 64 := (y 0).isLt; omega⟩ (y 1)) := by
  have ht := lt t
  refine Eq.trans ?_ (refSlab_apply (m ((c.tc : Thread nD τ).loc main_arg7)) ⟨64 * t.val + (y 0).val, by have : (y 0).val < 64 := (y 0).isLt; omega⟩ (y 1)).symm
  unfold left14
  canon_tiles x h
  obtain ⟨i, n, rfl⟩ : ∃ (i : Fin 64) (n : Fin 1024), x = ix2 i n := ⟨x 0, x 1, by funext a; fin_cases a <;> rfl⟩
  have h0' : (y 0).val = i.val := by simpa using h0
  have h1' : (y 1).val = n.val := h1
  rw [slab'_apply, slab']
  blk_ext

theorem slab'_final : (dats m 0 c).arrAt 14 cfg0.N = refSlab (m ((c.tc : Thread nD τ).loc main_arg7)) := by
  refine (dats m 0 c).arrAt_eq_of_covers 14 _ (by decide +kernel) fun t _ y => ?_
  blk_simp
  rw [after_14, slab'_point]
  blk_ext [idx t]

/-- The gate columns cast, over a grid point's columns. -/
theorem gates_point (y : S1024x256.Idx) :
    left12 (X0_6 m c t) (held m c t) y = refGates (m ((c.tc : Thread nD τ).loc main_arg5)) (ix2 (y 0) ⟨256 * t.val + (y 1).val, by have := lt t; have : (y 1).val < 256 := (y 1).isLt; omega⟩) := by
  have ht := lt t
  refine Eq.trans ?_ (refGates_apply (m ((c.tc : Thread nD τ).loc main_arg5)) (y 0) ⟨256 * t.val + (y 1).val, by have : (y 1).val < 256 := (y 1).isLt; omega⟩).symm
  unfold left12
  canon_tiles x h
  obtain ⟨k, j, rfl⟩ : ∃ (k : Fin 1024) (j : Fin 256), x = ix2 k j := ⟨x 0, x 1, by funext a; fin_cases a <;> rfl⟩
  have h0' : (y 0).val = k.val := by simpa using h0
  have h1' : (y 1).val = j.val := by simpa using h1
  by_cases hj : j.val < 96
  · rw [gate_lo _ _ k j hj, lo]
    blk_ext
  · rw [gate_hi _ _ k j (by omega), hi]
    blk_ext

theorem gates_final : (dats m 0 c).arrAt 12 cfg0.N = refGates (m ((c.tc : Thread nD τ).loc main_arg5)) := by
  refine (dats m 0 c).arrAt_eq_of_covers 12 _ (by decide +kernel) fun t _ y => ?_
  blk_simp
  rw [after_12, gates_point]
  blk_ext [idx t]

/-- Over the extended reals the kernel's results are the reference's. -/
theorem algebraic : Cert.algebraic_FfnIdeal_FfnRefIdeal := by
  intro m g m' g' _ hagree
  refine ⟨goal m, fun c => refMix (m ((c.tc : Thread nD τ).loc main_arg5)), fun c => refGates (m ((c.tc : Thread nD τ).loc main_arg5)), fun c => refSlab (m ((c.tc : Thread nD τ).loc main_arg6)), fun c => refSlab (m ((c.tc : Thread nD τ).loc main_arg7)),
    (θ_run _ _ _).mono (fun r hr c => ⟨((hr.1.1 c).1 10).trans (final m c), ((hr.1.1 c).1 11).trans (mix_final m c), ((hr.1.1 c).1 12).trans (gates_final m c),
      ((hr.1.1 c).1 13).trans (slab_final m c), ((hr.1.1 c).1 14).trans (slab'_final m c), hr.2.1 c⟩)
      (θ_run_and (Cert.Proof.FfnIdeal.run m g) (Cert.Proof.FfnIdeal.frame m g)),
    (θ_run _ _ _).mono (fun r hr c => ⟨(hr c).1.trans ?_, (hr c).2.1.trans ?_, (hr c).2.2.1.trans ?_, (hr c).2.2.2.1.trans ?_, (hr c).2.2.2.2.1.trans ?_, (hr c).2.2.2.2.2⟩)
      (Cert.FfnRefIdeal.Value.run (F := Ideal) m' g')⟩
  all_goals obtain ⟨h0, h1, h2, h3, h4, h5, h6, h7⟩ := hagree c
  · rw [res_eq, h0, h1, h2, h3, h4]
  · rw [h5]
    rfl
  · rw [h5]
    rfl
  · rw [h6]
    rfl
  · rw [h7]
    rfl

end Cert.Proof.Ffn

end

end
-- ==== Proof.Merge.KernelIdeal.lean ====
/- The merge's stored values, read at an index over the extended reals. -/
module

public import proofs.«01_k».proof.Proof.Gen.MergeIdeal.Value
public import proofs.«01_k».proof.Proof.Rows.Row
public import Idealize.ShloMosaic.Lib.Pointwise

@[expose] public section

set_option maxRecDepth 16384

noncomputable section

namespace Cert.Proof.MergeIdeal

open Cert.MergeIdeal Cert.MergeIdeal.Gen
open Idealize.ShloMosaic Idealize.ShloMosaic.TcCoe

theorem norm_apply (r : FVec Ideal S256x1024 .f32) (g b : Vec Ideal S1x1x1024 .f32) (i : Fin 256) (n : Fin 1024) :
    k0_pay13 r g b (ix2 i n) = Row.norm (fun k => r (ix2 i k)) n (g (ix3 0 0 n)) (b (ix3 0 0 n)) := by
  pointwise [k0_pay13]
  rfl

variable (x : Vec Ideal S256x1024 .f32) (w : Vec Ideal S1024x4096 .bf16) (y0 : Vec Ideal S256x256 .bf16) (u0 : Vec Ideal S256x1024 .bf16) (y1 : Vec Ideal S256x256 .bf16) (u1 : Vec Ideal S256x1024 .bf16) (y2 : Vec Ideal S256x256 .bf16) (u2 : Vec Ideal S256x1024 .bf16) (y3 : Vec Ideal S256x256 .bf16) (u3 : Vec Ideal S256x1024 .bf16) (o : Vec Ideal S1024x1024 .bf16) (g b : Vec Ideal S1x1x1024 .f32) (r : FVec Ideal S256x1024 .f32)

/-- The branches merged, for a tile of rows. -/
theorem merged_apply (i : Fin 256) (j : Fin 1024) :
    k0_pay3 x w y0 u0 y1 u1 y2 u2 y3 u3 (ix2 i j) = Row.merged (fun k => x (ix2 i k)) (fun k => w (ix2 k ⟨j.val, by omega⟩)) (fun k => w (ix2 k ⟨1024 + j.val, by omega⟩)) (fun k => w (ix2 k ⟨2048 + j.val, by omega⟩)) (fun k => w (ix2 k ⟨3072 + j.val, by omega⟩)) (fun k => y0 (ix2 i k)) (fun k => u0 (ix2 k j)) (fun k => y1 (ix2 i k)) (fun k => u1 (ix2 k j)) (fun k => y2 (ix2 i k)) (fun k => u2 (ix2 k j)) (fun k => y3 (ix2 i k)) (fun k => u3 (ix2 k j)) := by
  pointwise [k0_pay3]
  rfl

theorem residual_apply (i : Fin 256) (n : Fin 1024) :
    k0_pay5 r (k0_pay4 x) o (ix2 i n) = Row.merge (fun j => r (ix2 i j)) (fun j => o (ix2 j n)) (x (ix2 i n)) := by
  pointwise [k0_pay5, k0_pay4]
  rfl

/-- A tile's rows stored, from its parts of the arguments. -/
def stored : FVec Ideal S256x1024 .f32 := k0_pay13 (k0_pay5 (k0_pay3 x w y0 u0 y1 u1 y2 u2 y3 u3) (k0_pay4 x) o) g b

theorem stored_apply (i : Fin 256) (n : Fin 1024) :
    stored x w y0 u0 y1 u1 y2 u2 y3 u3 o g b (ix2 i n)
      = Row.norm (fun j => Row.merge (fun l => Row.merged (fun k => x (ix2 i k)) (fun k => w (ix2 k ⟨l.val, by omega⟩)) (fun k => w (ix2 k ⟨1024 + l.val, by omega⟩)) (fun k => w (ix2 k ⟨2048 + l.val, by omega⟩)) (fun k => w (ix2 k ⟨3072 + l.val, by omega⟩)) (fun k => y0 (ix2 i k)) (fun k => u0 (ix2 k l)) (fun k => y1 (ix2 i k)) (fun k => u1 (ix2 k l)) (fun k => y2 (ix2 i k)) (fun k => u2 (ix2 k l)) (fun k => y3 (ix2 i k)) (fun k => u3 (ix2 k l))) (fun l => o (ix2 l j)) (x (ix2 i j))) n (g (ix3 0 0 n)) (b (ix3 0 0 n)) := by
  rw [stored, norm_apply]
  refine congrArg (fun r => Row.norm r n (g (ix3 0 0 n)) (b (ix3 0 0 n))) (funext fun j => ?_)
  rw [residual_apply]
  exact congrArg (fun h => Row.merge h _ _) (funext fun l => merged_apply x w y0 u0 y1 u1 y2 u2 y3 u3 i l)

/-! The four row tiles store the same function of their rows. -/

theorem norm0 : k0_pay10 (F := Ideal) r g b = k0_pay13 r g b := rfl
theorem norm2 : k0_pay21 (F := Ideal) r (k0_pay18 g) (k0_pay19 b) (k0_pay20 r) = k0_pay13 r g b := rfl
theorem norm3 : k0_pay22 (F := Ideal) r g b = k0_pay13 r g b := rfl
theorem residual1 : k0_pay9 (F := Ideal) x (k0_pay7 x w y0 u0 y1 u1 y2 u2) (k0_pay8 x w) y3 u3 (constant S256x1024 .f32 0x00000000#32) o = k0_pay5 (k0_pay3 x w y0 u0 y1 u1 y2 u2 y3 u3) (k0_pay4 x) o := rfl
theorem residual2 : k0_pay12 (F := Ideal) x (k0_pay11 x) w (constant S256x4096 .f32 0x00000000#32) y0 u0 y1 u1 y2 u2 y3 u3 o = k0_pay5 (k0_pay3 x w y0 u0 y1 u1 y2 u2 y3 u3) (k0_pay4 x) o := rfl
theorem residual3 : k0_pay17 (F := Ideal) x (k0_pay14 x w) (k0_pay15 x w y0 u0) (k0_pay16 x w) y1 u1 y2 u2 y3 u3 o = k0_pay5 (k0_pay3 x w y0 u0 y1 u1 y2 u2 y3 u3) (k0_pay4 x) o := rfl

/-- What the body stores: its four row tiles. -/
theorem out_eq (x0 : Vec Ideal S1024x1024 .f32) (x1 x2 x3 x4 : Vec Ideal S1024x256 .bf16) (x5 : Vec Ideal S1024x4096 .bf16) (x6 x7 : Vec Ideal S1024x1024 .bf16) (x8 x9 : Vec Ideal S1x1x1024 .f32) (x10 x11 : Vec Ideal S1x176x1024 .f32) :
    out0_12 x0 x1 x2 x3 x4 x5 x6 x7 x8 x9 x10 x11 = View.canon [
      ⟨r0_5, stored (View.ld x0 r0_5) (View.ld x5 r0_1) (View.ld x1 r0_10) (View.ld x6 r0_0) (View.ld x2 r0_10) (View.ld x6 r0_3) (View.ld x3 r0_10) (View.ld x6 r0_4) (View.ld x4 r0_10) (View.ld x6 r0_5) (View.ld x7 r0_6) (View.ld x8 r0_8) (View.ld x9 r0_8)⟩,
      ⟨r0_4, stored (View.ld x0 r0_4) (View.ld x5 r0_1) (View.ld x1 r0_9) (View.ld x6 r0_0) (View.ld x2 r0_9) (View.ld x6 r0_3) (View.ld x3 r0_9) (View.ld x6 r0_4) (View.ld x4 r0_9) (View.ld x6 r0_5) (View.ld x7 r0_6) (View.ld x8 r0_8) (View.ld x9 r0_8)⟩,
      ⟨r0_3, stored (View.ld x0 r0_3) (View.ld x5 r0_1) (View.ld x1 r0_7) (View.ld x6 r0_0) (View.ld x2 r0_7) (View.ld x6 r0_3) (View.ld x3 r0_7) (View.ld x6 r0_4) (View.ld x4 r0_7) (View.ld x6 r0_5) (View.ld x7 r0_6) (View.ld x8 r0_8) (View.ld x9 r0_8)⟩,
      ⟨r0_0, stored (View.ld x0 r0_0) (View.ld x5 r0_1) (View.ld x1 r0_2) (View.ld x6 r0_0) (View.ld x2 r0_2) (View.ld x6 r0_3) (View.ld x3 r0_2) (View.ld x6 r0_4) (View.ld x4 r0_2) (View.ld x6 r0_5) (View.ld x7 r0_6) (View.ld x8 r0_8) (View.ld x9 r0_8)⟩] := rfl

end Cert.Proof.MergeIdeal

end

end
-- ==== Proof.Merge.RefIdeal.lean ====
/- The merge's reference, read at an index over the extended reals. -/
module

public import proofs.«01_k».proof.Proof.Gen.MergeRefIdeal.Run
public import proofs.«01_k».proof.Proof.Rows.Row
public import Idealize.ShloMosaic.Lib.Pointwise

@[expose] public section

set_option maxRecDepth 16384

noncomputable section

namespace Cert.Proof.MergeRefIdeal

open Cert.MergeRefIdeal Cert.MergeRefIdeal.Gen Cert.MergeRefIdeal.Value
open Idealize.ShloMosaic Idealize.ShloMosaic.TcCoe

/-- The rows' means. -/
def refMean (R : FVec Ideal S16384x1024 .f32) : FVec Ideal S16384x1 .f32 :=
  (Host.divf (broadcastInDim S16384x1 ![0] bcast_S16384_S16384x1_0 (Host.reduceAdd R (constant S_ .f32 0x00000000#32) reducesTo_S16384x1024_S16384_d1 h_S_)) (broadcastInDim S16384x1 ![] bcast_S_S16384x1 (constant S_ .f32 0x44800000#32)))

/-- The rows normalised. -/
def refNorm (R : FVec Ideal S16384x1024 .f32) (A8 A9 : FVec Ideal S2x1x1024 .f32) : FVec Ideal S16384x1024 .f32 :=
  addf (mulf (mulf (subf R (broadcastInDim S16384x1024 ![0, 1] bcast_S16384x1_S16384x1024_0_1 (refMean R))) (broadcastInDim S16384x1024 ![0, 1] bcast_S16384x1_S16384x1024_0_1 (Host.rsqrt (addf (Host.divf (broadcastInDim S16384x1 ![0] bcast_S16384_S16384x1_0 (Host.reduceAdd (mulf (subf R (broadcastInDim S16384x1024 ![0, 1] bcast_S16384x1_S16384x1024_0_1 (refMean R))) (subf R (broadcastInDim S16384x1024 ![0, 1] bcast_S16384x1_S16384x1024_0_1 (refMean R)))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (shapeCast _ (extractStridedSlice S1x1x1024 ![0, 0, 0] A8 slices_S2x1x1024_S1x1x1024_0_0_0) shapeCasts_S1x1x1024_S1x1024))) (broadcastInDim S16384x1024 ![0, 1] bcast_S1x1024_S16384x1024_0_1 (shapeCast _ (extractStridedSlice S1x1x1024 ![0, 0, 0] A9 slices_S2x1x1024_S1x1x1024_0_0_0) shapeCasts_S1x1x1024_S1x1024))

theorem refNorm_apply (R : FVec Ideal S16384x1024 .f32) (A8 A9 : FVec Ideal S2x1x1024 .f32) (i : Fin 16384) (n : Fin 1024) :
    refNorm R A8 A9 (ix2 i n) = Row.norm (fun k => R (ix2 i k)) n (A8 (ix3 0 0 n)) (A9 (ix3 0 0 n)) := by
  pointwise [refNorm, refMean]
  rfl

variable (A0 : FVec Ideal S16384x1024 .f32) (A1 A2 A3 A4 : FVec Ideal S16384x256 .bf16) (A5 : FVec Ideal S1024x4096 .bf16) (A6 A7 : FVec Ideal S1024x1024 .bf16) (A8 A9 : FVec Ideal S2x1x1024 .f32)

/-- The four branches' gates. -/
def refGates : FVec Ideal S16384x4096 .f32 :=
  (Host.divf (broadcastInDim S16384x4096 ![] bcast_S_S16384x4096 (constant S_ .f32 0x3F800000#32)) (addf (broadcastInDim S16384x4096 ![] bcast_S_S16384x4096 (constant S_ .f32 0x3F800000#32)) (Host.exp (Host.negf (Host.dotGeneral dot_S16384x1024_S1024x4096_S16384x4096_1_0_0_1_n_n none A0 (extf .f32 A5 bitsLt_bf16_f32))))))

theorem refGates_apply (i : Fin 16384) (j : Fin 4096) : refGates A0 A5 (ix2 i j) = Ideal.logistic (Row.dot (fun k => A0 (ix2 i k)) (fun k => A5 (ix2 k j))) := by
  pointwise [refGates]
  rfl

/-- The branches merged. -/
def refMerged : FVec Ideal S16384x1024 .f32 :=
  (addf (addf (addf (mulf (extractStridedSlice S16384x1024 ![0, 0] (refGates A0 A5) slices_S16384x4096_S16384x1024_0_0) (Host.dotGeneral dot_S16384x256_S256x1024_S16384x1024_1_0_0_1_n_n none (extf .f32 A1 bitsLt_bf16_f32) (extractStridedSlice S256x1024 ![0, 0] (extf .f32 A6 bitsLt_bf16_f32) slices_S1024x1024_S256x1024_0_0))) (mulf (extractStridedSlice S16384x1024 ![0, 1024] (refGates A0 A5) slices_S16384x4096_S16384x1024_0_1024) (Host.dotGeneral dot_S16384x256_S256x1024_S16384x1024_1_0_0_1_n_n none (extf .f32 A2 bitsLt_bf16_f32) (extractStridedSlice S256x1024 ![256, 0] (extf .f32 A6 bitsLt_bf16_f32) slices_S1024x1024_S256x1024_256_0)))) (mulf (extractStridedSlice S16384x1024 ![0, 2048] (refGates A0 A5) slices_S16384x4096_S16384x1024_0_2048) (Host.dotGeneral dot_S16384x256_S256x1024_S16384x1024_1_0_0_1_n_n none (extf .f32 A3 bitsLt_bf16_f32) (extractStridedSlice S256x1024 ![512, 0] (extf .f32 A6 bitsLt_bf16_f32) slices_S1024x1024_S256x1024_512_0)))) (mulf (extractStridedSlice S16384x1024 ![0, 3072] (refGates A0 A5) slices_S16384x4096_S16384x1024_0_3072) (Host.dotGeneral dot_S16384x256_S256x1024_S16384x1024_1_0_0_1_n_n none (extf .f32 A4 bitsLt_bf16_f32) (extractStridedSlice S256x1024 ![768, 0] (extf .f32 A6 bitsLt_bf16_f32) slices_S1024x1024_S256x1024_768_0))))

theorem refMerged_apply (i : Fin 16384) (j : Fin 1024) :
    refMerged A0 A1 A2 A3 A4 A5 A6 (ix2 i j) = Row.merged (fun k => A0 (ix2 i k)) (fun k => A5 (ix2 k ⟨j.val, by omega⟩)) (fun k => A5 (ix2 k ⟨1024 + j.val, by omega⟩)) (fun k => A5 (ix2 k ⟨2048 + j.val, by omega⟩)) (fun k => A5 (ix2 k ⟨3072 + j.val, by omega⟩)) (fun k => A1 (ix2 i k)) (fun k => A6 (ix2 ⟨k.val, by omega⟩ j)) (fun k => A2 (ix2 i k)) (fun k => A6 (ix2 ⟨256 + k.val, by omega⟩ j)) (fun k => A3 (ix2 i k)) (fun k => A6 (ix2 ⟨512 + k.val, by omega⟩ j)) (fun k => A4 (ix2 i k)) (fun k => A6 (ix2 ⟨768 + k.val, by omega⟩ j)) := by
  pointwise [refMerged, refGates_apply]
  rfl

/-- The residual. -/
def refResidual : FVec Ideal S16384x1024 .f32 :=
  (addf (mulf (broadcastInDim S16384x1024 ![] bcast_S_S16384x1024 (constant S_ .f32 0x3FB504F3#32)) A0) (Host.dotGeneral dot_S16384x1024_S1024x1024_S16384x1024_1_0_0_1_n_n none (refMerged A0 A1 A2 A3 A4 A5 A6) (extf .f32 A7 bitsLt_bf16_f32)))

theorem refResidual_apply (i : Fin 16384) (n : Fin 1024) :
    refResidual A0 A1 A2 A3 A4 A5 A6 A7 (ix2 i n) = Row.merge (fun l => Row.merged (fun k => A0 (ix2 i k)) (fun k => A5 (ix2 k ⟨l.val, by omega⟩)) (fun k => A5 (ix2 k ⟨1024 + l.val, by omega⟩)) (fun k => A5 (ix2 k ⟨2048 + l.val, by omega⟩)) (fun k => A5 (ix2 k ⟨3072 + l.val, by omega⟩)) (fun k => A1 (ix2 i k)) (fun k => A6 (ix2 ⟨k.val, by omega⟩ l)) (fun k => A2 (ix2 i k)) (fun k => A6 (ix2 ⟨256 + k.val, by omega⟩ l)) (fun k => A3 (ix2 i k)) (fun k => A6 (ix2 ⟨512 + k.val, by omega⟩ l)) (fun k => A4 (ix2 i k)) (fun k => A6 (ix2 ⟨768 + k.val, by omega⟩ l))) (fun l => A7 (ix2 l n)) (A0 (ix2 i n)) := by
  pointwise [refResidual, refMerged_apply]
  rfl

theorem res_eq (m : (ℓ : Loc nD τ sig) → Buf (Elt Ideal) ℓ) (c : Dev nD) :
    res_main_v62 m c = refNorm (refResidual (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      (m ((c.tc : Thread nD τ).loc main_arg8)) (m ((c.tc : Thread nD τ).loc main_arg9)) := rfl

/-- A layer's weights cast. -/
def refFirst (A : FVec Ideal S2x2816x1024 .f32) : FVec Ideal S2816x1024 .bf16 :=
  truncf .bf16 (shapeCast _ (extractStridedSlice S1x2816x1024 ![0, 0, 0] A slices_S2x2816x1024_S1x2816x1024_0_0_0) shapeCasts_S1x2816x1024_S2816x1024) bitsLt_bf16_f32

def refSecond (A : FVec Ideal S2x2816x1024 .f32) : FVec Ideal S2816x1024 .bf16 :=
  truncf .bf16 (shapeCast _ (extractStridedSlice S1x2816x1024 ![1, 0, 0] A slices_S2x2816x1024_S1x2816x1024_1_0_0) shapeCasts_S1x2816x1024_S2816x1024) bitsLt_bf16_f32

theorem refFirst_apply (A : FVec Ideal S2x2816x1024 .f32) (i : Fin 2816) (n : Fin 1024) : refFirst A (ix2 i n) = A (ix3 0 i n) := by
  pointwise [refFirst]

theorem refSecond_apply (A : FVec Ideal S2x2816x1024 .f32) (i : Fin 2816) (n : Fin 1024) : refSecond A (ix2 i n) = A (ix3 1 i n) := by
  pointwise [refSecond]

end Cert.Proof.MergeRefIdeal

end

end
-- ==== Proof.Merge.Value.lean ====
/- The merge's value claim: the run's output arrays are the reference's, over the extended reals. -/
module

public import proofs.«01_k».proof.Defs
public import proofs.«01_k».proof.Proof.Gen.MergeIdeal.Value
public import proofs.«01_k».proof.Proof.Gen.MergeRefIdeal.Run
public import proofs.«01_k».proof.Proof.Merge.KernelIdeal
public import proofs.«01_k».proof.Proof.Merge.RefIdeal
public import Idealize.ShloMosaic.Lib.Claim
public import Idealize.ShloMosaic.Lib.Pipeline.ValueKit

@[expose] public section

set_option maxRecDepth 16384

noncomputable section

namespace Cert.Proof.Merge

open Cert.MergeIdeal Cert.MergeIdeal.Gen Cert.Proof.MergeIdeal Cert.Proof.MergeRefIdeal
open Idealize.ShloMosaic Idealize.ShloMosaic.TcCoe Idealize.SL.Sem
open Idealize.ShloMosaic.Pipeline (Dat)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0, 0] ∧ win0_9.index t = ![0, 0, 0] ∧ win0_10.index t = ![0, t.val, 0] ∧ win0_11.index t = ![1, t.val, 0] ∧ win0_12.index t = ![t.val, 0] ∧ win0_13.index t = ![t.val, 0] ∧ win0_14.index t = ![t.val, 0] ∧ t.val < 16 :=
  (by decide +kernel : ∀ t : Fin grid0.N, _)

theorem lt (t : Fin cfg0.N) : t.val < 16 := (idx t).2.2.2.2.2.2.2.2.2.2.2.2.2.2.2

variable (m : (ℓ : Loc nD τ sig) → Buf (Elt Ideal) ℓ) (c : Dev nD)

/-- The reference's result of the kernel's arguments on core `c`. -/
abbrev goal : FVec Ideal S16384x1024 .f32 :=
  refNorm (refResidual (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9))

variable (t : Fin cfg0.N)

theorem gates (k : Fin 1024) (j : Fin 4096) : View.ld (iblk m c 5 t) r0_1 (ix2 k j) = m ((c.tc : Thread nD τ).loc main_arg5) (ix2 k j) := by
  pointwise [r0_1]
  blk_ext [iblk, V, idx t]
theorem branch0 (k : Fin 256) (n : Fin 1024) : View.ld (iblk m c 6 t) r0_0 (ix2 k n) = m ((c.tc : Thread nD τ).loc main_arg6) (ix2 ⟨k.val, by omega⟩ n) := by
  pointwise [r0_0]
  blk_ext [iblk, V, idx t]
theorem branch1 (k : Fin 256) (n : Fin 1024) : View.ld (iblk m c 6 t) r0_3 (ix2 k n) = m ((c.tc : Thread nD τ).loc main_arg6) (ix2 ⟨256 + k.val, by omega⟩ n) := by
  pointwise [r0_3]
  blk_ext [iblk, V, idx t]
theorem branch2 (k : Fin 256) (n : Fin 1024) : View.ld (iblk m c 6 t) r0_4 (ix2 k n) = m ((c.tc : Thread nD τ).loc main_arg6) (ix2 ⟨512 + k.val, by omega⟩ n) := by
  pointwise [r0_4]
  blk_ext [iblk, V, idx t]
theorem branch3 (k : Fin 256) (n : Fin 1024) : View.ld (iblk m c 6 t) r0_5 (ix2 k n) = m ((c.tc : Thread nD τ).loc main_arg6) (ix2 ⟨768 + k.val, by omega⟩ n) := by
  pointwise [r0_5]
  blk_ext [iblk, V, idx t]
theorem joined (k n : Fin 1024) : View.ld (iblk m c 7 t) r0_6 (ix2 k n) = m ((c.tc : Thread nD τ).loc main_arg7) (ix2 k n) := by
  pointwise [r0_6]
  blk_ext [iblk, V, idx t]
theorem gain (n : Fin 1024) : View.ld (iblk m c 8 t) r0_8 (ix3 0 0 n) = m ((c.tc : Thread nD τ).loc main_arg8) (ix3 0 0 n) := by
  pointwise [r0_8]
  blk_ext [iblk, V, idx t]
theorem offset (n : Fin 1024) : View.ld (iblk m c 9 t) r0_8 (ix3 0 0 n) = m ((c.tc : Thread nD τ).loc main_arg9) (ix3 0 0 n) := by
  pointwise [r0_8]
  blk_ext [iblk, V, idx t]

/-- A row tile stored is the reference's rows. -/
theorem tile (x : Vec Ideal S256x1024 .f32) (y0 y1 y2 y3 : Vec Ideal S256x256 .bf16) (i : Fin 256) (j : Fin 16384)
    (hx : ∀ k, x (ix2 i k) = m ((c.tc : Thread nD τ).loc main_arg0) (ix2 j k)) (h0 : ∀ k, y0 (ix2 i k) = m ((c.tc : Thread nD τ).loc main_arg1) (ix2 j k)) (h1 : ∀ k, y1 (ix2 i k) = m ((c.tc : Thread nD τ).loc main_arg2) (ix2 j k)) (h2 : ∀ k, y2 (ix2 i k) = m ((c.tc : Thread nD τ).loc main_arg3) (ix2 j k)) (h3 : ∀ k, y3 (ix2 i k) = m ((c.tc : Thread nD τ).loc main_arg4) (ix2 j k)) (n : Fin 1024) :
    stored x (View.ld (iblk m c 5 t) r0_1) y0 (View.ld (iblk m c 6 t) r0_0) y1 (View.ld (iblk m c 6 t) r0_3) y2 (View.ld (iblk m c 6 t) r0_4) y3 (View.ld (iblk m c 6 t) r0_5) (View.ld (iblk m c 7 t) r0_6) (View.ld (iblk m c 8 t) r0_8) (View.ld (iblk m c 9 t) r0_8) (ix2 i n)
      = goal m c (ix2 j n) := by
  rw [stored_apply, goal, refNorm_apply]
  simp only [gates, branch0, branch1, branch2, branch3, joined, gain, offset, hx, h0, h1, h2, h3, refResidual_apply]

set_option maxHeartbeats 2000000 in
/-- A grid point's rows. -/
theorem point (y : S1024x1024.Idx) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = goal m c (ix2 ⟨1024 * t.val + (y 0).val, by have := lt t; have : (y 0).val < 1024 := (y 0).isLt; omega⟩ (y 1)) := by
  have ht := lt t
  rw [out_eq]
  canon_tiles x h
  all_goals
    obtain ⟨i, n, rfl⟩ : ∃ (i : Fin 256) (n : Fin 1024), x = ix2 i n := ⟨x 0, x 1, by funext a; fin_cases a <;> rfl⟩
    have h1' : (y 1).val = n.val := h1
  · have h0' : (y 0).val = 768 + i.val := by simpa using h0
    refine (tile m c t _ _ _ _ _ i ⟨1024 * t.val + 768 + i.val, by omega⟩ (fun k => ?_) (fun k => ?_) (fun k => ?_) (fun k => ?_) (fun k => ?_) n).trans ?_
    · pointwise [r0_5]
      blk_ext [iblk, V, idx t]
    iterate 4
      · pointwise [r0_10]
        blk_ext [iblk, V, idx t]
    · blk_ext
  · have h0' : (y 0).val = 512 + i.val := by simpa using h0
    refine (tile m c t _ _ _ _ _ i ⟨1024 * t.val + 512 + i.val, by omega⟩ (fun k => ?_) (fun k => ?_) (fun k => ?_) (fun k => ?_) (fun k => ?_) n).trans ?_
    · pointwise [r0_4]
      blk_ext [iblk, V, idx t]
    iterate 4
      · pointwise [r0_9]
        blk_ext [iblk, V, idx t]
    · blk_ext
  · have h0' : (y 0).val = 256 + i.val := by simpa using h0
    refine (tile m c t _ _ _ _ _ i ⟨1024 * t.val + 256 + i.val, by omega⟩ (fun k => ?_) (fun k => ?_) (fun k => ?_) (fun k => ?_) (fun k => ?_) n).trans ?_
    · pointwise [r0_3]
      blk_ext [iblk, V, idx t]
    iterate 4
      · pointwise [r0_7]
        blk_ext [iblk, V, idx t]
    · blk_ext
  · have h0' : (y 0).val = i.val := by simpa using h0
    refine (tile m c t _ _ _ _ _ i ⟨1024 * t.val + 0 + i.val, by omega⟩ (fun k => ?_) (fun k => ?_) (fun k => ?_) (fun k => ?_) (fun k => ?_) n).trans ?_
    · pointwise [r0_0]
      blk_ext [iblk, V, idx t]
    iterate 4
      · pointwise [r0_2]
        blk_ext [iblk, V, idx t]
    · blk_ext

/-- The run's first output array is the reference's result. -/
theorem final : (dats m 0 c).arrAt 12 cfg0.N = goal m c := by
  refine (dats m 0 c).arrAt_eq_of_covers 12 _ (by decide +kernel) fun t _ y => ?_
  blk_simp
  rw [after0_12, point]
  blk_ext [idx t]

/-- The first weights cast, over a grid point's rows. -/
theorem first_point (y : S176x1024.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = refFirst (m ((c.tc : Thread nD τ).loc main_arg10)) (ix2 ⟨176 * t.val + (y 0).val, by have := lt t; have : (y 0).val < 176 := (y 0).isLt; omega⟩ (y 1)) := by
  have ht := lt t
  refine Eq.trans ?_ (refFirst_apply (m ((c.tc : Thread nD τ).loc main_arg10)) ⟨176 * t.val + (y 0).val, by have : (y 0).val < 176 := (y 0).isLt; omega⟩ (y 1)).symm
  unfold out0_13
  canon_tiles x h
  pointwise [k0_pay1]
  blk_ext [iblk, V, idx t]

theorem first_final : (dats m 0 c).arrAt 13 cfg0.N = refFirst (m ((c.tc : Thread nD τ).loc main_arg10)) := by
  refine (dats m 0 c).arrAt_eq_of_covers 13 _ (by decide +kernel) fun t _ y => ?_
  blk_simp
  rw [after0_13, first_point]
  blk_ext [idx t]

/-- The second weights cast, over a grid point's rows. -/
theorem second_point (y : S176x1024.Idx) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = refSecond (m ((c.tc : Thread nD τ).loc main_arg11)) (ix2 ⟨176 * t.val + (y 0).val, by have := lt t; have : (y 0).val < 176 := (y 0).isLt; omega⟩ (y 1)) := by
  have ht := lt t
  refine Eq.trans ?_ (refSecond_apply (m ((c.tc : Thread nD τ).loc main_arg11)) ⟨176 * t.val + (y 0).val, by have : (y 0).val < 176 := (y 0).isLt; omega⟩ (y 1)).symm
  unfold out0_14
  canon_tiles x h
  pointwise [k0_pay2]
  blk_ext [iblk, V, idx t]

theorem second_final : (dats m 0 c).arrAt 14 cfg0.N = refSecond (m ((c.tc : Thread nD τ).loc main_arg11)) := by
  refine (dats m 0 c).arrAt_eq_of_covers 14 _ (by decide +kernel) fun t _ y => ?_
  blk_simp
  rw [after0_14, second_point]
  blk_ext [idx t]

/-- Over the extended reals the kernel's results are the reference's. -/
theorem algebraic : Cert.algebraic_MergeIdeal_MergeRefIdeal := by
  intro m g m' g' _ hagree
  refine ⟨goal m, fun c => refFirst (m ((c.tc : Thread nD τ).loc main_arg10)), fun c => refSecond (m ((c.tc : Thread nD τ).loc main_arg11)),
    (θ_run _ _ _).mono (fun r hr c => ⟨(hr c).1.trans (final m c), (hr c).2.1.trans (first_final m c), (hr c).2.2.1.trans (second_final m c), (hr c).2.2.2⟩) (Cert.MergeIdeal.Value.run_blocks m g),
    (θ_run _ _ _).mono (fun r hr c => ⟨(hr c).1.trans ?_, (hr c).2.1.trans ?_, (hr c).2.2.1.trans ?_, (hr c).2.2.2⟩) (Cert.MergeRefIdeal.Value.run (F := Ideal) m' g')⟩
  all_goals obtain ⟨h0, h1, h2, h3, h4, h5, h6, h7, h8, h9, h10, h11⟩ := hagree c
  · rw [res_eq, h0, h1, h2, h3, h4, h5, h6, h7, h8, h9]
  · rw [h10]
    rfl
  · rw [h11]
    rfl

end Cert.Proof.Merge

end

end
-- ==== Proof.Mix.BodyIdeal.lean ====
/- The mixers' call: its body. -/
module

public import proofs.«01_k».proof.Proof.Gen.MixIdeal.Frame
public import proofs.«01_k».proof.Proof.Gen.MixIdeal.Skeleton
public import Idealize.ShloMosaic.Lib.Pipeline.DatRel
public import Idealize.ShloMosaic.Lib.Pipeline.ArrRel

/-! The mixers' body at one grid point: the retention's state and the pooling's rows are carried from one grid point to the next, and
    the body runs from any contents of them. -/

@[expose] public section

set_option maxRecDepth 16384

noncomputable section

namespace Cert.Proof.MixIdeal

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of a point: the inputs' windows at given blocks, the outputs' windows and the two scratch buffers at any. -/
def Held (c : Dev nD) (arg2 : Memref sig .tc .vmem S1x1024x1024 .f32) (arg3 : Memref sig .tc .vmem S2304x1024 .bf16) (arg4 : Memref sig .tc .vmem S1x1024x128 .f32) (arg5 : Memref sig .tc .vmem S384x512 .bf16) (arg6 : Memref sig .tc .vmem S1x1x256 .f32) (arg7 : Memref sig .tc .vmem S1x1x256 .f32) (arg8 : Memref sig .tc .vmem S1x4x128x128 .f32) (arg9 : Memref sig .tc .vmem S1x128x256 .f32) (arg10 : Memref sig .tc .vmem S1x256x256 .bf16) (arg11 : Memref sig .tc .vmem S1x1x256 .f32) (arg12 : Memref sig .tc .vmem S1x1x256 .f32) (arg13 : Memref sig .tc .vmem S1x1x128 .f32) (arg14 : Memref sig .tc .vmem S1x256x512 .bf16) (arg15 : Memref sig .tc .vmem S1x256x512 .bf16) (arg16 : Memref sig .tc .vmem S1x128x512 .bf16) (arg17 : Memref sig .tc .vmem S1x256x128 .bf16) (arg18 : Memref sig .tc .vmem S4x256x256 .f32) (arg19 : Memref sig .tc .vmem S256x256 .f32) (arg20 : Memref sig .tc .vmem S256x256 .f32) (arg21 : Memref sig .tc .vmem S256x256 .f32) (arg22 : Memref sig .tc .vmem S1x64x5632 .f32) (arg23 : Memref sig .tc .vmem S1x64x1024 .f32) (arg24 : Memref sig .tc .vmem S1x64x5632 .f32) (arg25 : Memref sig .tc .vmem S1x1024x256 .bf16) (arg26 : Memref sig .tc .vmem S1x1024x256 .bf16) (arg27 : Memref sig .tc .vmem S1x1024x256 .bf16) (arg28 : Memref sig .tc .vmem S1x2x512x512 .bf16) (arg29 : Memref sig .tc .vmem S1x1024x512 .bf16) (arg30 : Memref sig .tc .vmem S1x4x256x256 .bf16) (arg31 : Memref sig .tc .vmem S64x5632 .bf16) (arg32 : Memref sig .tc .vmem S64x1024 .bf16) (arg33 : Memref sig .tc .vmem S64x5632 .bf16) (arg34 : Memref sig .tc .vmem S256x256 .f32) (arg35 : Memref sig .tc .vmem S4x544x256 .f32)
    (x0 : Vec F S1x1024x1024 .f32) (x1 : Vec F S2304x1024 .bf16) (x2 : Vec F S1x1024x128 .f32) (x3 : Vec F S384x512 .bf16) (x4 : Vec F S1x1x256 .f32) (x5 : Vec F S1x1x256 .f32) (x6 : Vec F S1x4x128x128 .f32) (x7 : Vec F S1x128x256 .f32) (x8 : Vec F S1x256x256 .bf16) (x9 : Vec F S1x1x256 .f32) (x10 : Vec F S1x1x256 .f32) (x11 : Vec F S1x1x128 .f32) (x12 : Vec F S1x256x512 .bf16) (x13 : Vec F S1x256x512 .bf16) (x14 : Vec F S1x128x512 .bf16) (x15 : Vec F S1x256x128 .bf16) (x16 : Vec F S4x256x256 .f32) (x17 : Vec F S256x256 .f32) (x18 : Vec F S256x256 .f32) (x19 : Vec F S256x256 .f32) (x20 : Vec F S1x64x5632 .f32) (x21 : Vec F S1x64x1024 .f32) (x22 : Vec F S1x64x5632 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d))

set_option maxHeartbeats 8000000 in
/-- The body runs from any contents of the buffers it writes, and leaves the inputs' windows as they were. -/
theorem body_triple (c : Dev nD) (i : grid0.Coords) (arg2 : Memref sig .tc .vmem S1x1024x1024 .f32) (harg2 : arg2.IsWhole) (arg3 : Memref sig .tc .vmem S2304x1024 .bf16) (harg3 : arg3.IsWhole) (arg4 : Memref sig .tc .vmem S1x1024x128 .f32) (harg4 : arg4.IsWhole) (arg5 : Memref sig .tc .vmem S384x512 .bf16) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1x4x128x128 .f32) (harg8 : arg8.IsWhole) (arg9 : Memref sig .tc .vmem S1x128x256 .f32) (harg9 : arg9.IsWhole) (arg10 : Memref sig .tc .vmem S1x256x256 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1x1x128 .f32) (harg13 : arg13.IsWhole) (arg14 : Memref sig .tc .vmem S1x256x512 .bf16) (harg14 : arg14.IsWhole) (arg15 : Memref sig .tc .vmem S1x256x512 .bf16) (harg15 : arg15.IsWhole) (arg16 : Memref sig .tc .vmem S1x128x512 .bf16) (harg16 : arg16.IsWhole) (arg17 : Memref sig .tc .vmem S1x256x128 .bf16) (harg17 : arg17.IsWhole) (arg18 : Memref sig .tc .vmem S4x256x256 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S1x64x5632 .f32) (harg22 : arg22.IsWhole) (arg23 : Memref sig .tc .vmem S1x64x1024 .f32) (harg23 : arg23.IsWhole) (arg24 : Memref sig .tc .vmem S1x64x5632 .f32) (harg24 : arg24.IsWhole) (arg25 : Memref sig .tc .vmem S1x1024x256 .bf16) (harg25 : arg25.IsWhole) (arg26 : Memref sig .tc .vmem S1x1024x256 .bf16) (harg26 : arg26.IsWhole) (arg27 : Memref sig .tc .vmem S1x1024x256 .bf16) (harg27 : arg27.IsWhole) (arg28 : Memref sig .tc .vmem S1x2x512x512 .bf16) (harg28 : arg28.IsWhole) (arg29 : Memref sig .tc .vmem S1x1024x512 .bf16) (harg29 : arg29.IsWhole) (arg30 : Memref sig .tc .vmem S1x4x256x256 .bf16) (harg30 : arg30.IsWhole) (arg31 : Memref sig .tc .vmem S64x5632 .bf16) (harg31 : arg31.IsWhole) (arg32 : Memref sig .tc .vmem S64x1024 .bf16) (harg32 : arg32.IsWhole) (arg33 : Memref sig .tc .vmem S64x5632 .bf16) (harg33 : arg33.IsWhole) (arg34 : Memref sig .tc .vmem S256x256 .f32) (harg34 : arg34.IsWhole) (arg35 : Memref sig .tc .vmem S4x544x256 .f32) (harg35 : arg35.IsWhole)
    (x0 : Vec F S1x1024x1024 .f32) (x1 : Vec F S2304x1024 .bf16) (x2 : Vec F S1x1024x128 .f32) (x3 : Vec F S384x512 .bf16) (x4 : Vec F S1x1x256 .f32) (x5 : Vec F S1x1x256 .f32) (x6 : Vec F S1x4x128x128 .f32) (x7 : Vec F S1x128x256 .f32) (x8 : Vec F S1x256x256 .bf16) (x9 : Vec F S1x1x256 .f32) (x10 : Vec F S1x1x256 .f32) (x11 : Vec F S1x1x128 .f32) (x12 : Vec F S1x256x512 .bf16) (x13 : Vec F S1x256x512 .bf16) (x14 : Vec F S1x128x512 .bf16) (x15 : Vec F S1x256x128 .bf16) (x16 : Vec F S4x256x256 .f32) (x17 : Vec F S256x256 .f32) (x18 : Vec F S256x256 .f32) (x19 : Vec F S256x256 .f32) (x20 : Vec F S1x64x5632 .f32) (x21 : Vec F S1x64x1024 .f32) (x22 : Vec F S1x64x5632 .f32) :
    Held c arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 x0 x1 x2 x3 x4 x5 x6 x7 x8 x9 x10 x11 x12 x13 x14 x15 x16 x17 x18 x19 x20 x21 x22
      ⊢ wp frame (wpE (defs₀ (F := F)) Variants.none c none) Set.univ (cc0_token_mixers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35)
        (fun _ => Held c arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 x0 x1 x2 x3 x4 x5 x6 x7 x8 x9 x10 x11 x12 x13 x14 x15 x16 x17 x18 x19 x20 x21 x22) := by
  simp only [cc0_token_mixers_eq_skeleton]; unfold cc0_token_mixers_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold Held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩⟩
  subst hf0 hf1 hf2 hf3 hf4 hf5 hf6 hf7 hf8 hf9 hf10 hf11 hf12 hf13 hf14 hf15 hf16 hf17 hf18 hf19 hf20 hf21 hf22
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists _; iexists _; isplitr
    swap; · iexact H23
    ipureintro; rfl
  isplitl [H24]
  · iexists _; iexists _; isplitr
    swap; · iexact H24
    ipureintro; rfl
  isplitl [H25]
  · iexists _; iexists _; isplitr
    swap; · iexact H25
    ipureintro; rfl
  isplitl [H26]
  · iexists _; iexists _; isplitr
    swap; · iexact H26
    ipureintro; rfl
  isplitl [H27]
  · iexists _; iexists _; isplitr
    swap; · iexact H27
    ipureintro; rfl
  isplitl [H28]
  · iexists _; iexists _; isplitr
    swap; · iexact H28
    ipureintro; rfl
  isplitl [H29]
  · iexists _; iexists _; isplitr
    swap; · iexact H29
    ipureintro; rfl
  isplitl [H30]
  · iexists _; iexists _; isplitr
    swap; · iexact H30
    ipureintro; rfl
  isplitl [H31]
  · iexists _; iexists _; isplitr
    swap; · iexact H31
    ipureintro; rfl
  isplitl [H32]
  · iexists _; iexists _; isplitr
    swap; · iexact H32
    ipureintro; rfl
  iexists _; iexists _; isplitr
  swap; · iexact H33
  ipureintro; rfl

end Cert.Proof.MixIdeal

end

end
-- ==== Proof.Mix.RunIdeal.lean ====
/- The mixers' call: its frame. -/
module

public import proofs.«01_k».proof.Proof.Mix.BodyIdeal
public import Idealize.ShloMosaic.Lib.Pipeline.DatRel
public import Idealize.ShloMosaic.Lib.Pipeline.ArrRel

/-! The mixers' run: the retention's state and the pooling's rows are carried from one grid point to the next, and
    the body runs from any contents of them. -/

@[expose] public section

set_option maxRecDepth 16384

noncomputable section

namespace Cert.Proof.MixIdeal

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as launched, each input's window at its block after the body, full shares. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => fun _ => Classical.arbitrary _
    | ⟨24, _⟩ => fun _ => Classical.arbitrary _
    | ⟨25, _⟩ => fun _ => Classical.arbitrary _
    | ⟨26, _⟩ => fun _ => Classical.arbitrary _
    | ⟨27, _⟩ => fun _ => Classical.arbitrary _
    | ⟨28, _⟩ => fun _ => Classical.arbitrary _
    | ⟨29, _⟩ => fun _ => Classical.arbitrary _
    | ⟨30, _⟩ => fun _ => Classical.arbitrary _
    | ⟨31, _⟩ => fun _ => Classical.arbitrary _
    | ⟨n + 32, h⟩ => absurd (show n + 32 < 32 from h) (by omega)
  Φ _ := Pipeline.ΦA spec0 c
  q _ := fullShare
  owed _ := 0

theorem dat_A (c : Dev nD) (w : Fin cfg0.W) : (dat m c).A w = V m c (Pipeline.arrRef spec0 w) := by
  dsimp only [dat]

theorem dat_after0 (c : Dev nD) (t : Fin cfg0.N) : (dat m c).after 0 t = iblk m c 0 t := by dsimp only [dat]
theorem dat_after1 (c : Dev nD) (t : Fin cfg0.N) : (dat m c).after 1 t = iblk m c 1 t := by dsimp only [dat]
theorem dat_after2 (c : Dev nD) (t : Fin cfg0.N) : (dat m c).after 2 t = iblk m c 2 t := by dsimp only [dat]
theorem dat_after3 (c : Dev nD) (t : Fin cfg0.N) : (dat m c).after 3 t = iblk m c 3 t := by dsimp only [dat]
theorem dat_after4 (c : Dev nD) (t : Fin cfg0.N) : (dat m c).after 4 t = iblk m c 4 t := by dsimp only [dat]
theorem dat_after5 (c : Dev nD) (t : Fin cfg0.N) : (dat m c).after 5 t = iblk m c 5 t := by dsimp only [dat]
theorem dat_after6 (c : Dev nD) (t : Fin cfg0.N) : (dat m c).after 6 t = iblk m c 6 t := by dsimp only [dat]
theorem dat_after7 (c : Dev nD) (t : Fin cfg0.N) : (dat m c).after 7 t = iblk m c 7 t := by dsimp only [dat]
theorem dat_after8 (c : Dev nD) (t : Fin cfg0.N) : (dat m c).after 8 t = iblk m c 8 t := by dsimp only [dat]
theorem dat_after9 (c : Dev nD) (t : Fin cfg0.N) : (dat m c).after 9 t = iblk m c 9 t := by dsimp only [dat]
theorem dat_after10 (c : Dev nD) (t : Fin cfg0.N) : (dat m c).after 10 t = iblk m c 10 t := by dsimp only [dat]
theorem dat_after11 (c : Dev nD) (t : Fin cfg0.N) : (dat m c).after 11 t = iblk m c 11 t := by dsimp only [dat]
theorem dat_after12 (c : Dev nD) (t : Fin cfg0.N) : (dat m c).after 12 t = iblk m c 12 t := by dsimp only [dat]
theorem dat_after13 (c : Dev nD) (t : Fin cfg0.N) : (dat m c).after 13 t = iblk m c 13 t := by dsimp only [dat]
theorem dat_after14 (c : Dev nD) (t : Fin cfg0.N) : (dat m c).after 14 t = iblk m c 14 t := by dsimp only [dat]
theorem dat_after15 (c : Dev nD) (t : Fin cfg0.N) : (dat m c).after 15 t = iblk m c 15 t := by dsimp only [dat]
theorem dat_after16 (c : Dev nD) (t : Fin cfg0.N) : (dat m c).after 16 t = iblk m c 16 t := by dsimp only [dat]
theorem dat_after17 (c : Dev nD) (t : Fin cfg0.N) : (dat m c).after 17 t = iblk m c 17 t := by dsimp only [dat]
theorem dat_after18 (c : Dev nD) (t : Fin cfg0.N) : (dat m c).after 18 t = iblk m c 18 t := by dsimp only [dat]
theorem dat_after19 (c : Dev nD) (t : Fin cfg0.N) : (dat m c).after 19 t = iblk m c 19 t := by dsimp only [dat]
theorem dat_after20 (c : Dev nD) (t : Fin cfg0.N) : (dat m c).after 20 t = iblk m c 20 t := by dsimp only [dat]
theorem dat_after21 (c : Dev nD) (t : Fin cfg0.N) : (dat m c).after 21 t = iblk m c 21 t := by dsimp only [dat]
theorem dat_after22 (c : Dev nD) (t : Fin cfg0.N) : (dat m c).after 22 t = iblk m c 22 t := by dsimp only [dat]

theorem dat_before0 (c : Dev nD) (t : Fin cfg0.N) (d) : (dat m c).before 0 t d = iblk m c 0 t :=
  before0_0_of m (dat m c) (dat_A m c 0) (dat_after0 m c) t d
theorem dat_before1 (c : Dev nD) (t : Fin cfg0.N) (d) : (dat m c).before 1 t d = iblk m c 1 t :=
  before0_1_of m (dat m c) (dat_A m c 1) (dat_after1 m c) t d
theorem dat_before2 (c : Dev nD) (t : Fin cfg0.N) (d) : (dat m c).before 2 t d = iblk m c 2 t :=
  before0_2_of m (dat m c) (dat_A m c 2) (dat_after2 m c) t d
theorem dat_before3 (c : Dev nD) (t : Fin cfg0.N) (d) : (dat m c).before 3 t d = iblk m c 3 t :=
  before0_3_of m (dat m c) (dat_A m c 3) (dat_after3 m c) t d
theorem dat_before4 (c : Dev nD) (t : Fin cfg0.N) (d) : (dat m c).before 4 t d = iblk m c 4 t :=
  before0_4_of m (dat m c) (dat_A m c 4) (dat_after4 m c) t d
theorem dat_before5 (c : Dev nD) (t : Fin cfg0.N) (d) : (dat m c).before 5 t d = iblk m c 5 t :=
  before0_5_of m (dat m c) (dat_A m c 5) (dat_after5 m c) t d
theorem dat_before6 (c : Dev nD) (t : Fin cfg0.N) (d) : (dat m c).before 6 t d = iblk m c 6 t :=
  before0_6_of m (dat m c) (dat_A m c 6) (dat_after6 m c) t d
theorem dat_before7 (c : Dev nD) (t : Fin cfg0.N) (d) : (dat m c).before 7 t d = iblk m c 7 t :=
  before0_7_of m (dat m c) (dat_A m c 7) (dat_after7 m c) t d
theorem dat_before8 (c : Dev nD) (t : Fin cfg0.N) (d) : (dat m c).before 8 t d = iblk m c 8 t :=
  before0_8_of m (dat m c) (dat_A m c 8) (dat_after8 m c) t d
theorem dat_before9 (c : Dev nD) (t : Fin cfg0.N) (d) : (dat m c).before 9 t d = iblk m c 9 t :=
  before0_9_of m (dat m c) (dat_A m c 9) (dat_after9 m c) t d
theorem dat_before10 (c : Dev nD) (t : Fin cfg0.N) (d) : (dat m c).before 10 t d = iblk m c 10 t :=
  before0_10_of m (dat m c) (dat_A m c 10) (dat_after10 m c) t d
theorem dat_before11 (c : Dev nD) (t : Fin cfg0.N) (d) : (dat m c).before 11 t d = iblk m c 11 t :=
  before0_11_of m (dat m c) (dat_A m c 11) (dat_after11 m c) t d
theorem dat_before12 (c : Dev nD) (t : Fin cfg0.N) (d) : (dat m c).before 12 t d = iblk m c 12 t :=
  before0_12_of m (dat m c) (dat_A m c 12) (dat_after12 m c) t d
theorem dat_before13 (c : Dev nD) (t : Fin cfg0.N) (d) : (dat m c).before 13 t d = iblk m c 13 t :=
  before0_13_of m (dat m c) (dat_A m c 13) (dat_after13 m c) t d
theorem dat_before14 (c : Dev nD) (t : Fin cfg0.N) (d) : (dat m c).before 14 t d = iblk m c 14 t :=
  before0_14_of m (dat m c) (dat_A m c 14) (dat_after14 m c) t d
theorem dat_before15 (c : Dev nD) (t : Fin cfg0.N) (d) : (dat m c).before 15 t d = iblk m c 15 t :=
  before0_15_of m (dat m c) (dat_A m c 15) (dat_after15 m c) t d
theorem dat_before16 (c : Dev nD) (t : Fin cfg0.N) (d) : (dat m c).before 16 t d = iblk m c 16 t :=
  before0_16_of m (dat m c) (dat_A m c 16) (dat_after16 m c) t d
theorem dat_before17 (c : Dev nD) (t : Fin cfg0.N) (d) : (dat m c).before 17 t d = iblk m c 17 t :=
  before0_17_of m (dat m c) (dat_A m c 17) (dat_after17 m c) t d
theorem dat_before18 (c : Dev nD) (t : Fin cfg0.N) (d) : (dat m c).before 18 t d = iblk m c 18 t :=
  before0_18_of m (dat m c) (dat_A m c 18) (dat_after18 m c) t d
theorem dat_before19 (c : Dev nD) (t : Fin cfg0.N) (d) : (dat m c).before 19 t d = iblk m c 19 t :=
  before0_19_of m (dat m c) (dat_A m c 19) (dat_after19 m c) t d
theorem dat_before20 (c : Dev nD) (t : Fin cfg0.N) (d) : (dat m c).before 20 t d = iblk m c 20 t :=
  before0_20_of m (dat m c) (dat_A m c 20) (dat_after20 m c) t d
theorem dat_before21 (c : Dev nD) (t : Fin cfg0.N) (d) : (dat m c).before 21 t d = iblk m c 21 t :=
  before0_21_of m (dat m c) (dat_A m c 21) (dat_after21 m c) t d
theorem dat_before22 (c : Dev nD) (t : Fin cfg0.N) (d) : (dat m c).before 22 t d = iblk m c 22 t :=
  before0_22_of m (dat m c) (dat_A m c 22) (dat_after22 m c) t d

/-- The outputs' windows are held to no value. -/
abbrev marked (w : Fin cfg0.W) : Bool := Nat.ble 23 w.val

/-- The fact held at each window: none. -/
def held : (w : Fin cfg0.W) → Fin cfg0.N → ((cfg0.win w).block.Idx → Elt F (cfg0.win w).elt) → Prop := fun _ _ _ => True

/-- What the body is called with at point `t`, -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ d, owns (c : Thread nD τ) (st0_7 t) fullShare ((dat m c).before 7 t d))
    ∗ (∃ d, owns (c : Thread nD τ) (st0_8 t) fullShare ((dat m c).before 8 t d))
    ∗ (∃ d, owns (c : Thread nD τ) (st0_9 t) fullShare ((dat m c).before 9 t d))
    ∗ (∃ d, owns (c : Thread nD τ) (st0_10 t) fullShare ((dat m c).before 10 t d))
    ∗ (∃ d, owns (c : Thread nD τ) (st0_11 t) fullShare ((dat m c).before 11 t d))
    ∗ (∃ d, owns (c : Thread nD τ) (st0_12 t) fullShare ((dat m c).before 12 t d))
    ∗ (∃ d, owns (c : Thread nD τ) (st0_13 t) fullShare ((dat m c).before 13 t d))
    ∗ (∃ d, owns (c : Thread nD τ) (st0_14 t) fullShare ((dat m c).before 14 t d))
    ∗ (∃ d, owns (c : Thread nD τ) (st0_15 t) fullShare ((dat m c).before 15 t d))
    ∗ (∃ d, owns (c : Thread nD τ) (st0_16 t) fullShare ((dat m c).before 16 t d))
    ∗ (∃ d, owns (c : Thread nD τ) (st0_17 t) fullShare ((dat m c).before 17 t d))
    ∗ (∃ d, owns (c : Thread nD τ) (st0_18 t) fullShare ((dat m c).before 18 t d))
    ∗ (∃ d, owns (c : Thread nD τ) (st0_19 t) fullShare ((dat m c).before 19 t d))
    ∗ (∃ d, owns (c : Thread nD τ) (st0_20 t) fullShare ((dat m c).before 20 t d))
    ∗ (∃ d, owns (c : Thread nD τ) (st0_21 t) fullShare ((dat m c).before 21 t d))
    ∗ (∃ d, owns (c : Thread nD τ) (st0_22 t) fullShare ((dat m c).before 22 t d))
    ∗ (∃ Y, owns (c : Thread nD τ) (st0_23 t) fullShare Y)
    ∗ (∃ Y, owns (c : Thread nD τ) (st0_24 t) fullShare Y)
    ∗ (∃ Y, owns (c : Thread nD τ) (st0_25 t) fullShare Y)
    ∗ (∃ Y, owns (c : Thread nD τ) (st0_26 t) fullShare Y)
    ∗ (∃ Y, owns (c : Thread nD τ) (st0_27 t) fullShare Y)
    ∗ (∃ Y, owns (c : Thread nD τ) (st0_28 t) fullShare Y)
    ∗ (∃ Y, owns (c : Thread nD τ) (st0_29 t) fullShare Y)
    ∗ (∃ Y, owns (c : Thread nD τ) (st0_30 t) fullShare Y)
    ∗ (∃ Y, owns (c : Thread nD τ) (st0_31 t) fullShare Y))

/-- and what it returns. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t)
    ∗ owns (c : Thread nD τ) (st0_7 t) fullShare ((dat m c).after 7 t)
    ∗ owns (c : Thread nD τ) (st0_8 t) fullShare ((dat m c).after 8 t)
    ∗ owns (c : Thread nD τ) (st0_9 t) fullShare ((dat m c).after 9 t)
    ∗ owns (c : Thread nD τ) (st0_10 t) fullShare ((dat m c).after 10 t)
    ∗ owns (c : Thread nD τ) (st0_11 t) fullShare ((dat m c).after 11 t)
    ∗ owns (c : Thread nD τ) (st0_12 t) fullShare ((dat m c).after 12 t)
    ∗ owns (c : Thread nD τ) (st0_13 t) fullShare ((dat m c).after 13 t)
    ∗ owns (c : Thread nD τ) (st0_14 t) fullShare ((dat m c).after 14 t)
    ∗ owns (c : Thread nD τ) (st0_15 t) fullShare ((dat m c).after 15 t)
    ∗ owns (c : Thread nD τ) (st0_16 t) fullShare ((dat m c).after 16 t)
    ∗ owns (c : Thread nD τ) (st0_17 t) fullShare ((dat m c).after 17 t)
    ∗ owns (c : Thread nD τ) (st0_18 t) fullShare ((dat m c).after 18 t)
    ∗ owns (c : Thread nD τ) (st0_19 t) fullShare ((dat m c).after 19 t)
    ∗ owns (c : Thread nD τ) (st0_20 t) fullShare ((dat m c).after 20 t)
    ∗ owns (c : Thread nD τ) (st0_21 t) fullShare ((dat m c).after 21 t)
    ∗ owns (c : Thread nD τ) (st0_22 t) fullShare ((dat m c).after 22 t)
    ∗ (∃ X, ⌜True⌝ ∗ owns (c : Thread nD τ) (st0_23 t) fullShare X)
    ∗ (∃ X, ⌜True⌝ ∗ owns (c : Thread nD τ) (st0_24 t) fullShare X)
    ∗ (∃ X, ⌜True⌝ ∗ owns (c : Thread nD τ) (st0_25 t) fullShare X)
    ∗ (∃ X, ⌜True⌝ ∗ owns (c : Thread nD τ) (st0_26 t) fullShare X)
    ∗ (∃ X, ⌜True⌝ ∗ owns (c : Thread nD τ) (st0_27 t) fullShare X)
    ∗ (∃ X, ⌜True⌝ ∗ owns (c : Thread nD τ) (st0_28 t) fullShare X)
    ∗ (∃ X, ⌜True⌝ ∗ owns (c : Thread nD τ) (st0_29 t) fullShare X)
    ∗ (∃ X, ⌜True⌝ ∗ owns (c : Thread nD τ) (st0_30 t) fullShare X)
    ∗ (∃ X, ⌜True⌝ ∗ owns (c : Thread nD τ) (st0_31 t) fullShare X))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [dat_before0, dat_before1, dat_before2, dat_before3, dat_before4, dat_before5, dat_before6, dat_before7, dat_before8, dat_before9, dat_before10, dat_before11, dat_before12, dat_before13, dat_before14, dat_before15, dat_before16, dat_before17, dat_before18, dat_before19, dat_before20, dat_before21, dat_before22]
  rw [show (dat m c).Φ t.castSucc = Pipeline.ΦA spec0 c from rfl, show (dat m c).Φ t.succ = Pipeline.ΦA spec0 c from rfl,
    show (dat m c).owesAt () t.succ = (dat m c).owesAt () t.castSucc from rfl, dat_after0, dat_after1, dat_after2, dat_after3, dat_after4, dat_after5, dat_after6, dat_after7, dat_after8, dat_after9, dat_after10, dat_after11, dat_after12, dat_after13, dat_after14, dat_after15, dat_after16, dat_after17, dat_after18, dat_after19, dat_after20, dat_after21, dat_after22]
  unfold Pipeline.ΦA
  rw [scopedRest0_eq]
  simp only [← owns_whole]
  iintro ⟨⟨⟨⟨%e0, S0⟩, ⟨%e1, S1⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply (wp_wand_r Idealize.ShloMosaic.frame (wpE (defs₀ (F := F)) Variants.none (c : Thread nD τ) none) Set.univ)
  isplitl [H0 H1 H2 H3 H4 H5 H6 H7 H8 H9 H10 H11 H12 H13 H14 H15 H16 H17 H18 H19 H20 H21 H22 H23 H24 H25 H26 H27 H28 H29 H30 H31 S0 S1]
  · iapply (body_triple (F := F) c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t))
    unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [S0]; · iexists _; iexact S0
    iexists _; iexact S1
  · iintro %_
    unfold Held
    iintro ⟨H0, H1, H2, H3, H4, H5, H6, H7, H8, H9, H10, H11, H12, H13, H14, H15, H16, H17, H18, H19, H20, H21, H22, ⟨%g23, H23⟩, ⟨%g24, H24⟩, ⟨%g25, H25⟩, ⟨%g26, H26⟩, ⟨%g27, H27⟩, ⟨%g28, H28⟩, ⟨%g29, H29⟩, ⟨%g30, H30⟩, ⟨%g31, H31⟩, ⟨%g32, S0⟩, ⟨%g33, S1⟩⟩
    isplitl [S0 S1 Hr]
    · isplitl [S0 S1]
      · isplitl [S0]
        · iexists _; iexact S0
        iexists _; iexact S1
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]
    · iexists _; isplitr; · ipureintro; trivial
      iexact H23
    isplitl [H24]
    · iexists _; isplitr; · ipureintro; trivial
      iexact H24
    isplitl [H25]
    · iexists _; isplitr; · ipureintro; trivial
      iexact H25
    isplitl [H26]
    · iexists _; isplitr; · ipureintro; trivial
      iexact H26
    isplitl [H27]
    · iexists _; isplitr; · ipureintro; trivial
      iexact H27
    isplitl [H28]
    · iexists _; isplitr; · ipureintro; trivial
      iexact H28
    isplitl [H29]
    · iexists _; isplitr; · ipureintro; trivial
      iexact H29
    isplitl [H30]
    · iexists _; isplitr; · ipureintro; trivial
      iexact H30
    iexists _; isplitr; · ipureintro; trivial
    iexact H31

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What an output's window is known to hold before a point may be forgotten. -/
theorem forget (c : Dev nD) (w : Fin cfg0.W) (t : Fin cfg0.N) :
    iprop(∃ Y, ⌜((dat m c).toRRel marked held).Finds w t Y⌝ ∗ owns (c : Thread nD τ) ((cfg0.win w).stage (cfg0.slots t w)) fullShare Y)
      ⊢ (iprop(∃ Y, owns (c : Thread nD τ) ((cfg0.win w).stage (cfg0.slots t w)) fullShare Y) : sProp 𝕄) := by
  iintro ⟨%Y, -, H⟩; iexists Y; iexact H

theorem notLoose : ∀ w : Fin cfg0.W, cfg0.loose w = false := by decide
theorem notIdle (i) : ∀ w : Fin cfg0.W, cfg0.idle w i = false := fun _ => rfl
theorem marked0 : marked 0 = false := rfl
theorem marked1 : marked 1 = false := rfl
theorem marked2 : marked 2 = false := rfl
theorem marked3 : marked 3 = false := rfl
theorem marked4 : marked 4 = false := rfl
theorem marked5 : marked 5 = false := rfl
theorem marked6 : marked 6 = false := rfl
theorem marked7 : marked 7 = false := rfl
theorem marked8 : marked 8 = false := rfl
theorem marked9 : marked 9 = false := rfl
theorem marked10 : marked 10 = false := rfl
theorem marked11 : marked 11 = false := rfl
theorem marked12 : marked 12 = false := rfl
theorem marked13 : marked 13 = false := rfl
theorem marked14 : marked 14 = false := rfl
theorem marked15 : marked 15 = false := rfl
theorem marked16 : marked 16 = false := rfl
theorem marked17 : marked 17 = false := rfl
theorem marked18 : marked 18 = false := rfl
theorem marked19 : marked 19 = false := rfl
theorem marked20 : marked 20 = false := rfl
theorem marked21 : marked 21 = false := rfl
theorem marked22 : marked 22 = false := rfl
theorem marked23 : marked 23 = true := rfl
theorem marked24 : marked 24 = true := rfl
theorem marked25 : marked 25 = true := rfl
theorem marked26 : marked 26 = true := rfl
theorem marked27 : marked 27 = true := rfl
theorem marked28 : marked 28 = true := rfl
theorem marked29 : marked 29 = true := rfl
theorem marked30 : marked 30 = true := rfl
theorem marked31 : marked 31 = true := rfl

set_option maxHeartbeats 2000000 in
/-- The body's obligation at every point. -/
theorem body_obligation (c : Dev nD) :
    BodyObligationRel (dat (F := F) m c) (defs₀ (F := F)) Variants.none () Set.univ marked held := fun t => by
  rw [bigSep_W0, bigSep_W0, defs₀_row]
  refine triple_restated (sound_body m c t) rfl ?_ fun _ => ?_
  · unfold bodyPre
    simp only [marked0, marked1, marked2, marked3, marked4, marked5, marked6, marked7, marked8, marked9, marked10, marked11, marked12, marked13, marked14, marked15, marked16, marked17, marked18, marked19, marked20, marked21, marked22, marked23, marked24, marked25, marked26, marked27, marked28, marked29, marked30, marked31]
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono .rfl ?_
    refine BIClass.sep_mono (forget m c 23 t) ?_
    refine BIClass.sep_mono (forget m c 24 t) ?_
    refine BIClass.sep_mono (forget m c 25 t) ?_
    refine BIClass.sep_mono (forget m c 26 t) ?_
    refine BIClass.sep_mono (forget m c 27 t) ?_
    refine BIClass.sep_mono (forget m c 28 t) ?_
    refine BIClass.sep_mono (forget m c 29 t) ?_
    refine BIClass.sep_mono (forget m c 30 t) ?_
    exact forget m c 31 t
  · unfold bodyPost
    simp only [marked0, marked1, marked2, marked3, marked4, marked5, marked6, marked7, marked8, marked9, marked10, marked11, marked12, marked13, marked14, marked15, marked16, marked17, marked18, marked19, marked20, marked21, marked22, marked23, marked24, marked25, marked26, marked27, marked28, marked29, marked30, marked31, notLoose, notIdle]
    exact .rfl

/-- The proof data of every core. -/
abbrev rdat (c : Dev nD) : RDat τ (Elt F) Unit ℕ (UR sig nD τ) ℕ cfg0 c := (dat m c).toRRel marked held

set_option backward.isDefEq.respectTransparency.types false in
set_option maxHeartbeats 2000000 in
/-- The run: the arrays end as the proof data has them, the counters at zero. -/
theorem run_main :
    θ_run defs (onTc (τ := τ) (main (F := F))) (s₀ m ρ) (fun r => RDat.FramePost cfg0 (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun c w => (dat m c).share_full (fun _ => rfl) w)
    (howed := fun _ _ => rfl) (V := V m) (hmain := hmain m Variants.none) (hA := dat_A m) (hΦ := fun _ _ => rfl)

set_option maxHeartbeats 4000000 in
/-- The frame: the call terminates with its arguments unchanged and every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  (θ_run defs _ _).mono (fun r h => ⟨fun c => by
    obtain ⟨after, hL, hA⟩ := RDat.FramePost.exists_exact h.1 c
    exact ⟨(hA 0).trans ((((rdat m c).withAfter after).arrAt_in 0 rfl _).trans ((dat_A m c 0).trans (V_main_arg0 m c))),
      (hA 1).trans ((((rdat m c).withAfter after).arrAt_in 1 rfl _).trans ((dat_A m c 1).trans (V_main_arg1 m c))),
      (hA 2).trans ((((rdat m c).withAfter after).arrAt_in 2 rfl _).trans ((dat_A m c 2).trans (V_main_arg2 m c))),
      (hA 3).trans ((((rdat m c).withAfter after).arrAt_in 3 rfl _).trans ((dat_A m c 3).trans (V_main_arg3 m c))),
      (hA 4).trans ((((rdat m c).withAfter after).arrAt_in 4 rfl _).trans ((dat_A m c 4).trans (V_main_arg4 m c))),
      (hA 5).trans ((((rdat m c).withAfter after).arrAt_in 5 rfl _).trans ((dat_A m c 5).trans (V_main_arg5 m c))),
      (hA 6).trans ((((rdat m c).withAfter after).arrAt_in 6 rfl _).trans ((dat_A m c 6).trans (V_main_arg6 m c))),
      (hA 7).trans ((((rdat m c).withAfter after).arrAt_in 7 rfl _).trans ((dat_A m c 7).trans (V_main_arg7 m c))),
      (hA 8).trans ((((rdat m c).withAfter after).arrAt_in 8 rfl _).trans ((dat_A m c 8).trans (V_main_arg8 m c))),
      (hA 9).trans ((((rdat m c).withAfter after).arrAt_in 9 rfl _).trans ((dat_A m c 9).trans (V_main_arg9 m c))),
      (hA 10).trans ((((rdat m c).withAfter after).arrAt_in 10 rfl _).trans ((dat_A m c 10).trans (V_main_arg10 m c))),
      (hA 11).trans ((((rdat m c).withAfter after).arrAt_in 11 rfl _).trans ((dat_A m c 11).trans (V_main_arg11 m c))),
      (hA 12).trans ((((rdat m c).withAfter after).arrAt_in 12 rfl _).trans ((dat_A m c 12).trans (V_main_arg12 m c))),
      (hA 13).trans ((((rdat m c).withAfter after).arrAt_in 13 rfl _).trans ((dat_A m c 13).trans (V_main_arg13 m c))),
      (hA 14).trans ((((rdat m c).withAfter after).arrAt_in 14 rfl _).trans ((dat_A m c 14).trans (V_main_arg14 m c))),
      (hA 15).trans ((((rdat m c).withAfter after).arrAt_in 15 rfl _).trans ((dat_A m c 15).trans (V_main_arg15 m c))),
      (hA 16).trans ((((rdat m c).withAfter after).arrAt_in 16 rfl _).trans ((dat_A m c 16).trans (V_main_arg16 m c))),
      (hA 17).trans ((((rdat m c).withAfter after).arrAt_in 17 rfl _).trans ((dat_A m c 17).trans (V_main_arg17 m c))),
      (hA 18).trans ((((rdat m c).withAfter after).arrAt_in 18 rfl _).trans ((dat_A m c 18).trans (V_main_arg18 m c))),
      (hA 19).trans ((((rdat m c).withAfter after).arrAt_in 19 rfl _).trans ((dat_A m c 19).trans (V_main_arg19 m c))),
      (hA 20).trans ((((rdat m c).withAfter after).arrAt_in 20 rfl _).trans ((dat_A m c 20).trans (V_main_arg20 m c))),
      (hA 21).trans ((((rdat m c).withAfter after).arrAt_in 21 rfl _).trans ((dat_A m c 21).trans (V_main_arg21 m c))),
      (hA 22).trans ((((rdat m c).withAfter after).arrAt_in 22 rfl _).trans ((dat_A m c 22).trans (V_main_arg22 m c)))⟩, h.2⟩) (run_main m ρ)

end Cert.Proof.MixIdeal

end

end
-- ==== Proof.lean ====
/- The proof of the certificate: the frames of the kernels and of their references, and the value claims. -/
module

public import proofs.«01_k».proof.Defs
public import proofs.«01_k».proof.Proof.Attn.Run
public import proofs.«01_k».proof.Proof.Attn.RunIdeal
public import proofs.«01_k».proof.Proof.Attn.Value
public import proofs.«01_k».proof.Proof.Gen.ReferenceIdeal.Run
public import proofs.«01_k».proof.Proof.Gen.FfnPleRefIdeal.Run
public import proofs.«01_k».proof.Proof.Gen.FfnPle.Frame
public import proofs.«01_k».proof.Proof.Gen.FfnPleIdeal.Frame
public import proofs.«01_k».proof.Proof.Gen.FfnPleIdeal.Value
public import proofs.«01_k».proof.Proof.FfnPle.Value
public import proofs.«01_k».proof.Proof.Gen.FfnRefIdeal.Run
public import proofs.«01_k».proof.Proof.Ffn.Run
public import proofs.«01_k».proof.Proof.Ffn.RunIdeal
public import proofs.«01_k».proof.Proof.Ffn.Value
public import proofs.«01_k».proof.Proof.Gen.MergeRefIdeal.Run
public import proofs.«01_k».proof.Proof.Gen.Merge.Frame
public import proofs.«01_k».proof.Proof.Gen.MergeIdeal.Frame
public import proofs.«01_k».proof.Proof.Gen.MergeIdeal.Value
public import proofs.«01_k».proof.Proof.Merge.Value
public import proofs.«01_k».proof.Proof.Mix.Run
public import proofs.«01_k».proof.Proof.Mix.RunIdeal
public import Idealize.ShloMosaic.Adequacy
public import Idealize.ShloMosaic.Init

@[expose] public section

noncomputable section

namespace Cert.Proof

open Idealize.ShloMosaic Idealize.ShloMosaic.TcCoe Idealize.ShloMosaic.Tactic

/-- `ReferenceIdeal` runs from any memory and leaves its arguments as they were. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `FfnPleRefIdeal` runs from any memory and leaves its arguments as they were. -/
theorem frame_FfnPleRefIdeal : Cert.quiescent_FfnPleRefIdeal := fun m ρ _ =>
  (θ_run Cert.FfnPleRefIdeal.defs _ _).mono (fun r h => ⟨fun c => (h c).2, sem_eq_zero_of_no_sems (by decide) r.2⟩)
    (Cert.FfnPleRefIdeal.Value.run (F := Ideal) m ρ)

/-- `FfnRefIdeal` runs from any memory and leaves its arguments as they were. -/
theorem frame_FfnRefIdeal : Cert.quiescent_FfnRefIdeal := fun m ρ _ =>
  (θ_run Cert.FfnRefIdeal.defs _ _).mono (fun r h => ⟨fun c => (h c).2.2.2.2.2, sem_eq_zero_of_no_sems (by decide) r.2⟩)
    (Cert.FfnRefIdeal.Value.run (F := Ideal) m ρ)

/-- `MergeRefIdeal` runs from any memory and leaves its arguments as they were. -/
theorem frame_MergeRefIdeal : Cert.quiescent_MergeRefIdeal := fun m ρ _ =>
  (θ_run Cert.MergeRefIdeal.defs _ _).mono (fun r h => ⟨fun c => (h c).2.2.2, sem_eq_zero_of_no_sems (by decide) r.2⟩)
    (Cert.MergeRefIdeal.Value.run (F := Ideal) m ρ)

/-- Every claim of the certificate. -/
theorem claim : Cert.Claim :=
  ⟨Cert.Kernel.Gen.facts, Cert.KernelIdeal.Gen.facts, Cert.ReferenceIdeal.Gen.facts, Cert.FfnPle.Gen.facts, Cert.FfnPleIdeal.Gen.facts, Cert.FfnPleRefIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.Mix.Gen.facts, Cert.MixIdeal.Gen.facts, Cert.Pre_finite_scores.Gen.facts,
   fun m ρ _ => Cert.Proof.Kernel.frame m ρ,
   fun m ρ _ => Cert.Proof.KernelIdeal.frame m ρ,
   fun m ρ _ => Cert.Proof.KernelIdeal.frame m ρ,
   frame_ReferenceIdeal,
   fun m ρ _ => frame_ReferenceIdeal m ρ trivial,
   fun m ρ _ => Cert.FfnPle.Gen.frame m ρ,
   fun m ρ _ => Cert.FfnPleIdeal.Gen.frame m ρ,
   frame_FfnPleRefIdeal,
   fun m ρ _ => Cert.Proof.Ffn.frame m ρ,
   fun m ρ _ => Cert.Proof.FfnIdeal.frame m ρ,
   frame_FfnRefIdeal,
   fun m ρ _ => Cert.Merge.Gen.frame m ρ,
   fun m ρ _ => Cert.MergeIdeal.Gen.frame m ρ,
   frame_MergeRefIdeal,
   fun m ρ _ => Cert.Proof.Mix.frame m ρ,
   fun m ρ _ => Cert.Proof.MixIdeal.frame m ρ,
   trivial,
   Cert.Proof.Attn.algebraic,
   trivial,
   Cert.Proof.FfnPle.algebraic,
   trivial,
   Cert.Proof.Ffn.algebraic,
   trivial,
   Cert.Proof.Merge.algebraic,
   trivial⟩

end Cert.Proof

end

end
